-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_tail [hPre_finite_tail : Cert.Pre_finite_tail.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_tail.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).1 = (fun _ => 1#1)
    ∧ (Cert.Pre_finite_tail.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.1 = (fun _ => 1#1)
    ∧ (Cert.Pre_finite_tail.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_tail [hPre_finite_tail : Cert.Pre_finite_tail.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_tail.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).1 = (fun _ => 1#1)
    ∧ (Cert.Pre_finite_tail.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.1 = (fun _ => 1#1)
    ∧ (Cert.Pre_finite_tail.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_tail [hPre_finite_tail : Cert.Pre_finite_tail.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_tail.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).1 = (fun _ => 1#1)
    ∧ (Cert.Pre_finite_tail.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.1 = (fun _ => 1#1)
    ∧ (Cert.Pre_finite_tail.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_tail [hPre_finite_tail : Cert.Pre_finite_tail.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_tail.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).1 = (fun _ => 1#1)
    ∧ (Cert.Pre_finite_tail.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.1 = (fun _ => 1#1)
    ∧ (Cert.Pre_finite_tail.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_sgu [hPre_finite_sgu : Cert.Pre_finite_sgu.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_sgu.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).1 = (fun _ => 1#1)
    ∧ (Cert.Pre_finite_sgu.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_sgu [hPre_finite_sgu : Cert.Pre_finite_sgu.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_sgu.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).1 = (fun _ => 1#1)
    ∧ (Cert.Pre_finite_sgu.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Kernel3Ideal_pre_finite_tail [hKernel3Ideal : Cert.Kernel3Ideal.Facts] [hPre_finite_tail : Cert.Pre_finite_tail.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_tail m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Reference3Ideal_pre_finite_tail [hReference3Ideal : Cert.Reference3Ideal.Facts] [hPre_finite_tail : Cert.Pre_finite_tail.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_tail m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Kernel4Ideal_pre_finite_tail [hKernel4Ideal : Cert.Kernel4Ideal.Facts] [hPre_finite_tail : Cert.Pre_finite_tail.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_tail m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Reference4Ideal_pre_finite_tail [hReference4Ideal : Cert.Reference4Ideal.Facts] [hPre_finite_tail : Cert.Pre_finite_tail.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_tail m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Kernel5Ideal_pre_finite_sgu [hKernel5Ideal : Cert.Kernel5Ideal.Facts] [hPre_finite_sgu : Cert.Pre_finite_sgu.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_sgu m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Reference5Ideal_pre_finite_sgu [hReference5Ideal : Cert.Reference5Ideal.Facts] [hPre_finite_sgu : Cert.Pre_finite_sgu.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_sgu m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  IdealRules.named_const.Statement Cert.Kernel2Ideal.κ "scale2" .f32 0x3E0293EE#32 ((((Real.sqrt 128) * (Real.log 2))⁻¹ : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)) (v2 : (c : Dev Cert.Kernel2Ideal.nD) → Buf (Elt Ideal) ((c.tc : Thread Cert.Kernel2Ideal.nD Cert.Kernel2Ideal.τ).loc Cert.Kernel2Ideal.main_v3_2)) (v3 : (c : Dev Cert.Kernel2Ideal.nD) → Buf (Elt Ideal) ((c.tc : Thread Cert.Kernel2Ideal.nD Cert.Kernel2Ideal.τ).loc Cert.Kernel2Ideal.main_v3_3)) (v4 : (c : Dev Cert.Kernel2Ideal.nD) → Buf (Elt Ideal) ((c.tc : Thread Cert.Kernel2Ideal.nD Cert.Kernel2Ideal.τ).loc Cert.Kernel2Ideal.main_v3_4)) (v5 : (c : Dev Cert.Kernel2Ideal.nD) → Buf (Elt Ideal) ((c.tc : Thread Cert.Kernel2Ideal.nD Cert.Kernel2Ideal.τ).loc Cert.Kernel2Ideal.main_v3_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_v3_2) = v2 c
          ∧ r.2.mem ((c.tc : Thread Cert.Kernel2Ideal.nD Cert.Kernel2Ideal.τ).loc Cert.Kernel2Ideal.main_v3_3) = v3 c
          ∧ r.2.mem ((c.tc : Thread Cert.Kernel2Ideal.nD Cert.Kernel2Ideal.τ).loc Cert.Kernel2Ideal.main_v3_4) = v4 c
          ∧ r.2.mem ((c.tc : Thread Cert.Kernel2Ideal.nD Cert.Kernel2Ideal.τ).loc Cert.Kernel2Ideal.main_v3_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v12) = v0 c
          ∧ r.2.mem ((c.tc : Thread Cert.Reference2Ideal.nD Cert.Reference2Ideal.τ).loc Cert.Reference2Ideal.main_v14) = v1 c
          ∧ r.2.mem ((c.tc : Thread Cert.Reference2Ideal.nD Cert.Reference2Ideal.τ).loc Cert.Reference2Ideal.main_v16) = v2 c
          ∧ r.2.mem ((c.tc : Thread Cert.Reference2Ideal.nD Cert.Reference2Ideal.τ).loc Cert.Reference2Ideal.main_v19) = v3 c
          ∧ r.2.mem ((c.tc : Thread Cert.Reference2Ideal.nD Cert.Reference2Ideal.τ).loc Cert.Reference2Ideal.main_v22) = v4 c
          ∧ r.2.mem ((c.tc : Thread Cert.Reference2Ideal.nD Cert.Reference2Ideal.τ).loc Cert.Reference2Ideal.main_v25) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal_pre_finite_tail [hKernel3Ideal : Cert.Kernel3Ideal.Facts] [hReference3Ideal : Cert.Reference3Ideal.Facts] [hPre_finite_tail : Cert.Pre_finite_tail.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_tail m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v50) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal_pre_finite_tail [hKernel4Ideal : Cert.Kernel4Ideal.Facts] [hReference4Ideal : Cert.Reference4Ideal.Facts] [hPre_finite_tail : Cert.Pre_finite_tail.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_tail m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v11_0)) (v1 : (c : Dev Cert.Kernel4Ideal.nD) → Buf (Elt Ideal) ((c.tc : Thread Cert.Kernel4Ideal.nD Cert.Kernel4Ideal.τ).loc Cert.Kernel4Ideal.main_v11_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v11_0) = v0 c
          ∧ r.2.mem ((c.tc : Thread Cert.Kernel4Ideal.nD Cert.Kernel4Ideal.τ).loc Cert.Kernel4Ideal.main_v11_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v50) = v0 c
          ∧ r.2.mem ((c.tc : Thread Cert.Reference4Ideal.nD Cert.Reference4Ideal.τ).loc Cert.Reference4Ideal.main_v51) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal_pre_finite_sgu [hKernel5Ideal : Cert.Kernel5Ideal.Facts] [hReference5Ideal : Cert.Reference5Ideal.Facts] [hPre_finite_sgu : Cert.Pre_finite_sgu.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_sgu m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)) (v2 : (c : Dev Cert.Kernel5Ideal.nD) → Buf (Elt Ideal) ((c.tc : Thread Cert.Kernel5Ideal.nD Cert.Kernel5Ideal.τ).loc Cert.Kernel5Ideal.main_v2_2)) (v3 : (c : Dev Cert.Kernel5Ideal.nD) → Buf (Elt Ideal) ((c.tc : Thread Cert.Kernel5Ideal.nD Cert.Kernel5Ideal.τ).loc Cert.Kernel5Ideal.main_v2_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_v2_2) = v2 c
          ∧ r.2.mem ((c.tc : Thread Cert.Kernel5Ideal.nD Cert.Kernel5Ideal.τ).loc Cert.Kernel5Ideal.main_v2_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v65) = v0 c
          ∧ r.2.mem ((c.tc : Thread Cert.Reference5Ideal.nD Cert.Reference5Ideal.τ).loc Cert.Reference5Ideal.main_v68) = v1 c
          ∧ r.2.mem ((c.tc : Thread Cert.Reference5Ideal.nD Cert.Reference5Ideal.τ).loc Cert.Reference5Ideal.main_v71) = v2 c
          ∧ r.2.mem ((c.tc : Thread Cert.Reference5Ideal.nD Cert.Reference5Ideal.τ).loc Cert.Reference5Ideal.main_v73) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite_tail : Cert.Pre_finite_tail.Facts) (hPre_finite_sgu : Cert.Pre_finite_sgu.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_tail (hKernel3Ideal := hKernel3Ideal) (hPre_finite_tail := hPre_finite_tail)
    ∧ quiescent_Reference3Ideal (hReference3Ideal := hReference3Ideal)
    ∧ quiescent_Reference3Ideal_pre_finite_tail (hReference3Ideal := hReference3Ideal) (hPre_finite_tail := hPre_finite_tail)
    ∧ quiescent_Kernel4 (hKernel4 := hKernel4)
    ∧ quiescent_Kernel4Ideal (hKernel4Ideal := hKernel4Ideal)
    ∧ quiescent_Kernel4Ideal_pre_finite_tail (hKernel4Ideal := hKernel4Ideal) (hPre_finite_tail := hPre_finite_tail)
    ∧ quiescent_Reference4Ideal (hReference4Ideal := hReference4Ideal)
    ∧ quiescent_Reference4Ideal_pre_finite_tail (hReference4Ideal := hReference4Ideal) (hPre_finite_tail := hPre_finite_tail)
    ∧ quiescent_Kernel5 (hKernel5 := hKernel5)
    ∧ quiescent_Kernel5Ideal (hKernel5Ideal := hKernel5Ideal)
    ∧ quiescent_Kernel5Ideal_pre_finite_sgu (hKernel5Ideal := hKernel5Ideal) (hPre_finite_sgu := hPre_finite_sgu)
    ∧ quiescent_Reference5Ideal (hReference5Ideal := hReference5Ideal)
    ∧ quiescent_Reference5Ideal_pre_finite_sgu (hReference5Ideal := hReference5Ideal) (hPre_finite_sgu := hPre_finite_sgu)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_tail (hKernel3Ideal := hKernel3Ideal) (hReference3Ideal := hReference3Ideal) (hPre_finite_tail := hPre_finite_tail)
    ∧ preserves_Kernel4_Kernel4Ideal
    ∧ algebraic_Kernel4Ideal_Reference4Ideal_pre_finite_tail (hKernel4Ideal := hKernel4Ideal) (hReference4Ideal := hReference4Ideal) (hPre_finite_tail := hPre_finite_tail)
    ∧ preserves_Kernel5_Kernel5Ideal
    ∧ algebraic_Kernel5Ideal_Reference5Ideal_pre_finite_sgu (hKernel5Ideal := hKernel5Ideal) (hReference5Ideal := hReference5Ideal) (hPre_finite_sgu := hPre_finite_sgu)
-- ==== Pre_finite.lean ====
abbrev S8192x2048 : Shape := ⟨2, ![8192, 2048]⟩
abbrev S_ : Shape := ⟨0, ![]⟩

class Facts : Prop where
  bcast_S_S8192x2048 : S_.BroadcastsInDim S8192x2048 (![] : Fin 0 → Fin S8192x2048.rank)

variable [Facts]

def fn {F : FTy → Type} [FloatOps F] (main_arg0 : FVec F S8192x2048 .f32) (main_arg1 : FVec F S8192x2048 .f32) (main_arg2 : FVec F S8192x2048 .f32) (main_arg3 : FVec F S8192x2048 .f32) : IVec S8192x2048 1 × IVec S8192x2048 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S8192x2048 .f32 := Host.absf main_arg1
  let main_cst_0 : FVec F S_ .f32 := constant S_ .f32 0x7F800000#32
  let main_v4 : FVec F S8192x2048 .f32 := broadcastInDim S8192x2048 ![] bcast_S_S8192x2048 main_cst_0
  let main_v5 : IVec S8192x2048 1 := cmpf .olt main_v3 main_v4
  (main_v2, main_v5)
-- ==== Pre_finite_sgu.lean ====
abbrev S4x2048x2048 : Shape := ⟨3, ![4, 2048, 2048]⟩
abbrev S1x2048x6144 : Shape := ⟨3, ![1, 2048, 6144]⟩
abbrev S1x2048 : Shape := ⟨2, ![1, 2048]⟩
abbrev S1x16x128x128 : Shape := ⟨4, ![1, 16, 128, 128]⟩
abbrev S1x16x128 : Shape := ⟨3, ![1, 16, 128]⟩
abbrev S2x2048x2048 : Shape := ⟨3, ![2, 2048, 2048]⟩
abbrev S2x256x2048 : Shape := ⟨3, ![2, 256, 2048]⟩
abbrev S_ : Shape := ⟨0, ![]⟩

class Facts : Prop where
  bcast_S_S4x2048x2048 : S_.BroadcastsInDim S4x2048x2048 (![] : Fin 0 → Fin S4x2048x2048.rank)
  bcast_S_S1x2048x6144 : S_.BroadcastsInDim S1x2048x6144 (![] : Fin 0 → Fin S1x2048x6144.rank)

variable [Facts]

def fn {F : FTy → Type} [FloatOps F] (main_arg0 : FVec F S4x2048x2048 .f32) (main_arg1 : FVec F S1x2048x6144 .f32) (main_arg2 : FVec F S1x2048 .f32) (main_arg3 : FVec F S1x2048 .f32) (main_arg4 : FVec F S1x16x128x128 .f32) (main_arg5 : FVec F S1x16x128 .f32) (main_arg6 : FVec F S2x2048x2048 .f32) (main_arg7 : FVec F S2x2048x2048 .f32) (main_arg8 : FVec F S2x256x2048 .f32) : IVec S4x2048x2048 1 × IVec S1x2048x6144 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_v3 : FVec F S1x2048x6144 .f32 := Host.absf main_arg1
  let main_cst_0 : FVec F S_ .f32 := constant S_ .f32 0x7F800000#32
  let main_v4 : FVec F S1x2048x6144 .f32 := broadcastInDim S1x2048x6144 ![] bcast_S_S1x2048x6144 main_cst_0
  let main_v5 : IVec S1x2048x6144 1 := cmpf .olt main_v3 main_v4
  (main_v2, main_v5)
-- ==== Pre_finite_tail.lean ====
abbrev S4x2048x2048 : Shape := ⟨3, ![4, 2048, 2048]⟩
abbrev S2x4x2048x256 : Shape := ⟨4, ![2, 4, 2048, 256]⟩
abbrev S2x2048x2048 : Shape := ⟨3, ![2, 2048, 2048]⟩
abbrev S2x2048 : Shape := ⟨2, ![2, 2048]⟩
abbrev S2x256x2048 : Shape := ⟨3, ![2, 256, 2048]⟩
abbrev S_ : Shape := ⟨0, ![]⟩

class Facts : Prop where
  bcast_S_S4x2048x2048 : S_.BroadcastsInDim S4x2048x2048 (![] : Fin 0 → Fin S4x2048x2048.rank)
  bcast_S_S2x2048x2048 : S_.BroadcastsInDim S2x2048x2048 (![] : Fin 0 → Fin S2x2048x2048.rank)

variable [Facts]

def fn {F : FTy → Type} [FloatOps F] (main_arg0 : FVec F S4x2048x2048 .f32) (main_arg1 : FVec F S4x2048x2048 .f32) (main_arg2 : FVec F S2x4x2048x256 .f32) (main_arg3 : FVec F S2x2048x2048 .f32) (main_arg4 : FVec F S2x2048 .f32) (main_arg5 : FVec F S2x2048 .f32) (main_arg6 : FVec F S2x2048x2048 .f32) (main_arg7 : FVec F S2x256x2048 .f32) : IVec S4x2048x2048 1 × IVec S4x2048x2048 1 × IVec S2x2048x2048 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_v3 : FVec F S4x2048x2048 .f32 := Host.absf main_arg1
  let main_cst_0 : FVec F S_ .f32 := constant S_ .f32 0x7F800000#32
  let main_v4 : FVec F S4x2048x2048 .f32 := broadcastInDim S4x2048x2048 ![] bcast_S_S4x2048x2048 main_cst_0
  let main_v5 : IVec S4x2048x2048 1 := cmpf .olt main_v3 main_v4
  let main_v6 : FVec F S2x2048x2048 .f32 := Host.absf main_arg3
  let main_cst_1 : FVec F S_ .f32 := constant S_ .f32 0x7F800000#32
  let main_v7 : FVec F S2x2048x2048 .f32 := broadcastInDim S2x2048x2048 ![] bcast_S_S2x2048x2048 main_cst_1
  let main_v8 : IVec S2x2048x2048 1 := cmpf .olt main_v6 main_v7
  (main_v2, main_v5, main_v8)
-- ==== Kernel.lean ====
abbrev S8192x2048 : Shape := ⟨2, ![8192, 2048]⟩
abbrev S_ : Shape := ⟨0, ![]⟩
abbrev S2048x512 : Shape := ⟨2, ![2048, 512]⟩
abbrev S4x144x2048 : Shape := ⟨3, ![4, 144, 2048]⟩
abbrev S256x256 : Shape := ⟨2, ![256, 256]⟩
abbrev S8x256 : Shape := ⟨2, ![8, 256]⟩
abbrev S256x128 : Shape := ⟨2, ![256, 128]⟩
abbrev S128x256 : Shape := ⟨2, ![128, 256]⟩
abbrev S1x128x256 : Shape := ⟨3, ![1, 128, 256]⟩
abbrev S16x2048 : Shape := ⟨2, ![16, 2048]⟩
abbrev S1x16x2048 : Shape := ⟨3, ![1, 16, 2048]⟩
abbrev S2048x128 : Shape := ⟨2, ![2048, 128]⟩
abbrev S8x256x128 : Shape := ⟨3, ![8, 256, 128]⟩
abbrev S8x128 : Shape := ⟨2, ![8, 128]⟩
abbrev S1x256 : Shape := ⟨2, ![1, 256]⟩
abbrev S256 : Shape := ⟨1, ![256]⟩
abbrev S144x256 : Shape := ⟨2, ![144, 256]⟩
abbrev S1x144x256 : Shape := ⟨3, ![1, 144, 256]⟩

abbrev nBuf : Space → Nat
  | .hbm => 25
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S8192x2048, .f32⟩
  | .hbm, ⟨10, _⟩ => ⟨S8192x2048, .f32⟩
  | .hbm, ⟨11, _⟩ => ⟨S8192x2048, .bf16⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192x2048, .f32⟩
  | .hbm, ⟨16, _⟩ => ⟨S8192x2048, .f32⟩
  | .hbm, ⟨17, _⟩ => ⟨S_, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .bf16⟩
  | .hbm, ⟨22, _⟩ => ⟨S8192x2048, .bf16⟩
  | .hbm, ⟨23, _⟩ => ⟨S8192x2048, .bf16⟩
  | .hbm, ⟨24, _⟩ => ⟨S8192x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S4x144x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S8192x2048 : Shape := ⟨2, ![8192, 2048]⟩
abbrev S4x2048x16x128 : Shape := ⟨4, ![4, 2048, 16, 128]⟩
abbrev S4x16x2048x128 : Shape := ⟨4, ![4, 16, 2048, 128]⟩
abbrev S_ : Shape := ⟨0, ![]⟩
abbrev S4x16x8x256x128 : Shape := ⟨5, ![4, 16, 8, 256, 128]⟩
abbrev S4x16x8x128 : Shape := ⟨4, ![4, 16, 8, 128]⟩
abbrev S8 : Shape := ⟨1, ![8]⟩
abbrev S2048 : Shape := ⟨1, ![2048]⟩
abbrev S8x256 : Shape := ⟨2, ![8, 256]⟩
abbrev S4x16x2048x8 : Shape := ⟨4, ![4, 16, 2048, 8]⟩
abbrev S1x8 : Shape := ⟨2, ![1, 8]⟩
abbrev S2048x1 : Shape := ⟨2, ![2048, 1]⟩
abbrev S2048x8 : Shape := ⟨2, ![2048, 8]⟩
abbrev S1x1x2048x8 : Shape := ⟨4, ![1, 1, 2048, 8]⟩
abbrev S4x16x2048x3 : Shape := ⟨4, ![4, 16, 2048, 3]⟩
abbrev S3 : Shape := ⟨1, ![3]⟩
abbrev S1x3 : Shape := ⟨2, ![1, 3]⟩
abbrev S2048x3 : Shape := ⟨2, ![2048, 3]⟩
abbrev S2048x3x256 : Shape := ⟨3, ![2048, 3, 256]⟩
abbrev S2048x768 : Shape := ⟨2, ![2048, 768]⟩
abbrev S4x16x2048x3x1 : Shape := ⟨5, ![4, 16, 2048, 3, 1]⟩
abbrev S4x16x2048x3x256x128 : Shape := ⟨6, ![4, 16, 2048, 3, 256, 128]⟩
abbrev S4x16x2048x768x128 : Shape := ⟨5, ![4, 16, 2048, 768, 128]⟩
abbrev S4x16x2048x768 : Shape := ⟨4, ![4, 16, 2048, 768]⟩
abbrev S1x1x2048x768 : Shape := ⟨4, ![1, 1, 2048, 768]⟩
abbrev S4x16x8x256x256 : Shape := ⟨5, ![4, 16, 8, 256, 256]⟩
abbrev S4x16x2048x256 : Shape := ⟨4, ![4, 16, 2048, 256]⟩
abbrev S256 : Shape := ⟨1, ![256]⟩
abbrev S1x256 : Shape := ⟨2, ![1, 256]⟩
abbrev S2048x256 : Shape := ⟨2, ![2048, 256]⟩
abbrev S1x1x2048x256 : Shape := ⟨4, ![1, 1, 2048, 256]⟩
abbrev S4x16x2048x1024 : Shape := ⟨4, ![4, 16, 2048, 1024]⟩
abbrev S4x16x2048 : Shape := ⟨3, ![4, 16, 2048]⟩
abbrev S4x16x2048x1 : Shape := ⟨4, ![4, 16, 2048, 1]⟩

abbrev nBuf : Space → Nat
  | .hbm => 113
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S4x2048x16x128, .f32⟩
  | .hbm, ⟨5, _⟩ => ⟨S4x16x2048x128, .f32⟩
  | .hbm, ⟨6, _⟩ => ⟨S_, .f32⟩
  | .hbm, ⟨7, _⟩ => ⟨S_, .f32⟩
  | .hbm, ⟨8, _⟩ => ⟨S4x16x2048x128, .f32⟩
  | .hbm, ⟨9, _⟩ => ⟨S4x16x2048x128, .f32⟩
  | .hbm, ⟨10, _⟩ => ⟨S4x2048x16x128, .f32⟩
  | .hbm, ⟨11, _⟩ => ⟨S4x16x2048x128, .f32⟩
  | .hbm, ⟨12, _⟩ => ⟨S4x2048x16x128, .f32⟩
  | .hbm, ⟨13, _⟩ => ⟨S4x16x2048x128, .f32⟩
  | .hbm, ⟨14, _⟩ => ⟨S4x16x8x256x128, .f32⟩
  | .hbm, ⟨15, _⟩ => ⟨S4x16x8x256x128, .f32⟩
  | .hbm, ⟨16, _⟩ => ⟨S_, .f32⟩
  | .hbm, ⟨17, _⟩ => ⟨S4x16x8x128, .f32⟩
  | .hbm, ⟨18, _⟩ => ⟨S_, .f32⟩
  | .hbm, ⟨19, _⟩ => ⟨S4x16x8x128, .f32⟩
  | .hbm, ⟨20, _⟩ => ⟨S4x16x8x128, .f32⟩
  | .hbm, ⟨21, _⟩ => ⟨S8, .i32⟩
  | .hbm, ⟨22, _⟩ => ⟨S2048, .i32⟩
  | .hbm, ⟨23, _⟩ => ⟨S8x256, .i32⟩
  | .hbm, ⟨24, _⟩ => ⟨S2048, .i32⟩
  | .hbm, ⟨25, _⟩ => ⟨S4x16x2048x8, .f32⟩
  | .hbm, ⟨26, _⟩ => ⟨S1x8, .i32⟩
  | .hbm, ⟨27, _⟩ => ⟨S2048x1, .i32⟩
  | .hbm, ⟨28, _⟩ => ⟨S2048x8, .i32⟩
  | .hbm, ⟨29, _⟩ => ⟨S2048x8, .i32⟩
  | .hbm, ⟨30, _⟩ => ⟨S2048x8, .i1⟩
  | .hbm, ⟨31, _⟩ => ⟨S1x1x2048x8, .i1⟩
  | .hbm, ⟨32, _⟩ => ⟨S_, .f32⟩
  | .hbm, ⟨33, _⟩ => ⟨S4x16x2048x8, .i1⟩
  | .hbm, ⟨34, _⟩ => ⟨S4x16x2048x8, .f32⟩
  | .hbm, ⟨35, _⟩ => ⟨S4x16x2048x8, .f32⟩
  | .hbm, ⟨36, _⟩ => ⟨S4x16x2048x3, .f32⟩
  | .hbm, ⟨37, _⟩ => ⟨S4x16x2048x3, .i32⟩
  | .hbm, ⟨38, _⟩ => ⟨S3, .i32⟩
  | .hbm, ⟨39, _⟩ => ⟨S1x3, .i32⟩
  | .hbm, ⟨40, _⟩ => ⟨S2048x1, .i32⟩
  | .hbm, ⟨41, _⟩ => ⟨S2048x3, .i32⟩
  | .hbm, ⟨42, _⟩ => ⟨S2048x3, .i32⟩
  | .hbm, ⟨43, _⟩ => ⟨S2048x3, .i1⟩
  | .hbm, ⟨44, _⟩ => ⟨S2048x3x256, .i1⟩
  | .hbm, ⟨45, _⟩ => ⟨S2048x768, .i1⟩
  | .hbm, ⟨46, _⟩ => ⟨S4x16x2048x3x1, .i32⟩
  | .hbm, ⟨47, _⟩ => ⟨S4x16x2048x3x256x128, .f32⟩
  | .hbm, ⟨48, _⟩ => ⟨S4x16x2048x768x128, .f32⟩
  | .hbm, ⟨49, _⟩ => ⟨S4x16x2048x3x1, .i32⟩
  | .hbm, ⟨50, _⟩ => ⟨S4x16x2048x3x256x128, .f32⟩
  | .hbm, ⟨51, _⟩ => ⟨S4x16x2048x768x128, .f32⟩
  | .hbm, ⟨52, _⟩ => ⟨S4x16x2048x768, .f32⟩
  | .hbm, ⟨53, _⟩ => ⟨S1x1x2048x768, .i1⟩
  | .hbm, ⟨54, _⟩ => ⟨S_, .f32⟩
  | .hbm, ⟨55, _⟩ => ⟨S4x16x2048x768, .i1⟩
  | .hbm, ⟨56, _⟩ => ⟨S4x16x2048x768, .f32⟩
  | .hbm, ⟨57, _⟩ => ⟨S4x16x2048x768, .f32⟩
  | .hbm, ⟨58, _⟩ => ⟨S4x16x8x256x128, .f32⟩
  | .hbm, ⟨59, _⟩ => ⟨S4x16x8x256x256, .f32⟩
  | .hbm, ⟨60, _⟩ => ⟨S4x16x2048x256, .f32⟩
  | .hbm, ⟨61, _⟩ => ⟨S2048x1, .i32⟩
  | .hbm, ⟨62, _⟩ => ⟨S_, .i32⟩
  | .hbm, ⟨63, _⟩ => ⟨S2048x1, .i32⟩
  | .hbm, ⟨64, _⟩ => ⟨S2048x1, .i32⟩
  | .hbm, ⟨65, _⟩ => ⟨S256, .i32⟩
  | .hbm, ⟨66, _⟩ => ⟨S1x256, .i32⟩
  | .hbm, ⟨67, _⟩ => ⟨S2048x256, .i32⟩
  | .hbm, ⟨68, _⟩ => ⟨S2048x256, .i32⟩
  | .hbm, ⟨69, _⟩ => ⟨S2048x256, .i32⟩
  | .hbm, ⟨70, _⟩ => ⟨S2048x1, .i32⟩
  | .hbm, ⟨71, _⟩ => ⟨S2048x256, .i32⟩
  | .hbm, ⟨72, _⟩ => ⟨S2048x256, .i1⟩
  | .hbm, ⟨73, _⟩ => ⟨S1x1x2048x256, .i1⟩
  | .hbm, ⟨74, _⟩ => ⟨S_, .f32⟩
  | .hbm, ⟨75, _⟩ => ⟨S4x16x2048x256, .i1⟩
  | .hbm, ⟨76, _⟩ => ⟨S4x16x2048x256, .f32⟩
  | .hbm, ⟨77, _⟩ => ⟨S4x16x2048x256, .f32⟩
  | .hbm, ⟨78, _⟩ => ⟨S4x16x2048x1024, .f32⟩
  | .hbm, ⟨79, _⟩ => ⟨S_, .f32⟩
  | .hbm, ⟨80, _⟩ => ⟨S4x16x2048, .f32⟩
  | .hbm, ⟨81, _⟩ => ⟨S_, .f32⟩
  | .hbm, ⟨82, _⟩ => ⟨S4x16x2048, .f32⟩
  | .hbm, ⟨83, _⟩ => ⟨S4x16x2048, .f32⟩
  | .hbm, ⟨84, _⟩ => ⟨S4x16x2048x1, .f32⟩
  | .hbm, ⟨85, _⟩ => ⟨S4x16x2048x1024, .f32⟩
  | .hbm, ⟨86, _⟩ => ⟨S4x16x2048x1024, .f32⟩
  | .hbm, ⟨87, _⟩ => ⟨S4x16x2048x1024, .f32⟩
  | .hbm, ⟨88, _⟩ => ⟨S_, .f32⟩
  | .hbm, ⟨89, _⟩ => ⟨S4x16x2048, .f32⟩
  | .hbm, ⟨90, _⟩ => ⟨S4x16x2048x1, .f32⟩
  | .hbm, ⟨91, _⟩ => ⟨S4x16x2048x1024, .f32⟩
  | .hbm, ⟨92, _⟩ => ⟨S4x16x2048x1024, .f32⟩
  | .hbm, ⟨93, _⟩ => ⟨S4x16x2048x768, .f32⟩
  | .hbm, ⟨94, _⟩ => ⟨S4x16x2048x128, .f32⟩
  | .hbm, ⟨95, _⟩ => ⟨S4x16x2048x256, .f32⟩
  | .hbm, ⟨96, _⟩ => ⟨S4x16x8x256x256, .f32⟩
  | .hbm, ⟨97, _⟩ => ⟨S4x16x8x256x128, .f32⟩
  | .hbm, ⟨98, _⟩ => ⟨S4x16x2048x128, .f32⟩
  | .hbm, ⟨99, _⟩ => ⟨S4x16x2048x128, .f32⟩
  | .hbm, ⟨100, _⟩ => ⟨S4x2048x16x128, .f32⟩
  | .hbm, ⟨101, _⟩ => ⟨S8192x2048, .f32⟩
  | .hbm, ⟨102, _⟩ => ⟨S8192x2048, .f32⟩
  | .hbm, ⟨103, _⟩ => ⟨S8192x2048, .f32⟩
  | .hbm, ⟨104, _⟩ => ⟨S_, .f32⟩
  | .hbm, ⟨105, _⟩ => ⟨S8192x2048, .f32⟩
  | .hbm, ⟨106, _⟩ => ⟨S8192x2048, .f32⟩
  | .hbm, ⟨107, _⟩ => ⟨S_, .f32⟩
  | .hbm, ⟨108, _⟩ => ⟨S8192x2048, .f32⟩
  | .hbm, ⟨109, _⟩ => ⟨S8192x2048, .f32⟩
  | .hbm, ⟨110, _⟩ => ⟨S8192x2048, .f32⟩
  | .hbm, ⟨111, _⟩ => ⟨S8192x2048, .f32⟩
  | .hbm, ⟨112, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v25 : Ref sig .tc := ⟨.hbm, 35, rfl⟩
abbrev main_values : Ref sig .tc := ⟨.hbm, 36, rfl⟩
abbrev main_indices : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_3 : Ref sig .tc := ⟨.hbm, 54, rfl⟩
abbrev main_call1_v0 : Ref sig .tc := ⟨.hbm, 55, rfl⟩
abbrev main_call1_v1 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_c : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_4 : Ref sig .tc := ⟨.hbm, 74, rfl⟩
abbrev main_call2_v0 : Ref sig .tc := ⟨.hbm, 75, rfl⟩
abbrev main_call2_v1 : Ref sig .tc := ⟨.hbm, 76, rfl⟩
abbrev main_v58 : Ref sig .tc := ⟨.hbm, 77, rfl⟩
abbrev main_v59 : Ref sig .tc := ⟨.hbm, 78, rfl⟩
abbrev main_cst_5 : Ref sig .tc := ⟨.hbm, 79, rfl⟩
abbrev main_v60 : Ref sig .tc := ⟨.hbm, 80, rfl⟩
abbrev main_cst_6 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_7 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_call3_v0 : Ref sig .tc := ⟨.hbm, 102, rfl⟩
abbrev main_call3_v1 : Ref sig .tc := ⟨.hbm, 103, rfl⟩
abbrev main_call3_cst : Ref sig .tc := ⟨.hbm, 104, rfl⟩
abbrev main_call3_v2 : Ref sig .tc := ⟨.hbm, 105, rfl⟩
abbrev main_call3_v3 : Ref sig .tc := ⟨.hbm, 106, rfl⟩
abbrev main_call3_cst_0 : Ref sig .tc := ⟨.hbm, 107, rfl⟩
abbrev main_call3_v4 : Ref sig .tc := ⟨.hbm, 108, rfl⟩
abbrev main_call3_v5 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩

abbrev nD : Nat := 1
abbrev τ : Topo := Topo.v7x

variable {F : FTy → Type} [FloatOps F]
-- ==== Kernel2.lean ====
abbrev S4x2048x2048 : Shape := ⟨3, ![4, 2048, 2048]⟩
abbrev S1x2048x8192 : Shape := ⟨3, ![1, 2048, 8192]⟩
abbrev S2x2048x2048 : Shape := ⟨3, ![2, 2048, 2048]⟩
abbrev S8192x2048 : Shape := ⟨2, ![8192, 2048]⟩
abbrev S2048x8192 : Shape := ⟨2, ![2048, 8192]⟩
abbrev S2048x2048 : Shape := ⟨2, ![2048, 2048]⟩
abbrev S2048x256 : Shape := ⟨2, ![2048, 256]⟩
abbrev S1x64x2048 : Shape := ⟨3, ![1, 64, 2048]⟩
abbrev S64x2048 : Shape := ⟨2, ![64, 2048]⟩
abbrev S4x2048x256 : Shape := ⟨3, ![4, 2048, 256]⟩
abbrev S1x2048x256 : Shape := ⟨3, ![1, 2048, 256]⟩
abbrev S512x2048 : Shape := ⟨2, ![512, 2048]⟩
abbrev S512x256 : Shape := ⟨2, ![512, 256]⟩

abbrev nBuf : Space → Nat
  | .hbm => 13
  | .vmem => 27
  | .smem => 0
  | _ => 0

abbrev bufTy : (tb : Table) → Fin (tcTables nBuf tb) → BufTy
  | .hbm, ⟨0, _⟩ => ⟨S4x2048x2048, .f32⟩
  | .hbm, ⟨1, _⟩ => ⟨S1x2048x8192, .f32⟩
  | .hbm, ⟨2, _⟩ => ⟨S2x2048x2048, .f32⟩
  | .hbm, ⟨3, _⟩ => ⟨S2x2048x2048, .f32⟩
  | .hbm, ⟨4, _⟩ => ⟨S8192x2048, .f32⟩
  | .hbm, ⟨5, _⟩ => ⟨S8192x2048, .bf16⟩
  | .hbm, ⟨6, _⟩ => ⟨S2048x8192, .f32⟩
  | .hbm, ⟨7, _⟩ => ⟨S8192x2048, .bf16⟩
  | .hbm, ⟨8, _⟩ => ⟨S8192x2048, .bf16⟩
  | .hbm, ⟨9, _⟩ => ⟨S8192x2048, .bf16⟩
  | .hbm, ⟨10, _⟩ => ⟨S8192x2048, .bf16⟩
  | .hbm, ⟨11, _⟩ => ⟨S2048x2048, .bf16⟩
  | .hbm, ⟨12, _⟩ => ⟨S2048x2048, .bf16⟩
  | .local _ .vmem, ⟨0, _⟩ => ⟨S2048x2048, .bf16⟩
  | .local _ .vmem, ⟨1, _⟩ => ⟨S2048x2048, .bf16⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S2048x256, .f32⟩
  | .local _ .vmem, ⟨10, _⟩ => ⟨S1x64x2048, .f32⟩
  | .local _ .vmem, ⟨11, _⟩ => ⟨S1x64x2048, .f32⟩
  | .local _ .vmem, ⟨12, _⟩ => ⟨S1x64x2048, .f32⟩
  | .local _ .vmem, ⟨13, _⟩ => ⟨S1x64x2048, .f32⟩
  | .local _ .vmem, ⟨14, _⟩ => ⟨S2048x256, .bf16⟩
  | .local _ .vmem, ⟨15, _⟩ => ⟨S2048x256, .bf16⟩
  | .local _ .vmem, ⟨16, _⟩ => ⟨S2048x256, .bf16⟩
  | .local _ .vmem, ⟨17, _⟩ => ⟨S2048x256, .bf16⟩
  | .local _ .vmem, ⟨18, _⟩ => ⟨S2048x256, .bf16⟩
  | .local _ .vmem, ⟨19, _⟩ => ⟨S2048x256, .bf16⟩
  | .local _ .vmem, ⟨20, _⟩ => ⟨S2048x256, .bf16⟩
  | .local _ .vmem, ⟨21, _⟩ => ⟨S2048x256, .bf16⟩
  | .local _ .vmem, ⟨22, _⟩ => ⟨S64x2048, .bf16⟩
  | .local _ .vmem, ⟨23, _⟩ => ⟨S64x2048, .bf16⟩
  | .local _ .vmem, ⟨24, _⟩ => ⟨S64x2048, .bf16⟩
  | .local _ .vmem, ⟨25, _⟩ => ⟨S64x2048, .bf16⟩
  | .local _ .vmem, ⟨26, _⟩ => ⟨S4x2048x256, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v3_4 : Ref sig .tc := ⟨.hbm, 11, rfl⟩
abbrev main_v3_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi arg0 c16_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi arg0 c24_i32
  let c0_i32 : BitVec 32 := 0#32
  let c0_i32_0 : BitVec 32 := 0#32
  ![c0_i32.toNat, v0.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2048x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S64x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S64x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Kernel2Ideal.lean ====
variable {F : FTy → Type} [FloatOps F] [Named F]
def κ : String → Option EReal := fun
  | "scale2" => some ((((Real.sqrt 128) * (Real.log 2))⁻¹ : ℝ) : EReal)
  | _ => none
-- ==== Reference2Ideal.lean ====
abbrev S4x2048x2048 : Shape := ⟨3, ![4, 2048, 2048]⟩
abbrev S1x2048x8192 : Shape := ⟨3, ![1, 2048, 8192]⟩
abbrev S2x2048x2048 : Shape := ⟨3, ![2, 2048, 2048]⟩
abbrev S2048x8192 : Shape := ⟨2, ![2048, 8192]⟩
abbrev S4x2048x8192 : Shape := ⟨3, ![4, 2048, 8192]⟩
abbrev S_ : Shape := ⟨0, ![]⟩
abbrev S8192x2048 : Shape := ⟨2, ![8192, 2048]⟩
abbrev S1x2048x2048 : Shape := ⟨3, ![1, 2048, 2048]⟩
abbrev S2048x2048 : Shape := ⟨2, ![2048, 2048]⟩

abbrev nBuf : Space → Nat
  | .hbm => 40
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S1x2048x8192, .f32⟩
  | .hbm, ⟨2, _⟩ => ⟨S2x2048x2048, .f32⟩
  | .hbm, ⟨3, _⟩ => ⟨S2x2048x2048, .f32⟩
  | .hbm, ⟨4, _⟩ => ⟨S2048x8192, .f32⟩
  | .hbm, ⟨5, _⟩ => ⟨S4x2048x8192, .f32⟩
  | .hbm, ⟨6, _⟩ => ⟨S4x2048x2048, .f32⟩
  | .hbm, ⟨7, _⟩ => ⟨S4x2048x2048, .f32⟩
  | .hbm, ⟨8, _⟩ => ⟨S4x2048x2048, .f32⟩
  | .hbm, ⟨9, _⟩ => ⟨S4x2048x2048, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S4x2048x2048, .f32⟩
  | .hbm, ⟨16, _⟩ => ⟨S4x2048x2048, .f32⟩
  | .hbm, ⟨17, _⟩ => ⟨S8192x2048, .f32⟩
  | .hbm, ⟨18, _⟩ => ⟨S8192x2048, .bf16⟩
  | .hbm, ⟨19, _⟩ => ⟨S8192x2048, .f32⟩
  | .hbm, ⟨20, _⟩ => ⟨S8192x2048, .bf16⟩
  | .hbm, ⟨21, _⟩ => ⟨S8192x2048, .f32⟩
  | .hbm, ⟨22, _⟩ => ⟨S8192x2048, .bf16⟩
  | .hbm, ⟨23, _⟩ => ⟨S4x2048x2048, .f32⟩
  | .hbm, ⟨24, _⟩ => ⟨S4x2048x2048, .f32⟩
  | .hbm, ⟨25, _⟩ => ⟨S_, .f32⟩
  | .hbm, ⟨26, _⟩ => ⟨S4x2048x2048, .f32⟩
  | .hbm, ⟨27, _⟩ => ⟨S4x2048x2048, .f32⟩
  | .hbm, ⟨28, _⟩ => ⟨S_, .f32⟩
  | .hbm, ⟨29, _⟩ => ⟨S4x2048x2048, .f32⟩
  | .hbm, ⟨30, _⟩ => ⟨S4x2048x2048, .f32⟩
  | .hbm, ⟨31, _⟩ => ⟨S4x2048x2048, .f32⟩
  | .hbm, ⟨32, _⟩ => ⟨S8192x2048, .f32⟩
  | .hbm, ⟨33, _⟩ => ⟨S8192x2048, .bf16⟩
  | .hbm, ⟨34, _⟩ => ⟨S1x2048x2048, .f32⟩
  | .hbm, ⟨35, _⟩ => ⟨S2048x2048, .f32⟩
  | .hbm, ⟨36, _⟩ => ⟨S2048x2048, .bf16⟩
  | .hbm, ⟨37, _⟩ => ⟨S1x2048x2048, .f32⟩
  | .hbm, ⟨38, _⟩ => ⟨S2048x2048, .f32⟩
  | .hbm, ⟨39, _⟩ => ⟨S2048x2048, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel3.lean ====
abbrev S4x2048x2048 : Shape := ⟨3, ![4, 2048, 2048]⟩
abbrev S2x4x2048x256 : Shape := ⟨4, ![2, 4, 2048, 256]⟩
abbrev S2x2048x2048 : Shape := ⟨3, ![2, 2048, 2048]⟩
abbrev S2x2048 : Shape := ⟨2, ![2, 2048]⟩
abbrev S2x256x2048 : Shape := ⟨3, ![2, 256, 2048]⟩
abbrev S8192x2048 : Shape := ⟨2, ![8192, 2048]⟩
abbrev S2x8192x256 : Shape := ⟨3, ![2, 8192, 256]⟩
abbrev S1x2048x2048 : Shape := ⟨3, ![1, 2048, 2048]⟩
abbrev S2048x2048 : Shape := ⟨2, ![2048, 2048]⟩
abbrev S512x2048 : Shape := ⟨2, ![512, 2048]⟩
abbrev S1x512x256 : Shape := ⟨3, ![1, 512, 256]⟩
abbrev S1x256x2048 : Shape := ⟨3, ![1, 256, 2048]⟩
abbrev S1x2048 : Shape := ⟨2, ![1, 2048]⟩
abbrev S256x256 : Shape := ⟨2, ![256, 256]⟩
abbrev S256x2048 : Shape := ⟨2, ![256, 2048]⟩
abbrev S2048x256 : Shape := ⟨2, ![2048, 256]⟩
abbrev S256 : Shape := ⟨1, ![256]⟩
abbrev S256x1 : Shape := ⟨2, ![256, 1]⟩
abbrev S256x128 : Shape := ⟨2, ![256, 128]⟩
abbrev S1x256x256 : Shape := ⟨3, ![1, 256, 256]⟩

abbrev nBuf : Space → Nat
  | .hbm => 20
  | .vmem => 13
  | .smem => 0
  | _ => 0

abbrev bufTy : (tb : Table) → Fin (tcTables nBuf tb) → BufTy
  | .hbm, ⟨0, _⟩ => ⟨S4x2048x2048, .f32⟩
  | .hbm, ⟨1, _⟩ => ⟨S4x2048x2048, .f32⟩
  | .hbm, ⟨2, _⟩ => ⟨S2x4x2048x256, .f32⟩
  | .hbm, ⟨3, _⟩ => ⟨S2x2048x2048, .f32⟩
  | .hbm, ⟨4, _⟩ => ⟨S2x2048, .f32⟩
  | .hbm, ⟨5, _⟩ => ⟨S2x2048, .f32⟩
  | .hbm, ⟨6, _⟩ => ⟨S2x2048x2048, .f32⟩
  | .hbm, ⟨7, _⟩ => ⟨S2x256x2048, .f32⟩
  | .hbm, ⟨8, _⟩ => ⟨S8192x2048, .f32⟩
  | .hbm, ⟨9, _⟩ => ⟨S8192x2048, .bf16⟩
  | .hbm, ⟨10, _⟩ => ⟨S8192x2048, .f32⟩
  | .hbm, ⟨11, _⟩ => ⟨S2x8192x256, .f32⟩
  | .hbm, ⟨12, _⟩ => ⟨S1x2048x2048, .f32⟩
  | .hbm, ⟨13, _⟩ => ⟨S2048x2048, .f32⟩
  | .hbm, ⟨14, _⟩ => ⟨S2048x2048, .bf16⟩
  | .hbm, ⟨15, _⟩ => ⟨S1x2048x2048, .f32⟩
  | .hbm, ⟨16, _⟩ => ⟨S2048x2048, .f32⟩
  | .hbm, ⟨17, _⟩ => ⟨S2048x2048, .bf16⟩
  | .hbm, ⟨18, _⟩ => ⟨S2x256x2048, .bf16⟩
  | .hbm, ⟨19, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S1x512x256, .f32⟩
  | .local _ .vmem, ⟨5, _⟩ => ⟨S1x512x256, .f32⟩
  | .local _ .vmem, ⟨6, _⟩ => ⟨S2048x2048, .bf16⟩
  | .local _ .vmem, ⟨7, _⟩ => ⟨S2x2048, .f32⟩
  | .local _ .vmem, ⟨8, _⟩ => ⟨S2x2048, .f32⟩
  | .local _ .vmem, ⟨9, _⟩ => ⟨S2048x2048, .bf16⟩
  | .local _ .vmem, ⟨10, _⟩ => ⟨S1x256x2048, .bf16⟩
  | .local _ .vmem, ⟨11, _⟩ => ⟨S512x2048, .f32⟩
  | .local _ .vmem, ⟨12, _⟩ => ⟨S512x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S4x2048x2048 : Shape := ⟨3, ![4, 2048, 2048]⟩
abbrev S2x4x2048x256 : Shape := ⟨4, ![2, 4, 2048, 256]⟩
abbrev S2x2048x2048 : Shape := ⟨3, ![2, 2048, 2048]⟩
abbrev S2x2048 : Shape := ⟨2, ![2, 2048]⟩
abbrev S2x256x2048 : Shape := ⟨3, ![2, 256, 2048]⟩
abbrev S1x2048x2048 : Shape := ⟨3, ![1, 2048, 2048]⟩
abbrev S2048x2048 : Shape := ⟨2, ![2048, 2048]⟩
abbrev S_ : Shape := ⟨0, ![]⟩
abbrev S1x2048 : Shape := ⟨2, ![1, 2048]⟩
abbrev S2048 : Shape := ⟨1, ![2048]⟩
abbrev S4x2048 : Shape := ⟨2, ![4, 2048]⟩
abbrev S4x2048x1 : Shape := ⟨3, ![4, 2048, 1]⟩
abbrev S1x1x2048 : Shape := ⟨3, ![1, 1, 2048]⟩
abbrev S1x4x2048x256 : Shape := ⟨4, ![1, 4, 2048, 256]⟩
abbrev S4x2048x256 : Shape := ⟨3, ![4, 2048, 256]⟩
abbrev S1x256x2048 : Shape := ⟨3, ![1, 256, 2048]⟩
abbrev S256x2048 : Shape := ⟨2, ![256, 2048]⟩
abbrev S8192x2048 : Shape := ⟨2, ![8192, 2048]⟩

abbrev nBuf : Space → Nat
  | .hbm => 67
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x2048x2048, .f32⟩
  | .hbm, ⟨2, _⟩ => ⟨S2x4x2048x256, .f32⟩
  | .hbm, ⟨3, _⟩ => ⟨S2x2048x2048, .f32⟩
  | .hbm, ⟨4, _⟩ => ⟨S2x2048, .f32⟩
  | .hbm, ⟨5, _⟩ => ⟨S2x2048, .f32⟩
  | .hbm, ⟨6, _⟩ => ⟨S2x2048x2048, .f32⟩
  | .hbm, ⟨7, _⟩ => ⟨S2x256x2048, .f32⟩
  | .hbm, ⟨8, _⟩ => ⟨S1x2048x2048, .f32⟩
  | .hbm, ⟨9, _⟩ => ⟨S2048x2048, .f32⟩
  | .hbm, ⟨10, _⟩ => ⟨S4x2048x2048, .f32⟩
  | .hbm, ⟨11, _⟩ => ⟨S_, .f32⟩
  | .hbm, ⟨12, _⟩ => ⟨S4x2048x2048, .f32⟩
  | .hbm, ⟨13, _⟩ => ⟨S4x2048x2048, .f32⟩
  | .hbm, ⟨14, _⟩ => ⟨S4x2048x2048, .f32⟩
  | .hbm, ⟨15, _⟩ => ⟨S1x2048, .f32⟩
  | .hbm, ⟨16, _⟩ => ⟨S2048, .f32⟩
  | .hbm, ⟨17, _⟩ => ⟨S1x2048, .f32⟩
  | .hbm, ⟨18, _⟩ => ⟨S2048, .f32⟩
  | .hbm, ⟨19, _⟩ => ⟨S_, .f32⟩
  | .hbm, ⟨20, _⟩ => ⟨S4x2048, .f32⟩
  | .hbm, ⟨21, _⟩ => ⟨S4x2048x1, .f32⟩
  | .hbm, ⟨22, _⟩ => ⟨S_, .f32⟩
  | .hbm, ⟨23, _⟩ => ⟨S4x2048x1, .f32⟩
  | .hbm, ⟨24, _⟩ => ⟨S4x2048x1, .f32⟩
  | .hbm, ⟨25, _⟩ => ⟨S4x2048x2048, .f32⟩
  | .hbm, ⟨26, _⟩ => ⟨S4x2048x2048, .f32⟩
  | .hbm, ⟨27, _⟩ => ⟨S4x2048x2048, .f32⟩
  | .hbm, ⟨28, _⟩ => ⟨S_, .f32⟩
  | .hbm, ⟨29, _⟩ => ⟨S4x2048, .f32⟩
  | .hbm, ⟨30, _⟩ => ⟨S4x2048x1, .f32⟩
  | .hbm, ⟨31, _⟩ => ⟨S_, .f32⟩
  | .hbm, ⟨32, _⟩ => ⟨S4x2048x1, .f32⟩
  | .hbm, ⟨33, _⟩ => ⟨S4x2048x1, .f32⟩
  | .hbm, ⟨34, _⟩ => ⟨S4x2048x2048, .f32⟩
  | .hbm, ⟨35, _⟩ => ⟨S4x2048x2048, .f32⟩
  | .hbm, ⟨36, _⟩ => ⟨S_, .f32⟩
  | .hbm, ⟨37, _⟩ => ⟨S4x2048x1, .f32⟩
  | .hbm, ⟨38, _⟩ => ⟨S4x2048x1, .f32⟩
  | .hbm, ⟨39, _⟩ => ⟨S4x2048x1, .f32⟩
  | .hbm, ⟨40, _⟩ => ⟨S4x2048x2048, .f32⟩
  | .hbm, ⟨41, _⟩ => ⟨S4x2048x2048, .f32⟩
  | .hbm, ⟨42, _⟩ => ⟨S1x1x2048, .f32⟩
  | .hbm, ⟨43, _⟩ => ⟨S4x2048x2048, .f32⟩
  | .hbm, ⟨44, _⟩ => ⟨S4x2048x2048, .f32⟩
  | .hbm, ⟨45, _⟩ => ⟨S1x1x2048, .f32⟩
  | .hbm, ⟨46, _⟩ => ⟨S4x2048x2048, .f32⟩
  | .hbm, ⟨47, _⟩ => ⟨S4x2048x2048, .f32⟩
  | .hbm, ⟨48, _⟩ => ⟨S1x2048x2048, .f32⟩
  | .hbm, ⟨49, _⟩ => ⟨S2048x2048, .f32⟩
  | .hbm, ⟨50, _⟩ => ⟨S4x2048x2048, .f32⟩
  | .hbm, ⟨51, _⟩ => ⟨S4x2048x2048, .f32⟩
  | .hbm, ⟨52, _⟩ => ⟨S4x2048x2048, .f32⟩
  | .hbm, ⟨53, _⟩ => ⟨S_, .f32⟩
  | .hbm, ⟨54, _⟩ => ⟨S4x2048x2048, .f32⟩
  | .hbm, ⟨55, _⟩ => ⟨S4x2048x2048, .f32⟩
  | .hbm, ⟨56, _⟩ => ⟨S_, .f32⟩
  | .hbm, ⟨57, _⟩ => ⟨S4x2048x2048, .f32⟩
  | .hbm, ⟨58, _⟩ => ⟨S4x2048x2048, .f32⟩
  | .hbm, ⟨59, _⟩ => ⟨S1x4x2048x256, .f32⟩
  | .hbm, ⟨60, _⟩ => ⟨S4x2048x256, .f32⟩
  | .hbm, ⟨61, _⟩ => ⟨S1x256x2048, .f32⟩
  | .hbm, ⟨62, _⟩ => ⟨S256x2048, .f32⟩
  | .hbm, ⟨63, _⟩ => ⟨S4x2048x2048, .f32⟩
  | .hbm, ⟨64, _⟩ => ⟨S4x2048x2048, .f32⟩
  | .hbm, ⟨65, _⟩ => ⟨S4x2048x2048, .f32⟩
  | .hbm, ⟨66, _⟩ => ⟨S8192x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩

abbrev nD : Nat := 1
abbrev τ : Topo := Topo.v7x

variable {F : FTy → Type} [FloatOps F]
-- ==== Kernel4.lean ====
abbrev S4x2048x2048 : Shape := ⟨3, ![4, 2048, 2048]⟩
abbrev S2x4x2048x256 : Shape := ⟨4, ![2, 4, 2048, 256]⟩
abbrev S2x2048x2048 : Shape := ⟨3, ![2, 2048, 2048]⟩
abbrev S2x2048 : Shape := ⟨2, ![2, 2048]⟩
abbrev S2x256x2048 : Shape := ⟨3, ![2, 256, 2048]⟩
abbrev S8192x2048 : Shape := ⟨2, ![8192, 2048]⟩
abbrev S2x8192x256 : Shape := ⟨3, ![2, 8192, 256]⟩
abbrev S1x2048x2048 : Shape := ⟨3, ![1, 2048, 2048]⟩
abbrev S2048x2048 : Shape := ⟨2, ![2048, 2048]⟩
abbrev S512x2048 : Shape := ⟨2, ![512, 2048]⟩
abbrev S1x512x256 : Shape := ⟨3, ![1, 512, 256]⟩
abbrev S1x256x2048 : Shape := ⟨3, ![1, 256, 2048]⟩
abbrev S1x2048 : Shape := ⟨2, ![1, 2048]⟩
abbrev S256x256 : Shape := ⟨2, ![256, 256]⟩
abbrev S256x2048 : Shape := ⟨2, ![256, 2048]⟩
abbrev S2048x256 : Shape := ⟨2, ![2048, 256]⟩
abbrev S256 : Shape := ⟨1, ![256]⟩
abbrev S256x1 : Shape := ⟨2, ![256, 1]⟩
abbrev S256x128 : Shape := ⟨2, ![256, 128]⟩
abbrev S1x256x256 : Shape := ⟨3, ![1, 256, 256]⟩

abbrev nBuf : Space → Nat
  | .hbm => 21
  | .vmem => 15
  | .smem => 0
  | _ => 0

abbrev bufTy : (tb : Table) → Fin (tcTables nBuf tb) → BufTy
  | .hbm, ⟨0, _⟩ => ⟨S4x2048x2048, .f32⟩
  | .hbm, ⟨1, _⟩ => ⟨S4x2048x2048, .f32⟩
  | .hbm, ⟨2, _⟩ => ⟨S2x4x2048x256, .f32⟩
  | .hbm, ⟨3, _⟩ => ⟨S2x2048x2048, .f32⟩
  | .hbm, ⟨4, _⟩ => ⟨S2x2048, .f32⟩
  | .hbm, ⟨5, _⟩ => ⟨S2x2048, .f32⟩
  | .hbm, ⟨6, _⟩ => ⟨S2x2048x2048, .f32⟩
  | .hbm, ⟨7, _⟩ => ⟨S2x256x2048, .f32⟩
  | .hbm, ⟨8, _⟩ => ⟨S8192x2048, .f32⟩
  | .hbm, ⟨9, _⟩ => ⟨S8192x2048, .bf16⟩
  | .hbm, ⟨10, _⟩ => ⟨S8192x2048, .f32⟩
  | .hbm, ⟨11, _⟩ => ⟨S2x8192x256, .f32⟩
  | .hbm, ⟨12, _⟩ => ⟨S1x2048x2048, .f32⟩
  | .hbm, ⟨13, _⟩ => ⟨S2048x2048, .f32⟩
  | .hbm, ⟨14, _⟩ => ⟨S2048x2048, .bf16⟩
  | .hbm, ⟨15, _⟩ => ⟨S1x2048x2048, .f32⟩
  | .hbm, ⟨16, _⟩ => ⟨S2048x2048, .f32⟩
  | .hbm, ⟨17, _⟩ => ⟨S2048x2048, .bf16⟩
  | .hbm, ⟨18, _⟩ => ⟨S2x256x2048, .bf16⟩
  | .hbm, ⟨19, _⟩ => ⟨S8192x2048, .f32⟩
  | .hbm, ⟨20, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S1x512x256, .f32⟩
  | .local _ .vmem, ⟨5, _⟩ => ⟨S1x512x256, .f32⟩
  | .local _ .vmem, ⟨6, _⟩ => ⟨S2048x2048, .bf16⟩
  | .local _ .vmem, ⟨7, _⟩ => ⟨S2x2048, .f32⟩
  | .local _ .vmem, ⟨8, _⟩ => ⟨S2x2048, .f32⟩
  | .local _ .vmem, ⟨9, _⟩ => ⟨S2048x2048, .bf16⟩
  | .local _ .vmem, ⟨10, _⟩ => ⟨S1x256x2048, .bf16⟩
  | .local _ .vmem, ⟨11, _⟩ => ⟨S512x2048, .f32⟩
  | .local _ .vmem, ⟨12, _⟩ => ⟨S512x2048, .f32⟩
  | .local _ .vmem, ⟨13, _⟩ => ⟨S512x2048, .bf16⟩
  | .local _ .vmem, ⟨14, _⟩ => ⟨S512x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S4x2048x2048 : Shape := ⟨3, ![4, 2048, 2048]⟩
abbrev S2x4x2048x256 : Shape := ⟨4, ![2, 4, 2048, 256]⟩
abbrev S2x2048x2048 : Shape := ⟨3, ![2, 2048, 2048]⟩
abbrev S2x2048 : Shape := ⟨2, ![2, 2048]⟩
abbrev S2x256x2048 : Shape := ⟨3, ![2, 256, 2048]⟩
abbrev S1x2048x2048 : Shape := ⟨3, ![1, 2048, 2048]⟩
abbrev S2048x2048 : Shape := ⟨2, ![2048, 2048]⟩
abbrev S_ : Shape := ⟨0, ![]⟩
abbrev S1x2048 : Shape := ⟨2, ![1, 2048]⟩
abbrev S2048 : Shape := ⟨1, ![2048]⟩
abbrev S4x2048 : Shape := ⟨2, ![4, 2048]⟩
abbrev S4x2048x1 : Shape := ⟨3, ![4, 2048, 1]⟩
abbrev S1x1x2048 : Shape := ⟨3, ![1, 1, 2048]⟩
abbrev S1x4x2048x256 : Shape := ⟨4, ![1, 4, 2048, 256]⟩
abbrev S4x2048x256 : Shape := ⟨3, ![4, 2048, 256]⟩
abbrev S1x256x2048 : Shape := ⟨3, ![1, 256, 2048]⟩
abbrev S256x2048 : Shape := ⟨2, ![256, 2048]⟩
abbrev S8192x2048 : Shape := ⟨2, ![8192, 2048]⟩

abbrev nBuf : Space → Nat
  | .hbm => 68
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x2048x2048, .f32⟩
  | .hbm, ⟨2, _⟩ => ⟨S2x4x2048x256, .f32⟩
  | .hbm, ⟨3, _⟩ => ⟨S2x2048x2048, .f32⟩
  | .hbm, ⟨4, _⟩ => ⟨S2x2048, .f32⟩
  | .hbm, ⟨5, _⟩ => ⟨S2x2048, .f32⟩
  | .hbm, ⟨6, _⟩ => ⟨S2x2048x2048, .f32⟩
  | .hbm, ⟨7, _⟩ => ⟨S2x256x2048, .f32⟩
  | .hbm, ⟨8, _⟩ => ⟨S1x2048x2048, .f32⟩
  | .hbm, ⟨9, _⟩ => ⟨S2048x2048, .f32⟩
  | .hbm, ⟨10, _⟩ => ⟨S4x2048x2048, .f32⟩
  | .hbm, ⟨11, _⟩ => ⟨S_, .f32⟩
  | .hbm, ⟨12, _⟩ => ⟨S4x2048x2048, .f32⟩
  | .hbm, ⟨13, _⟩ => ⟨S4x2048x2048, .f32⟩
  | .hbm, ⟨14, _⟩ => ⟨S4x2048x2048, .f32⟩
  | .hbm, ⟨15, _⟩ => ⟨S1x2048, .f32⟩
  | .hbm, ⟨16, _⟩ => ⟨S2048, .f32⟩
  | .hbm, ⟨17, _⟩ => ⟨S1x2048, .f32⟩
  | .hbm, ⟨18, _⟩ => ⟨S2048, .f32⟩
  | .hbm, ⟨19, _⟩ => ⟨S_, .f32⟩
  | .hbm, ⟨20, _⟩ => ⟨S4x2048, .f32⟩
  | .hbm, ⟨21, _⟩ => ⟨S4x2048x1, .f32⟩
  | .hbm, ⟨22, _⟩ => ⟨S_, .f32⟩
  | .hbm, ⟨23, _⟩ => ⟨S4x2048x1, .f32⟩
  | .hbm, ⟨24, _⟩ => ⟨S4x2048x1, .f32⟩
  | .hbm, ⟨25, _⟩ => ⟨S4x2048x2048, .f32⟩
  | .hbm, ⟨26, _⟩ => ⟨S4x2048x2048, .f32⟩
  | .hbm, ⟨27, _⟩ => ⟨S4x2048x2048, .f32⟩
  | .hbm, ⟨28, _⟩ => ⟨S_, .f32⟩
  | .hbm, ⟨29, _⟩ => ⟨S4x2048, .f32⟩
  | .hbm, ⟨30, _⟩ => ⟨S4x2048x1, .f32⟩
  | .hbm, ⟨31, _⟩ => ⟨S_, .f32⟩
  | .hbm, ⟨32, _⟩ => ⟨S4x2048x1, .f32⟩
  | .hbm, ⟨33, _⟩ => ⟨S4x2048x1, .f32⟩
  | .hbm, ⟨34, _⟩ => ⟨S4x2048x2048, .f32⟩
  | .hbm, ⟨35, _⟩ => ⟨S4x2048x2048, .f32⟩
  | .hbm, ⟨36, _⟩ => ⟨S_, .f32⟩
  | .hbm, ⟨37, _⟩ => ⟨S4x2048x1, .f32⟩
  | .hbm, ⟨38, _⟩ => ⟨S4x2048x1, .f32⟩
  | .hbm, ⟨39, _⟩ => ⟨S4x2048x1, .f32⟩
  | .hbm, ⟨40, _⟩ => ⟨S4x2048x2048, .f32⟩
  | .hbm, ⟨41, _⟩ => ⟨S4x2048x2048, .f32⟩
  | .hbm, ⟨42, _⟩ => ⟨S1x1x2048, .f32⟩
  | .hbm, ⟨43, _⟩ => ⟨S4x2048x2048, .f32⟩
  | .hbm, ⟨44, _⟩ => ⟨S4x2048x2048, .f32⟩
  | .hbm, ⟨45, _⟩ => ⟨S1x1x2048, .f32⟩
  | .hbm, ⟨46, _⟩ => ⟨S4x2048x2048, .f32⟩
  | .hbm, ⟨47, _⟩ => ⟨S4x2048x2048, .f32⟩
  | .hbm, ⟨48, _⟩ => ⟨S1x2048x2048, .f32⟩
  | .hbm, ⟨49, _⟩ => ⟨S2048x2048, .f32⟩
  | .hbm, ⟨50, _⟩ => ⟨S4x2048x2048, .f32⟩
  | .hbm, ⟨51, _⟩ => ⟨S4x2048x2048, .f32⟩
  | .hbm, ⟨52, _⟩ => ⟨S4x2048x2048, .f32⟩
  | .hbm, ⟨53, _⟩ => ⟨S_, .f32⟩
  | .hbm, ⟨54, _⟩ => ⟨S4x2048x2048, .f32⟩
  | .hbm, ⟨55, _⟩ => ⟨S4x2048x2048, .f32⟩
  | .hbm, ⟨56, _⟩ => ⟨S_, .f32⟩
  | .hbm, ⟨57, _⟩ => ⟨S4x2048x2048, .f32⟩
  | .hbm, ⟨58, _⟩ => ⟨S4x2048x2048, .f32⟩
  | .hbm, ⟨59, _⟩ => ⟨S1x4x2048x256, .f32⟩
  | .hbm, ⟨60, _⟩ => ⟨S4x2048x256, .f32⟩
  | .hbm, ⟨61, _⟩ => ⟨S1x256x2048, .f32⟩
  | .hbm, ⟨62, _⟩ => ⟨S256x2048, .f32⟩
  | .hbm, ⟨63, _⟩ => ⟨S4x2048x2048, .f32⟩
  | .hbm, ⟨64, _⟩ => ⟨S4x2048x2048, .f32⟩
  | .hbm, ⟨65, _⟩ => ⟨S4x2048x2048, .f32⟩
  | .hbm, ⟨66, _⟩ => ⟨S8192x2048, .f32⟩
  | .hbm, ⟨67, _⟩ => ⟨S8192x2048, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩

abbrev nD : Nat := 1
abbrev τ : Topo := Topo.v7x

variable {F : FTy → Type} [FloatOps F]
-- ==== Kernel5.lean ====
abbrev S4x2048x2048 : Shape := ⟨3, ![4, 2048, 2048]⟩
abbrev S1x2048x6144 : Shape := ⟨3, ![1, 2048, 6144]⟩
abbrev S1x2048 : Shape := ⟨2, ![1, 2048]⟩
abbrev S1x16x128x128 : Shape := ⟨4, ![1, 16, 128, 128]⟩
abbrev S1x16x128 : Shape := ⟨3, ![1, 16, 128]⟩
abbrev S2x2048x2048 : Shape := ⟨3, ![2, 2048, 2048]⟩
abbrev S2x256x2048 : Shape := ⟨3, ![2, 256, 2048]⟩
abbrev S8192x2048 : Shape := ⟨2, ![8192, 2048]⟩
abbrev S512x2048 : Shape := ⟨2, ![512, 2048]⟩
abbrev S2048x2048 : Shape := ⟨2, ![2048, 2048]⟩
abbrev S1x128x6144 : Shape := ⟨3, ![1, 128, 6144]⟩
abbrev S1x128x2048 : Shape := ⟨3, ![1, 128, 2048]⟩
abbrev S32x2048 : Shape := ⟨2, ![32, 2048]⟩
abbrev S128x2048 : Shape := ⟨2, ![128, 2048]⟩
abbrev S2048x6144 : Shape := ⟨2, ![2048, 6144]⟩
abbrev S16x128x128 : Shape := ⟨3, ![16, 128, 128]⟩
abbrev S128x16 : Shape := ⟨2, ![128, 16]⟩
abbrev S128x6144 : Shape := ⟨2, ![128, 6144]⟩
abbrev S128x128 : Shape := ⟨2, ![128, 128]⟩
abbrev S1x128x128 : Shape := ⟨3, ![1, 128, 128]⟩
abbrev S16x128 : Shape := ⟨2, ![16, 128]⟩
abbrev S2048x256 : Shape := ⟨2, ![2048, 256]⟩
abbrev S512x256 : Shape := ⟨2, ![512, 256]⟩
abbrev S512 : Shape := ⟨1, ![512]⟩
abbrev S512x1 : Shape := ⟨2, ![512, 1]⟩
abbrev S512x128 : Shape := ⟨2, ![512, 128]⟩
abbrev S1x256 : Shape := ⟨2, ![1, 256]⟩
abbrev S128x1 : Shape := ⟨2, ![128, 1]⟩

abbrev nBuf : Space → Nat
  | .hbm => 15
  | .vmem => 27
  | .smem => 0
  | _ => 0

abbrev bufTy : (tb : Table) → Fin (tcTables nBuf tb) → BufTy
  | .hbm, ⟨0, _⟩ => ⟨S4x2048x2048, .f32⟩
  | .hbm, ⟨1, _⟩ => ⟨S1x2048x6144, .f32⟩
  | .hbm, ⟨2, _⟩ => ⟨S1x2048, .f32⟩
  | .hbm, ⟨3, _⟩ => ⟨S1x2048, .f32⟩
  | .hbm, ⟨4, _⟩ => ⟨S1x16x128x128, .f32⟩
  | .hbm, ⟨5, _⟩ => ⟨S1x16x128, .f32⟩
  | .hbm, ⟨6, _⟩ => ⟨S2x2048x2048, .f32⟩
  | .hbm, ⟨7, _⟩ => ⟨S2x2048x2048, .f32⟩
  | .hbm, ⟨8, _⟩ => ⟨S2x256x2048, .f32⟩
  | .hbm, ⟨9, _⟩ => ⟨S8192x2048, .f32⟩
  | .hbm, ⟨10, _⟩ => ⟨S512x2048, .f32⟩
  | .hbm, ⟨11, _⟩ => ⟨S8192x2048, .bf16⟩
  | .hbm, ⟨12, _⟩ => ⟨S2048x2048, .bf16⟩
  | .hbm, ⟨13, _⟩ => ⟨S2048x2048, .bf16⟩
  | .hbm, ⟨14, _⟩ => ⟨S512x2048, .bf16⟩
  | .local _ .vmem, ⟨0, _⟩ => ⟨S512x2048, .f32⟩
  | .local _ .vmem, ⟨1, _⟩ => ⟨S512x2048, .f32⟩
  | .local _ .vmem, ⟨2, _⟩ => ⟨S1x128x6144, .f32⟩
  | .local _ .vmem, ⟨3, _⟩ => ⟨S1x128x6144, .f32⟩
  | .local _ .vmem, ⟨4, _⟩ => ⟨S1x2048, .f32⟩
  | .local _ .vmem, ⟨5, _⟩ => ⟨S1x2048, .f32⟩
  | .local _ .vmem, ⟨6, _⟩ => ⟨S1x16x128x128, .f32⟩
  | .local _ .vmem, ⟨7, _⟩ => ⟨S1x16x128, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S32x2048, .f32⟩
  | .local _ .vmem, ⟨13, _⟩ => ⟨S32x2048, .f32⟩
  | .local _ .vmem, ⟨14, _⟩ => ⟨S512x2048, .bf16⟩
  | .local _ .vmem, ⟨15, _⟩ => ⟨S512x2048, .bf16⟩
  | .local _ .vmem, ⟨16, _⟩ => ⟨S128x2048, .bf16⟩
  | .local _ .vmem, ⟨17, _⟩ => ⟨S128x2048, .bf16⟩
  | .local _ .vmem, ⟨18, _⟩ => ⟨S128x2048, .bf16⟩
  | .local _ .vmem, ⟨19, _⟩ => ⟨S128x2048, .bf16⟩
  | .local _ .vmem, ⟨20, _⟩ => ⟨S32x2048, .bf16⟩
  | .local _ .vmem, ⟨21, _⟩ => ⟨S32x2048, .bf16⟩
  | .local _ .vmem, ⟨22, _⟩ => ⟨S2048x6144, .bf16⟩
  | .local _ .vmem, ⟨23, _⟩ => ⟨S512x2048, .bf16⟩
  | .local _ .vmem, ⟨24, _⟩ => ⟨S512x2048, .f32⟩
  | .local _ .vmem, ⟨25, _⟩ => ⟨S16x128x128, .bf16⟩
  | .local _ .vmem, ⟨26, _⟩ => ⟨S128x16, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v2_2 : Ref sig .tc := ⟨.hbm, 13, rfl⟩
abbrev main_v2_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k0_mult1 (i : grid0.Coords) : BitVec 32 :=
  let arg0 : BitVec 32 := BitVec.ofNat 32 (i 0).val
  let c128_i32 : BitVec 32 := 128#32
  let v12 : BitVec 32 := Scalar.muli arg0 c128_i32
  v12
def k0_off1 (i : grid0.Coords) : Fin 2 → Nat :=
  let arg0 : BitVec 32 := BitVec.ofNat 32 (i 0).val
  let c128_i32 : BitVec 32 := 128#32
  let v12 : BitVec 32 := Scalar.muli arg0 c128_i32
  let v13 : BitVec 32 := v12
  let v14 : Index := Scalar.indexCast v13
  let c0_6 : Index := 0#32
  ![v14.toNat, 0]
def k0_cond3 (i : grid0.Coords) : BitVec 1 :=
  let arg0 : BitVec 32 := BitVec.ofNat 32 (i 0).val
  let c16_i32_2 : BitVec 32 := 16#32
  let v6 : BitVec 1 := Scalar.cmpi .sge arg0 c16_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 3 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_7 (i : grid0.Coords) : Fin 3 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_8 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_10 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_11 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_12 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S32x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference5Ideal.lean ====
abbrev S4x2048x2048 : Shape := ⟨3, ![4, 2048, 2048]⟩
abbrev S1x2048x6144 : Shape := ⟨3, ![1, 2048, 6144]⟩
abbrev S1x2048 : Shape := ⟨2, ![1, 2048]⟩
abbrev S1x16x128x128 : Shape := ⟨4, ![1, 16, 128, 128]⟩
abbrev S1x16x128 : Shape := ⟨3, ![1, 16, 128]⟩
abbrev S2x2048x2048 : Shape := ⟨3, ![2, 2048, 2048]⟩
abbrev S2x256x2048 : Shape := ⟨3, ![2, 256, 2048]⟩
abbrev S2048x6144 : Shape := ⟨2, ![2048, 6144]⟩
abbrev S4x2048x6144 : Shape := ⟨3, ![4, 2048, 6144]⟩
abbrev S4x2048x4096 : Shape := ⟨3, ![4, 2048, 4096]⟩
abbrev S_ : Shape := ⟨0, ![]⟩
abbrev S2048 : Shape := ⟨1, ![2048]⟩
abbrev S4x2048 : Shape := ⟨2, ![4, 2048]⟩
abbrev S4x2048x1 : Shape := ⟨3, ![4, 2048, 1]⟩
abbrev S1x1x2048 : Shape := ⟨3, ![1, 1, 2048]⟩
abbrev S4x16x128x16x128 : Shape := ⟨5, ![4, 16, 128, 16, 128]⟩
abbrev S128x128 : Shape := ⟨2, ![128, 128]⟩
abbrev S1x128x128 : Shape := ⟨3, ![1, 128, 128]⟩
abbrev S16x128x128 : Shape := ⟨3, ![16, 128, 128]⟩
abbrev S16x4x16x128x128 : Shape := ⟨5, ![16, 4, 16, 128, 128]⟩
abbrev S16x128 : Shape := ⟨2, ![16, 128]⟩
abbrev S128x16 : Shape := ⟨2, ![128, 16]⟩
abbrev S1x1x128x16x1 : Shape := ⟨5, ![1, 1, 128, 16, 1]⟩
abbrev S8192x2048 : Shape := ⟨2, ![8192, 2048]⟩
abbrev S1x2048x2048 : Shape := ⟨3, ![1, 2048, 2048]⟩
abbrev S2048x2048 : Shape := ⟨2, ![2048, 2048]⟩
abbrev S512x2048 : Shape := ⟨2, ![512, 2048]⟩

abbrev nBuf : Space → Nat
  | .hbm => 111
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S1x2048x6144, .f32⟩
  | .hbm, ⟨2, _⟩ => ⟨S1x2048, .f32⟩
  | .hbm, ⟨3, _⟩ => ⟨S1x2048, .f32⟩
  | .hbm, ⟨4, _⟩ => ⟨S1x16x128x128, .f32⟩
  | .hbm, ⟨5, _⟩ => ⟨S1x16x128, .f32⟩
  | .hbm, ⟨6, _⟩ => ⟨S2x2048x2048, .f32⟩
  | .hbm, ⟨7, _⟩ => ⟨S2x2048x2048, .f32⟩
  | .hbm, ⟨8, _⟩ => ⟨S2x256x2048, .f32⟩
  | .hbm, ⟨9, _⟩ => ⟨S2048x6144, .f32⟩
  | .hbm, ⟨10, _⟩ => ⟨S4x2048x6144, .f32⟩
  | .hbm, ⟨11, _⟩ => ⟨S4x2048x4096, .f32⟩
  | .hbm, ⟨12, _⟩ => ⟨S4x2048x4096, .f32⟩
  | .hbm, ⟨13, _⟩ => ⟨S4x2048x4096, .f32⟩
  | .hbm, ⟨14, _⟩ => ⟨S_, .f32⟩
  | .hbm, ⟨15, _⟩ => ⟨S4x2048x4096, .f32⟩
  | .hbm, ⟨16, _⟩ => ⟨S4x2048x4096, .f32⟩
  | .hbm, ⟨17, _⟩ => ⟨S4x2048x4096, .f32⟩
  | .hbm, ⟨18, _⟩ => ⟨S_, .f32⟩
  | .hbm, ⟨19, _⟩ => ⟨S4x2048x4096, .f32⟩
  | .hbm, ⟨20, _⟩ => ⟨S4x2048x4096, .f32⟩
  | .hbm, ⟨21, _⟩ => ⟨S4x2048x4096, .f32⟩
  | .hbm, ⟨22, _⟩ => ⟨S_, .f32⟩
  | .hbm, ⟨23, _⟩ => ⟨S4x2048x4096, .f32⟩
  | .hbm, ⟨24, _⟩ => ⟨S4x2048x4096, .f32⟩
  | .hbm, ⟨25, _⟩ => ⟨S_, .f32⟩
  | .hbm, ⟨26, _⟩ => ⟨S4x2048x4096, .f32⟩
  | .hbm, ⟨27, _⟩ => ⟨S4x2048x4096, .f32⟩
  | .hbm, ⟨28, _⟩ => ⟨S4x2048x4096, .f32⟩
  | .hbm, ⟨29, _⟩ => ⟨S4x2048x2048, .f32⟩
  | .hbm, ⟨30, _⟩ => ⟨S4x2048x2048, .f32⟩
  | .hbm, ⟨31, _⟩ => ⟨S4x2048x2048, .f32⟩
  | .hbm, ⟨32, _⟩ => ⟨S2048, .f32⟩
  | .hbm, ⟨33, _⟩ => ⟨S2048, .f32⟩
  | .hbm, ⟨34, _⟩ => ⟨S_, .f32⟩
  | .hbm, ⟨35, _⟩ => ⟨S4x2048, .f32⟩
  | .hbm, ⟨36, _⟩ => ⟨S4x2048x1, .f32⟩
  | .hbm, ⟨37, _⟩ => ⟨S_, .f32⟩
  | .hbm, ⟨38, _⟩ => ⟨S4x2048x1, .f32⟩
  | .hbm, ⟨39, _⟩ => ⟨S4x2048x1, .f32⟩
  | .hbm, ⟨40, _⟩ => ⟨S4x2048x2048, .f32⟩
  | .hbm, ⟨41, _⟩ => ⟨S4x2048x2048, .f32⟩
  | .hbm, ⟨42, _⟩ => ⟨S4x2048x2048, .f32⟩
  | .hbm, ⟨43, _⟩ => ⟨S_, .f32⟩
  | .hbm, ⟨44, _⟩ => ⟨S4x2048, .f32⟩
  | .hbm, ⟨45, _⟩ => ⟨S4x2048x1, .f32⟩
  | .hbm, ⟨46, _⟩ => ⟨S_, .f32⟩
  | .hbm, ⟨47, _⟩ => ⟨S4x2048x1, .f32⟩
  | .hbm, ⟨48, _⟩ => ⟨S4x2048x1, .f32⟩
  | .hbm, ⟨49, _⟩ => ⟨S4x2048x2048, .f32⟩
  | .hbm, ⟨50, _⟩ => ⟨S4x2048x2048, .f32⟩
  | .hbm, ⟨51, _⟩ => ⟨S_, .f32⟩
  | .hbm, ⟨52, _⟩ => ⟨S4x2048x1, .f32⟩
  | .hbm, ⟨53, _⟩ => ⟨S4x2048x1, .f32⟩
  | .hbm, ⟨54, _⟩ => ⟨S4x2048x1, .f32⟩
  | .hbm, ⟨55, _⟩ => ⟨S4x2048x2048, .f32⟩
  | .hbm, ⟨56, _⟩ => ⟨S4x2048x2048, .f32⟩
  | .hbm, ⟨57, _⟩ => ⟨S1x1x2048, .f32⟩
  | .hbm, ⟨58, _⟩ => ⟨S4x2048x2048, .f32⟩
  | .hbm, ⟨59, _⟩ => ⟨S4x2048x2048, .f32⟩
  | .hbm, ⟨60, _⟩ => ⟨S1x1x2048, .f32⟩
  | .hbm, ⟨61, _⟩ => ⟨S4x2048x2048, .f32⟩
  | .hbm, ⟨62, _⟩ => ⟨S4x2048x2048, .f32⟩
  | .hbm, ⟨63, _⟩ => ⟨S4x16x128x16x128, .f32⟩
  | .hbm, ⟨64, _⟩ => ⟨S_, .i1⟩
  | .hbm, ⟨65, _⟩ => ⟨S128x128, .i1⟩
  | .hbm, ⟨66, _⟩ => ⟨S128x128, .i32⟩
  | .hbm, ⟨67, _⟩ => ⟨S_, .i32⟩
  | .hbm, ⟨68, _⟩ => ⟨S128x128, .i32⟩
  | .hbm, ⟨69, _⟩ => ⟨S128x128, .i32⟩
  | .hbm, ⟨70, _⟩ => ⟨S128x128, .i32⟩
  | .hbm, ⟨71, _⟩ => ⟨S128x128, .i1⟩
  | .hbm, ⟨72, _⟩ => ⟨S_, .i1⟩
  | .hbm, ⟨73, _⟩ => ⟨S128x128, .i1⟩
  | .hbm, ⟨74, _⟩ => ⟨S128x128, .i1⟩
  | .hbm, ⟨75, _⟩ => ⟨S1x128x128, .i1⟩
  | .hbm, ⟨76, _⟩ => ⟨S16x128x128, .f32⟩
  | .hbm, ⟨77, _⟩ => ⟨S16x128x128, .f32⟩
  | .hbm, ⟨78, _⟩ => ⟨S_, .f32⟩
  | .hbm, ⟨79, _⟩ => ⟨S16x128x128, .f32⟩
  | .hbm, ⟨80, _⟩ => ⟨S16x128x128, .i1⟩
  | .hbm, ⟨81, _⟩ => ⟨S16x128x128, .f32⟩
  | .hbm, ⟨82, _⟩ => ⟨S16x4x16x128x128, .f32⟩
  | .hbm, ⟨83, _⟩ => ⟨S4x16x128x16x128, .f32⟩
  | .hbm, ⟨84, _⟩ => ⟨S16x128, .f32⟩
  | .hbm, ⟨85, _⟩ => ⟨S128x16, .f32⟩
  | .hbm, ⟨86, _⟩ => ⟨S1x1x128x16x1, .f32⟩
  | .hbm, ⟨87, _⟩ => ⟨S4x16x128x16x128, .f32⟩
  | .hbm, ⟨88, _⟩ => ⟨S4x16x128x16x128, .f32⟩
  | .hbm, ⟨89, _⟩ => ⟨S4x2048x2048, .f32⟩
  | .hbm, ⟨90, _⟩ => ⟨S4x2048x2048, .f32⟩
  | .hbm, ⟨91, _⟩ => ⟨S4x2048x2048, .f32⟩
  | .hbm, ⟨92, _⟩ => ⟨S4x2048x2048, .f32⟩
  | .hbm, ⟨93, _⟩ => ⟨S_, .f32⟩
  | .hbm, ⟨94, _⟩ => ⟨S4x2048x2048, .f32⟩
  | .hbm, ⟨95, _⟩ => ⟨S4x2048x2048, .f32⟩
  | .hbm, ⟨96, _⟩ => ⟨S_, .f32⟩
  | .hbm, ⟨97, _⟩ => ⟨S4x2048x2048, .f32⟩
  | .hbm, ⟨98, _⟩ => ⟨S4x2048x2048, .f32⟩
  | .hbm, ⟨99, _⟩ => ⟨S4x2048x2048, .f32⟩
  | .hbm, ⟨100, _⟩ => ⟨S4x2048x2048, .f32⟩
  | .hbm, ⟨101, _⟩ => ⟨S8192x2048, .f32⟩
  | .hbm, ⟨102, _⟩ => ⟨S8192x2048, .bf16⟩
  | .hbm, ⟨103, _⟩ => ⟨S1x2048x2048, .f32⟩
  | .hbm, ⟨104, _⟩ => ⟨S2048x2048, .f32⟩
  | .hbm, ⟨105, _⟩ => ⟨S2048x2048, .bf16⟩
  | .hbm, ⟨106, _⟩ => ⟨S1x2048x2048, .f32⟩
  | .hbm, ⟨107, _⟩ => ⟨S2048x2048, .f32⟩
  | .hbm, ⟨108, _⟩ => ⟨S2048x2048, .bf16⟩
  | .hbm, ⟨109, _⟩ => ⟨S512x2048, .f32⟩
  | .hbm, ⟨110, _⟩ => ⟨S512x2048, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_c : Ref sig .tc := ⟨.hbm, 64, rfl⟩
abbrev main_v46 : Ref sig .tc := ⟨.hbm, 65, rfl⟩
abbrev main_call0_v0 : Ref sig .tc := ⟨.hbm, 66, rfl⟩
abbrev main_call0_c : Ref sig .tc := ⟨.hbm, 67, rfl⟩
abbrev main_call0_v1 : Ref sig .tc := ⟨.hbm, 68, rfl⟩
abbrev main_call0_v2 : Ref sig .tc := ⟨.hbm, 69, rfl⟩
abbrev main_call0_v3 : Ref sig .tc := ⟨.hbm, 70, rfl⟩
abbrev main_call0_v4 : Ref sig .tc := ⟨.hbm, 71, rfl⟩
abbrev main_call0_c_0 : Ref sig .tc := ⟨.hbm, 72, rfl⟩
abbrev main_call0_v5 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_8 : Ref sig .tc := ⟨.hbm, 78, rfl⟩
abbrev main_v51 : Ref sig .tc := ⟨.hbm, 79, rfl⟩
abbrev main_call1_v0 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_call2_v0 : Ref sig .tc := ⟨.hbm, 91, rfl⟩
abbrev main_call2_v1 : Ref sig .tc := ⟨.hbm, 92, rfl⟩
abbrev main_call2_cst : Ref sig .tc := ⟨.hbm, 93, rfl⟩
abbrev main_call2_v2 : Ref sig .tc := ⟨.hbm, 94, rfl⟩
abbrev main_call2_v3 : Ref sig .tc := ⟨.hbm, 95, rfl⟩
abbrev main_call2_cst_0 : Ref sig .tc := ⟨.hbm, 96, rfl⟩
abbrev main_call2_v4 : Ref sig .tc := ⟨.hbm, 97, rfl⟩
abbrev main_call2_v5 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩

abbrev nD : Nat := 1
abbrev τ : Topo := Topo.v7x

variable {F : FTy → Type} [FloatOps F]
-- ==== Proof.Unit.lean ====
/- One unit of the attention kernel — one block of queries of one head — as vector operations, for a symbolic block
   number: what the kernel's straight line spells out thirty-two times. -/
module

public import proofs.«01_k».proof.Proof.Gen.KernelIdeal

@[expose] public section

noncomputable section

namespace Cert.KernelIdeal.Attn

open Cert.KernelIdeal Cert.KernelIdeal.Gen Idealize.ShloMosaic Idealize.SL.Sem

variable {F : FTy → Type} [FloatOps F]

/-- Row `n` of an `8 × 256` vector is a slice of it. -/
theorem slices_row (n : Nat) : S8x256.Slices ![n % 8, 0] S1x256 := by
  refine ⟨rfl, fun a => ?_⟩
  have := Nat.mod_lt n (by decide : 8 > 0)
  fin_cases a
  · show n % 8 + 1 ≤ 8; omega
  · show 0 + 256 ≤ 256; omega

/-- Row `n` of the block-by-query table. -/
def row (g : FVec F S8x256 .f32) (n : Nat) : FVec F S1x256 .f32 :=
  extractStridedSlice S1x256 ![n % 8, 0] g (slices_row n)

/-- The block number of each row of the block-by-query table. -/
def blkI : IVec S8x256 32 := iota .tc S8x256 32 [0] iota_S8x256_d0_w32

/-- Minus infinity. -/
def ninf : F .f32 := Scalar.ofBits .f32 0xFF800000#32

/-- Key at or before the query, inside one block. -/
def causal : IVec S256x256 1 :=
  cmpi .sle (iota .tc S256x256 32 [0] iota_S256x256_d0_w32) (iota .tc S256x256 32 [1] iota_S256x256_d1_w32)

/-- Scores of a block of keys (rows) against the block of queries (columns). -/
def score (qb kb : Vec F S256x128 .bf16) : FVec F S256x256 .f32 :=
  matmul dot_S256x128_S256x128_S256x256_1_1_0_0_n_n none (shapeCast S256x128 kb shapeCasts_S256x128_S256x128)
    (shapeCast S256x128 qb shapeCasts_S256x128_S256x128) (constant S256x256 .f32 0x00000000#32)

/-- The mean key of each block. -/
def kmean (kc : Vec F S2048x128 .bf16) : FVec F S8x128 .f32 :=
  divf (multiReduction .add [1] S8x128
      (shapeCast S8x256x128 (extf .f32 (shapeCast S2048x128 kc shapeCasts_S2048x128_S2048x128) bitsLt_bf16_f32)
        shapeCasts_S2048x128_S8x256x128) 0x00000000#32 reduces_S8x256x128_S8x128 (.inl rfl) rfl)
    (broadcast S8x128 (Scalar.ofBits .f32 0x43800000#32))

/-- The gate of each block for each query, minus infinity at the blocks not wholly past. -/
def gate (own : Nat) (km : FVec F S8x128 .f32) (qb : Vec F S256x128 .bf16) : FVec F S8x256 .f32 :=
  select (cmpi .slt blkI (broadcast S8x256 (BitVec.ofNat 32 own)))
    (matmul dot_S8x128_S256x128_S8x256_1_1_0_0_n_n none km
      (extf .f32 (shapeCast S256x128 qb shapeCasts_S256x128_S256x128) bitsLt_bf16_f32) (constant S8x256 .f32 0x00000000#32))
    (broadcast S8x256 ninf)

/-- How many of the first `n` blocks come before each block in the order of the gates, ties by block number. -/
def rank (g : FVec F S8x256 .f32) : Nat → IVec S8x256 32
  | 0 => broadcast S8x256 0#32
  | n + 1 => addi (rank g n)
      (select (ori (cmpf .ogt (broadcastTo S8x256 (row g n) broadcasts_S1x256_S8x256) g)
          (andi (cmpf .oeq (broadcastTo S8x256 (row g n) broadcasts_S1x256_S8x256) g)
            (cmpi .sgt blkI (broadcast S8x256 (BitVec.ofNat 32 n)))))
        (broadcast S8x256 1#32) (broadcast S8x256 0#32))

/-- Zero at the chosen blocks, minus infinity at the others. -/
def bias (own : Nat) (g : FVec F S8x256 .f32) : FVec F S8x256 .f32 :=
  select (andi (cmpi .slt (rank g own) (broadcast S8x256 3#32)) (cmpi .slt blkI (broadcast S8x256 (BitVec.ofNat 32 own))))
    (broadcast S8x256 (Scalar.ofBits .f32 0x00000000#32)) (broadcast S8x256 ninf)

/-- The own block's scores, minus infinity after the query. -/
def masked (s : FVec F S256x256 .f32) : FVec F S256x256 .f32 := select causal s (broadcast S256x256 ninf)

/-- The largest score of each query. -/
def colmax (s : FVec F S256x256 .f32) : FVec F S1x256 .f32 :=
  shapeCast S1x256 (multiReduction .maximumf [0] S256 s 0xFF800000#32 reduces_S256x256_S256 (.inl rfl) rfl) shapeCasts_S256_S1x256

/-- The largest of the own block's scores and the first `n` blocks', those biased. -/
def maxB (so : FVec F S256x256 .f32) (s : Nat → FVec F S256x256 .f32) (b : FVec F S8x256 .f32) : Nat → FVec F S1x256 .f32
  | 0 => colmax so
  | n + 1 => maximumf (maxB so s b n) (addf (colmax (s n)) (row b n))

/-- The largest of the own block's scores and the first `n` blocks'. -/
def maxA (so : FVec F S256x256 .f32) (s : Nat → FVec F S256x256 .f32) : Nat → FVec F S1x256 .f32
  | 0 => colmax so
  | n + 1 => maximumf (maxA so s n) (colmax (s n))

/-- One block added to the accumulator: its values (and the ones below them) times the powers of two of its shifted scores. -/
def accStep (a : FVec F S144x256 .f32) (s : FVec F S256x256 .f32) (sh : FVec F S1x256 .f32) (vt : Vec F S1x144x256 .bf16) :
    FVec F S144x256 .f32 :=
  addf a (matmul dot_S144x256_S256x256_S144x256_1_0_0_1_n_n none (shapeCast S144x256 vt shapeCasts_S1x144x256_S144x256)
    (truncf .bf16 (exp2 (subf s (broadcastTo S256x256 sh broadcasts_S1x256_S256x256))) bitsLt_bf16_f32)
    (constant S144x256 .f32 0x00000000#32))

/-- The first `n` blocks accumulated, each shifted by the maximum less its bias. -/
def accB (s : Nat → FVec F S256x256 .f32) (m : FVec F S1x256 .f32) (b : FVec F S8x256 .f32) (vt : Nat → Vec F S1x144x256 .bf16) :
    Nat → FVec F S144x256 .f32
  | 0 => broadcast S144x256 (Scalar.ofBits .f32 0x00000000#32)
  | n + 1 => accStep (accB s m b vt n) (s n) (subf m (row b n)) (vt n)

/-- The first `n` blocks accumulated, each shifted by the maximum. -/
def accA (s : Nat → FVec F S256x256 .f32) (m : FVec F S1x256 .f32) (vt : Nat → Vec F S1x144x256 .bf16) :
    Nat → FVec F S144x256 .f32
  | 0 => broadcast S144x256 (Scalar.ofBits .f32 0x00000000#32)
  | n + 1 => accStep (accA s m vt n) (s n) m (vt n)

/-- The accumulator's values over its row of sums, turned back to queries by columns and gated. -/
def finish (a : FVec F S144x256 .f32) (zb : Vec F S256x128 .bf16) : FVec F S256x128 .bf16 :=
  truncf .bf16 (mulf (transpose S256x128 [1, 0]
      (divf (extractStridedSlice S128x256 ![0, 0] a slices_S144x256_o0_0_S128x256)
        (broadcastTo S128x256 (extractStridedSlice S1x256 ![128, 0] a slices_S144x256_o128_0_S1x256) broadcasts_S1x256_S128x256))
      transposes_S128x256_p1_0_S256x128)
    (extf .f32 (shapeCast S256x128 zb shapeCasts_S256x128_S256x128) bitsLt_bf16_f32)) bitsLt_bf16_f32

/-- A unit whose past blocks are all taken. -/
def unitA (own : Nat) (qb : Vec F S256x128 .bf16) (kb : Nat → Vec F S256x128 .bf16) (vt : Nat → Vec F S1x144x256 .bf16)
    (zb : Vec F S256x128 .bf16) : FVec F S256x128 .bf16 :=
  let s := fun n => score qb (kb n)
  let so := masked (s own)
  let m := maxA so s own
  finish (accStep (accA s m vt own) so m (vt own)) zb

/-- A unit whose past blocks are chosen by their gates. -/
def unitB (own : Nat) (km : FVec F S8x128 .f32) (qb : Vec F S256x128 .bf16) (kb : Nat → Vec F S256x128 .bf16)
    (vt : Nat → Vec F S1x144x256 .bf16) (zb : Vec F S256x128 .bf16) : FVec F S256x128 .bf16 :=
  let s := fun n => score qb (kb n)
  let so := masked (s own)
  let b := bias own (gate own km qb)
  let m := maxB so s b own
  finish (accStep (accB s m b vt own) so m (vt own)) zb

end Cert.KernelIdeal.Attn

end
-- ==== Proof.Run.lean ====
/- The kernel's run as a list of units: what the straight line stores is, for each of the thirty-two pairs of a block of
   queries and a head, the unit of Unit.lean at that pair's loads. -/
module

public import proofs.«01_k».proof.Proof.Unit
public import proofs.«01_k».proof.Proof.Gen.KernelIdeal.Value

@[expose] public section

set_option maxRecDepth 65536

noncomputable section

namespace Cert.KernelIdeal.Attn

open Cert.KernelIdeal Cert.KernelIdeal.Gen Idealize.ShloMosaic Idealize.SL.Sem

variable {F : FTy → Type} [FloatOps F]

/-- The rectangle of block `n` of 256 rows and head `h` of 128 columns. -/
def box (n h : Nat) : Rect S2048x512 :=
  Rect.unit ![256 * (n % 8), 128 * (h % 4)] S256x128.size (by
    have h1 := Nat.mod_lt n (by decide : 8 > 0)
    have h2 := Nat.mod_lt h (by decide : 4 > 0)
    intro a
    fin_cases a
    · show 256 * (n % 8) + 256 ≤ 2048; omega
    · show 128 * (h % 4) + 128 ≤ 512; omega)

/-- The columns of head `h`. -/
def col (h : Nat) : Rect S2048x512 :=
  Rect.unit ![0, 128 * (h % 4)] S2048x128.size (by
    have h2 := Nat.mod_lt h (by decide : 4 > 0)
    intro a
    fin_cases a
    · show 0 + 2048 ≤ 2048; omega
    · show 128 * (h % 4) + 128 ≤ 512; omega)

/-- The rectangle of head `h`'s transposed values (and ones) at block `n` of positions. -/
def vbox (h n : Nat) : Rect S4x144x2048 :=
  Rect.unit ![h % 4, 0, 256 * (n % 8)] S1x144x256.size (by
    have h1 := Nat.mod_lt n (by decide : 8 > 0)
    have h2 := Nat.mod_lt h (by decide : 4 > 0)
    intro a
    fin_cases a
    · show h % 4 + 1 ≤ 4; omega
    · show 0 + 144 ≤ 144; omega
    · show 256 * (n % 8) + 256 ≤ 2048; omega)

/-- The rectangle of head `h`'s transposed values at block `n` of positions, without the ones. -/
def wbox (h n : Nat) : Rect S4x144x2048 :=
  Rect.unit ![h % 4, 0, 256 * (n % 8)] S1x128x256.size (by
    have h1 := Nat.mod_lt n (by decide : 8 > 0)
    have h2 := Nat.mod_lt h (by decide : 4 > 0)
    intro a
    fin_cases a
    · show h % 4 + 1 ≤ 4; omega
    · show 0 + 128 ≤ 144; omega
    · show 256 * (n % 8) + 256 ≤ 2048; omega)

/-- The rectangle of head `h`'s ones. -/
def obox (h : Nat) : Rect S4x144x2048 :=
  Rect.unit ![h % 4, 128, 0] S1x16x2048.size (by
    have h2 := Nat.mod_lt h (by decide : 4 > 0)
    intro a
    fin_cases a
    · show h % 4 + 1 ≤ 4; omega
    · show 128 + 16 ≤ 144; omega
    · show 0 + 2048 ≤ 2048; omega)

/-- What is stored of a block of values: transposed. -/
def vT (v : Vec F S256x128 .bf16) : Vec F S1x128x256 .bf16 :=
  shapeCast S1x128x256 (truncf .bf16 (transpose S128x256 [1, 0] (extf .f32 (shapeCast S256x128 v shapeCasts_S256x128_S256x128)
    bitsLt_bf16_f32) transposes_S256x128_p1_0_S128x256) bitsLt_bf16_f32) shapeCasts_S128x256_S1x128x256

/-- The ones stored below the values. -/
def onesT : Vec F S1x16x2048 .bf16 :=
  shapeCast S1x16x2048 (broadcast S16x2048 (Scalar.ofBits .bf16 0x3F80#16)) shapeCasts_S16x2048_S1x16x2048

section
variable (c : Dev nD) (i : grid0.Coords) (arg2 : Memref sig .tc .vmem S2048x512 .bf16) (harg2 : arg2.IsWhole)
  (arg3 : Memref sig .tc .vmem S2048x512 .bf16) (harg3 : arg3.IsWhole) (arg4 : Memref sig .tc .vmem S2048x512 .bf16)
  (harg4 : arg4.IsWhole) (arg5 : Memref sig .tc .vmem S2048x512 .bf16) (harg5 : arg5.IsWhole)
  (arg6 : Memref sig .tc .vmem S2048x512 .bf16) (harg6 : arg6.IsWhole) (arg7 : Memref sig .tc .vmem S4x144x2048 .bf16)
  (harg7 : arg7.IsWhole) (x0 x1 x2 x3 : Vec F S2048x512 .bf16)

/-- A block of an argument as the run loads it. -/
def rd (a : Memref sig .tc .vmem S2048x512 .bf16) (ha : a.IsWhole) (x : Vec F S2048x512 .bf16) (n h : Nat) :
    Vec F S256x128 .bf16 :=
  View.readAt (Elt F) a.view (box n h).toLoadRect (ha.unread x)

/-- A head's columns of an argument as the run loads them. -/
def cd (a : Memref sig .tc .vmem S2048x512 .bf16) (ha : a.IsWhole) (x : Vec F S2048x512 .bf16) (h : Nat) :
    Vec F S2048x128 .bf16 :=
  View.readAt (Elt F) a.view (col h).toLoadRect (ha.unread x)

/-- A store of the scratch buffer: a block's transposed values, or (at block 8) a head's ones. -/
def vpiece (a : Nat × Nat) : View.Piece (Elt F) S4x144x2048 .bf16 :=
  if a.2 = 8 then ⟨obox a.1, onesT⟩ else ⟨wbox a.1 a.2, vT (rd arg4 harg4 x2 a.2 a.1)⟩

/-- The stores of the scratch buffer, the last first. -/
def vorder : List (Nat × Nat) :=
  [(3, 8), (3, 7), (3, 6), (3, 5), (3, 4), (3, 3), (3, 2), (3, 1), (3, 0),
   (2, 8), (2, 7), (2, 6), (2, 5), (2, 4), (2, 3), (2, 2), (2, 1), (2, 0),
   (1, 8), (1, 7), (1, 6), (1, 5), (1, 4), (1, 3), (1, 2), (1, 1), (1, 0),
   (0, 8), (0, 7), (0, 6), (0, 5), (0, 4), (0, 3), (0, 2), (0, 1), (0, 0)]

/-- The scratch buffer's pieces. -/
abbrev vlist : List (View.Piece (Elt F) S4x144x2048 .bf16) := vorder.map (vpiece arg4 harg4 x2)

/-- A head's transposed values (and ones) of a block as the run loads them. -/
def vd (h n : Nat) : Vec F S1x144x256 .bf16 := arg7.view.readCov (vlist arg4 harg4 x2) (vbox h n).toLoadRect

/-- What the run stores of the unit at block `a.1` and head `a.2`. -/
def unit (a : Nat × Nat) : FVec F S256x128 .bf16 :=
  if a.1 ≤ 3 then unitA a.1 (rd arg2 harg2 x0 a.1 a.2) (fun n => rd arg3 harg3 x1 n a.2)
    (vd arg4 harg4 arg7 x2 a.2) (rd arg5 harg5 x3 a.1 a.2)
  else unitB a.1 (kmean (cd arg3 harg3 x1 a.2))
    (rd arg2 harg2 x0 a.1 a.2) (fun n => rd arg3 harg3 x1 n a.2)
    (vd arg4 harg4 arg7 x2 a.2) (rd arg5 harg5 x3 a.1 a.2)

/-- The order of the units, the last first. -/
def order : List (Nat × Nat) :=
  [(0, 3), (0, 2), (0, 1), (0, 0), (1, 3), (1, 2), (1, 1), (1, 0), (2, 3), (2, 2), (2, 1), (2, 0), (3, 3), (3, 2), (3, 1), (3, 0),
   (4, 3), (4, 2), (4, 1), (4, 0), (5, 3), (5, 2), (5, 1), (5, 0), (6, 3), (6, 2), (6, 1), (6, 0), (7, 3), (7, 2), (7, 1), (7, 0)]

/-- The scratch buffer's stores. -/
theorem vlist_eq : kernelRun0_A.sl.HS0_36 c arg4 harg4 x2 = vlist arg4 harg4 x2 := by
  sl_kernel_rfl

/-- The run's stores are the units'. -/
theorem run_eq : (kernelRun0_A c i arg2 harg2 arg3 harg3 arg4 harg4 arg5 harg5 arg6 harg6 arg7 harg7 x0 x1 x2 x3).1
    = order.map (fun a => ⟨box a.1 a.2, unit arg2 harg2 arg3 harg3 arg4 harg4 arg5 harg5 arg7 x0 x1 x2 x3 a⟩) := by
  sl_kernel_rfl

end

end Cert.KernelIdeal.Attn

end
-- ==== Proof.Spec.lean ====
/- The mathematics of the attention for one query of one head: the chosen blocks, the weights, and the two ways of
   adding them up (block by block, or slot by slot of the three best gates). -/
module

public import Idealize.ShloMosaic.PureOps.Ideal.Laws
public import Idealize.ShloMosaic.Lib.SortFacts

@[expose] public section

noncomputable section

namespace Cert.Moba

open Idealize.ShloMosaic Finset

/-- The pattern of minus infinity. -/
theorem bits_bot : Ideal.ofBits .f32 0xFF800000#32 = ⊥ := by simp [Ideal.ofBits, Ideal.ieee]

/-- The pattern of 2. -/
theorem bits_2 : Ideal.ofBits .f32 0x40000000#32 = ((2 : ℝ) : EReal) := by
  simp [Ideal.ofBits, Ideal.ieee, -EReal.coe_mul]; norm_num

/-- The pattern of 128. -/
theorem bits_128 : Ideal.ofBits .f32 0x43000000#32 = ((128 : ℝ) : EReal) := by
  simp [Ideal.ofBits, Ideal.ieee, -EReal.coe_mul]; norm_num

/-- The pattern of 256. -/
theorem bits_256 : Ideal.ofBits .f32 0x43800000#32 = ((256 : ℝ) : EReal) := by
  simp [Ideal.ofBits, Ideal.ieee, -EReal.coe_mul]; norm_num

/-- How many of the blocks before `own` come before block `n`: a larger gate, or the same and a smaller number. -/
def before (G : ℕ → ℝ) (own n : ℕ) : ℕ := ((range own).filter fun m => G n < G m ∨ (G m = G n ∧ m < n)).card

/-- Block `n` is one of the three best of the past ones. -/
def sel (G : ℕ → ℝ) (own n : ℕ) : Prop := n < own ∧ before G own n < 3

open Classical in
/-- The weight, before it is normalised, of key `k` of block `n` for the query at place `c` of block `own`. -/
def wt (S : ℕ → Fin 256 → ℝ) (G : ℕ → ℝ) (own c n : ℕ) (k : Fin 256) : ℝ :=
  if sel G own n ∨ (n = own ∧ k.val ≤ c) then Real.exp (S n k) else 0

/-- The sum of the weights. -/
def tot (S : ℕ → Fin 256 → ℝ) (G : ℕ → ℝ) (own c : ℕ) : ℝ := ∑ n ∈ range 8, ∑ k, wt S G own c n k

/-- The attention: the values by the normalised weights. -/
def att (S : ℕ → Fin 256 → ℝ) (G : ℕ → ℝ) (V : ℕ → Fin 256 → EReal) (own c : ℕ) : EReal :=
  ∑ n ∈ range 8, ∑ k, V n k * ((wt S G own c n k / tot S G own c : ℝ) : EReal)

variable {S : ℕ → Fin 256 → ℝ} {G : ℕ → ℝ} {V : ℕ → Fin 256 → EReal} {own c : ℕ}

/-- A weight is not negative. -/
theorem wt_nonneg (n : ℕ) (k : Fin 256) : 0 ≤ wt S G own c n k := by
  unfold wt; split_ifs
  · exact (Real.exp_pos _).le
  · exact le_rfl

/-- A block after the own has weight zero. -/
theorem wt_late {n : ℕ} (h : own < n) (k : Fin 256) : wt S G own c n k = 0 := by
  unfold wt
  rw [if_neg]
  rintro (h1 | h1)
  · exact absurd h1.1 (by omega)
  · omega

/-- The query's own key has a weight, so the sum is positive. -/
theorem tot_pos (h : own < 8) : 0 < tot S G own c := by
  refine sum_pos' (fun n _ => sum_nonneg fun k _ => wt_nonneg n k) ⟨own, mem_range.2 h, ?_⟩
  refine sum_pos' (fun k _ => wt_nonneg _ k) ⟨⟨0, by decide⟩, mem_univ _, ?_⟩
  unfold wt
  rw [if_pos (Or.inr ⟨rfl, Nat.zero_le _⟩)]
  exact Real.exp_pos _

/-- A sum over the blocks up to the query's own is a sum over all. -/
theorem sum_up_to {M : Type} [AddCommMonoid M] (h : own < 8) (f : ℕ → M) (hf : ∀ n, own < n → f n = 0) :
    ∑ n ∈ range (own + 1), f n = ∑ n ∈ range 8, f n :=
  sum_subset (range_mono (by omega)) fun n _ hn => hf n (by simpa using hn)

/-- A factor that is a nonnegative real comes out of a sum. -/
theorem sum_mul_coe {ι : Type} (s : Finset ι) (f : ι → EReal) (b : ℝ) (hb : 0 ≤ b) :
    (∑ i ∈ s, f i) * (b : EReal) = ∑ i ∈ s, f i * (b : EReal) := by
  classical
  induction s using Finset.induction_on with
  | empty => simp
  | insert a s ha ih =>
    rw [sum_insert ha, sum_insert ha, mul_comm, EReal.left_distrib_of_nonneg_of_ne_top (by exact_mod_cast hb)
      (EReal.coe_ne_top b), mul_comm, mul_comm (b : EReal), ih]

/-- A sum of real numbers is that sum in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

/-- The values and the ones accumulated block by block at a common shift, one over the other: the attention. -/
theorem div_eq_att (h : own < 8) (t : ℝ) (ht : 0 < t) :
    Ideal.div (∑ n ∈ range (own + 1), ∑ k, V n k * ((wt S G own c n k * t : ℝ) : EReal))
      (∑ n ∈ range (own + 1), ∑ k, (1 : EReal) * ((wt S G own c n k * t : ℝ) : EReal)) = att S G V own c := by
  have hz : ∀ n, own < n → ∑ k, V n k * ((wt S G own c n k * t : ℝ) : EReal) = 0 := fun n hn =>
    sum_eq_zero fun k _ => by rw [wt_late hn]; simp
  have hz1 : ∀ n, own < n → ∑ k, (1 : EReal) * ((wt S G own c n k * t : ℝ) : EReal) = 0 := fun n hn =>
    sum_eq_zero fun k _ => by rw [wt_late hn]; simp
  rw [sum_up_to h _ hz, sum_up_to h _ hz1]
  have hp := tot_pos (S := S) (G := G) (c := c) h
  have hd : ∑ n ∈ range 8, ∑ k, (1 : EReal) * ((wt S G own c n k * t : ℝ) : EReal) = ((tot S G own c * t : ℝ) : EReal) := by
    simp only [one_mul, ← coe_sum, tot, sum_mul]
  rw [hd, Ideal.div_coe (by positivity), sum_mul_coe _ _ _ (by positivity), att]
  refine sum_congr rfl fun n _ => ?_
  rw [sum_mul_coe _ _ _ (by positivity)]
  refine sum_congr rfl fun k _ => ?_
  rw [mul_assoc, ← EReal.coe_mul]
  congr 2
  field_simp

/-- The order of the blocks does not change when the gates are scaled. -/
theorem before_scale (r : ℝ) (hr : 0 < r) (n : ℕ) : before (fun m => r * G m) own n = before G own n := by
  unfold before
  congr 1
  refine filter_congr fun m _ => ?_
  simp only [mul_lt_mul_iff_right₀ hr, mul_right_inj' hr.ne']

/-- Scaling the gates by a positive number changes nothing. -/
theorem att_scale (r : ℝ) (hr : 0 < r) : att S (fun m => r * G m) V own c = att S G V own c := by
  have h : ∀ n k, wt S (fun m => r * G m) own c n k = wt S G own c n k := fun n k => by
    unfold wt sel; rw [before_scale r hr]
  unfold att tot
  simp only [h]

/-- Up to three past blocks are all chosen. -/
theorem sel_of_le (h : own ≤ 3) {n : ℕ} (hn : n < own) : sel G own n := by
  refine ⟨hn, ?_⟩
  have : before G own n ≤ ((range own).erase n).card := card_le_card fun m hm => by
    simp only [mem_filter, mem_range, mem_erase] at hm ⊢
    refine ⟨?_, hm.1⟩
    rintro rfl
    rcases hm.2 with h1 | h1
    · exact lt_irrefl _ h1
    · exact lt_irrefl _ h1.2
  rw [card_erase_of_mem (mem_range.2 hn), card_range] at this
  omega

/-! ## The three best by a stable sort -/

section Slots

variable (g : Fin 8 → EReal)

/-- `a` stands before `b`: a larger key, or the same and a smaller position. -/
def T (a b : Fin 8) : Prop := g b < g a ∨ (g a = g b ∧ a < b)

/-- Inserting into a sorted list keeps it sorted. -/
theorem pairwise_insert (a : Fin 8) (l : List (Fin 8)) (hl : l.Pairwise (T g)) (ha : ∀ b ∈ l, a < b) :
    (insertBefore (fun x y => decide (g y < g x)) a l).Pairwise (T g) := by
  induction l with
  | nil => exact List.pairwise_singleton _ _
  | cons b l ih =>
    rw [List.pairwise_cons] at hl
    unfold insertBefore
    split
    · rename_i hb
      rw [decide_eq_true_eq] at hb
      rw [List.pairwise_cons]
      refine ⟨fun x hx => ?_, ih hl.2 fun x hx => ha x (List.mem_cons_of_mem _ hx)⟩
      rcases List.mem_cons.1 ((perm_insertBefore _ _ _).mem_iff.1 hx) with rfl | hx
      · exact Or.inl hb
      · exact hl.1 x hx
    · rename_i hb
      rw [decide_eq_true_eq, not_lt] at hb
      have hab : T g a b := by
        rcases hb.lt_or_eq with h | h
        · exact Or.inl h
        · exact Or.inr ⟨h.symm, ha b List.mem_cons_self⟩
      rw [List.pairwise_cons, List.pairwise_cons]
      refine ⟨fun x hx => ?_, hl⟩
      rcases List.mem_cons.1 hx with rfl | hx'
      · exact hab
      · have hax := ha x hx
        have hbx := hl.1 x hx'
        rcases hab with h1 | h1 <;> rcases hbx with h2 | h2
        · exact Or.inl (h2.trans h1)
        · exact Or.inl (h2.1 ▸ h1)
        · exact Or.inl (h1.1 ▸ h2)
        · exact Or.inr ⟨h1.1.trans h2.1, hax⟩

/-- The stable sort's list is sorted. -/
theorem pairwise_sort (l : List (Fin 8)) (hl : l.Pairwise (· < ·)) :
    (stableSort (fun x y => decide (g y < g x)) l).Pairwise (T g) := by
  induction l with
  | nil => exact List.Pairwise.nil
  | cons a l ih =>
    rw [List.pairwise_cons] at hl
    unfold stableSort
    exact pairwise_insert g a _ (ih hl.2) fun b hb => hl.1 b ((perm_stableSort _ _).mem_iff.1 hb)

/-- The position whose key the stable sort puts at `k`. -/
abbrev src (k : Fin 8) : Fin 8 := sortedFrom (fun x y => decide (g y < g x)) k

/-- The sort puts better blocks first. -/
theorem src_lt {i j : Fin 8} (hij : i < j) : T g (src g i) (src g j) := by
  have hp := List.pairwise_iff_get.mp (pairwise_sort g (List.finRange 8) (List.pairwise_lt_finRange 8))
  exact hp (i.cast (length_sortPositions 8 _).symm) (j.cast (length_sortPositions 8 _).symm) hij

/-- Of two blocks at most one is better. -/
theorem T_asymm {a b : Fin 8} (h : T g a b) : ¬ T g b a := by
  rintro (h2 | h2) <;> rcases h with h1 | h1
  · exact lt_asymm h1 h2
  · exact h2.ne h1.1
  · exact h1.ne h2.1
  · exact absurd h1.2 (by have := h2.2; omega)

open Classical in
/-- The place of a position in the sort is the number of those before it. -/
theorem rank_src (i : Fin 8) : (univ.filter fun m => T g m (src g i)).card = i.val := by
  have h : (univ.filter fun m => T g m (src g i)) = (Finset.Iio i).image (src g) := by
    ext m
    simp only [mem_filter, mem_univ, true_and, mem_image, mem_Iio]
    constructor
    · intro hm
      obtain ⟨j, rfl⟩ := sortedFrom_surjective (fun x y => decide (g y < g x)) m
      refine ⟨j, ?_, rfl⟩
      rcases lt_trichotomy j i with h | rfl | h
      · exact h
      · exact absurd hm (T_asymm g hm)
      · exact absurd hm (T_asymm g (src_lt g h))
    · rintro ⟨j, hj, rfl⟩
      exact src_lt g hj
  rw [h, card_image_of_injective _ (sortedFrom_injective _), Fin.card_Iio]

variable {g} (hg : ∀ n : Fin 8, g n = if n.val < own then (G n.val : EReal) else ⊥)
include hg

open Classical in
/-- The rank of a block before the own is the count of better ones before the own. -/
theorem rank_early {n : Fin 8} (hn : n.val < own) (hown : own ≤ 8) :
    (univ.filter fun m => T g m n).card = before G own n.val := by
  unfold before
  rw [← card_image_of_injective _ Fin.val_injective]
  congr 1
  ext m
  simp only [mem_image, mem_filter, mem_univ, true_and, mem_range]
  constructor
  · rintro ⟨m, hm, rfl⟩
    unfold T at hm
    rw [hg m, hg n, if_pos hn] at hm
    by_cases h : m.val < own
    · rw [if_pos h] at hm
      exact ⟨h, hm.imp (fun h => by exact_mod_cast h) fun h => ⟨by exact_mod_cast h.1, h.2⟩⟩
    · rw [if_neg h] at hm
      rcases hm with h1 | h1
      · exact absurd h1 (by simp)
      · exact absurd h1.1 (by simp)
  · rintro ⟨hm, h⟩
    refine ⟨⟨m, by omega⟩, ?_, rfl⟩
    unfold T
    rw [hg ⟨m, by omega⟩, hg n, if_pos hn, if_pos hm]
    exact h.imp (fun h => by exact_mod_cast h) fun h => ⟨by exact_mod_cast h.1, h.2⟩

open Classical in
/-- A block not before the own has every earlier block above it. -/
theorem rank_late {n : Fin 8} (hn : own ≤ n.val) : own ≤ (univ.filter fun m => T g m n).card := by
  have h : range own ⊆ (univ.filter fun m => T g m n).image Fin.val := fun m hm => by
    rw [mem_range] at hm
    refine mem_image.2 ⟨⟨m, by omega⟩, mem_filter.2 ⟨mem_univ _, Or.inl ?_⟩, rfl⟩
    rw [hg, hg, if_pos hm, if_neg (by omega)]
    exact EReal.bot_lt_coe _
  have := card_le_card h
  rwa [card_range, card_image_of_injective _ Fin.val_injective] at this

/-- A slot that counts holds a chosen block. -/
theorem src_sel (hown : own ≤ 8) (j : Fin 3) (hj : j.val < own) : sel G own (src g ⟨j.val, by omega⟩).val := by
  classical
  have h := rank_src g ⟨j.val, by omega⟩
  have hn : (src g ⟨j.val, by omega⟩).val < own := by
    by_contra hc
    have := rank_late hg (not_lt.1 hc)
    rw [h] at this
    simp only at this
    omega
  refine ⟨hn, ?_⟩
  rw [← rank_early hg hn hown, h]
  exact j.isLt

/-- Every chosen block is in a slot that counts. -/
theorem sel_src (hown : own ≤ 8) {n : ℕ} (hn : sel G own n) : ∃ j : Fin 3, j.val < own ∧ (src g ⟨j.val, by omega⟩).val = n := by
  classical
  have hn8 : n < 8 := by have := hn.1; omega
  obtain ⟨i, hi⟩ := sortedFrom_surjective (fun x y => decide (g y < g x)) ⟨n, hn8⟩
  have h := rank_src g i
  have hr := rank_early hg (n := ⟨n, hn8⟩) hn.1 hown
  rw [show src g i = ⟨n, hn8⟩ from hi, hr] at h
  have h3 : i.val < 3 := by rw [← h]; exact hn.2
  refine ⟨⟨i.val, h3⟩, ?_, ?_⟩
  · show i.val < own
    rw [← h]
    have : before G own n ≤ ((range own).erase n).card := card_le_card fun m hm => by
      simp only [mem_filter, mem_range, mem_erase] at hm ⊢
      refine ⟨?_, hm.1⟩
      rintro rfl
      rcases hm.2 with h1 | h1
      · exact lt_irrefl _ h1
      · exact lt_irrefl _ h1.2
    rw [card_erase_of_mem (mem_range.2 hn.1), card_range] at this
    have := hn.1
    show before G own n < own
    omega
  · exact congrArg Fin.val hi

open Classical in
/-- A sum over the slots that count is the sum over the chosen blocks. -/
theorem sum_slots {M : Type} [AddCommMonoid M] (hown : own ≤ 8) (f : ℕ → M) :
    ∑ j : Fin 3, (if j.val < own then f (src g ⟨j.val, by omega⟩).val else 0)
      = ∑ n ∈ range own, if sel G own n then f n else 0 := by
  rw [← sum_filter, ← sum_filter]
  refine sum_bij (fun j _ => (src g ⟨j.val, by omega⟩).val) ?_ ?_ ?_ ?_
  · intro j hj
    have h := src_sel hg hown j (mem_filter.1 hj).2
    exact mem_filter.2 ⟨mem_range.2 h.1, h⟩
  · intro i _ j _ h
    have := sortedFrom_injective _ (Fin.val_injective h)
    exact Fin.ext (Fin.mk.inj this)
  · intro n hn
    obtain ⟨j, hj, rfl⟩ := sel_src hg hown (mem_filter.1 hn).2
    exact ⟨j, mem_filter.2 ⟨mem_univ _, hj⟩, rfl⟩
  · intro j _; rfl

/-- Weights by block are weights by slot and the query's own block. -/
theorem sum_wt {M : Type} [AddCommMonoid M] (hown : own < 8) (f : ℕ → Fin 256 → ℝ → M) (hf : ∀ n k, f n k 0 = 0) :
    (∑ j : Fin 3, ∑ k, f (src g ⟨j.val, by omega⟩).val k (if j.val < own then Real.exp (S (src g ⟨j.val, by omega⟩).val k) else 0))
      + ∑ k : Fin 256, f own k (if k.val ≤ c then Real.exp (S own k) else 0)
      = ∑ n ∈ range 8, ∑ k, f n k (wt S G own c n k) := by
  classical
  rw [← sum_up_to hown (fun n => ∑ k, f n k (wt S G own c n k)) fun n hn => sum_eq_zero fun k _ => by rw [wt_late hn, hf],
    sum_range_succ]
  congr 1
  · rw [show (∑ j : Fin 3, ∑ k, f (src g ⟨j.val, by omega⟩).val k
          (if j.val < own then Real.exp (S (src g ⟨j.val, by omega⟩).val k) else 0))
        = ∑ j : Fin 3, (if j.val < own then (fun n => ∑ k, f n k (Real.exp (S n k))) (src g ⟨j.val, by omega⟩).val else 0) from
      sum_congr rfl fun j _ => by
        split_ifs
        · rfl
        · exact sum_eq_zero fun k _ => hf _ _]
    refine (sum_slots hg hown.le fun n => ∑ k, f n k (Real.exp (S n k))).trans ?_
    refine sum_congr rfl fun n hn => ?_
    have hn' := mem_range.1 hn
    by_cases hs : sel G own n
    · rw [if_pos hs]
      exact sum_congr rfl fun k _ => by unfold wt; rw [if_pos (Or.inl hs)]
    · rw [if_neg hs]
      refine (sum_eq_zero fun k _ => ?_).symm
      unfold wt
      rw [if_neg, hf]
      rintro (h | h)
      · exact hs h
      · omega
  · refine sum_congr rfl fun k _ => ?_
    unfold wt
    have : ¬ sel G own own := fun h => absurd h.1 (lt_irrefl _)
    simp only [this, false_or, true_and]

/-- The softmax over the slots and the query's own block, at any finite shift, by the values: the attention. -/
theorem slots_eq_att (hown : own < 8) (M L : ℝ)
    (hL : L = (∑ j : Fin 3, ∑ k : Fin 256, if j.val < own then Real.exp (S (src g ⟨j.val, by omega⟩).val k - M) else 0)
      + ∑ k : Fin 256, if k.val ≤ c then Real.exp (S own k - M) else 0) :
    (∑ j : Fin 3, ∑ k : Fin 256, (((if j.val < own then Real.exp (S (src g ⟨j.val, by omega⟩).val k - M) else 0) / L : ℝ) : EReal)
        * V (src g ⟨j.val, by omega⟩).val k)
      + ∑ k : Fin 256, (((if k.val ≤ c then Real.exp (S own k - M) else 0) / L : ℝ) : EReal) * V own k = att S G V own c := by
  have e : ∀ (p : Prop) [Decidable p] (x : ℝ), (if p then Real.exp (x - M) else 0) = (if p then Real.exp x else 0) * Real.exp (-M) :=
    fun p _ x => by
      split_ifs
      · rw [sub_eq_add_neg, Real.exp_add]
      · rw [zero_mul]
  simp only [e] at hL ⊢
  have hL' : L = tot S G own c * Real.exp (-M) := by
    rw [hL, sum_wt (c := c) hg hown (fun _ _ w => w * Real.exp (-M)) (fun _ _ => zero_mul _), tot, sum_mul]
    exact sum_congr rfl fun n _ => (sum_mul _ _ _).symm
  have hq : ∀ w : ℝ, w * Real.exp (-M) / L = w / tot S G own c := fun w => by
    rw [hL']; exact mul_div_mul_right _ _ (Real.exp_pos _).ne'
  simp only [hq]
  rw [sum_wt (c := c) hg hown (fun n k w => ((w / tot S G own c : ℝ) : EReal) * V n k) (fun n k => by simp), att]
  exact sum_congr rfl fun n _ => sum_congr rfl fun k _ => mul_comm _ _

end Slots

end Cert.Moba

end
-- ==== Proof.UnitIdeal.lean ====
/- A unit of the kernel over the extended reals: with finite queries and keys it is the attention of Spec.lean. -/
module

public import proofs.«01_k».proof.Proof.Unit
public import proofs.«01_k».proof.Proof.Spec
public import Idealize.ShloMosaic.Lib.Pointwise
public import Idealize.ShloMosaic.Lib.WordCmp

@[expose] public section

set_option maxRecDepth 16384

noncomputable section

namespace Cert.KernelIdeal.Attn

open Cert.KernelIdeal Cert.KernelIdeal.Gen Idealize.ShloMosaic Idealize.SL.Sem Cert.Moba

/-- The signed comparison of small words is that of their numbers. -/
theorem slt_nat {a b : Nat} (ha : a < 8) (hb : b < 8) :
    IntOp.cmpi .slt (BitVec.ofNat 32 a) (BitVec.ofNat 32 b) = BitVec.ofBool (decide (a < b)) :=
  WordCmp.cmpi_slt_ofNat (by omega) (by omega)

/-- A score at an index. -/
theorem score_apply (qb kb : Vec Ideal S256x128 .bf16) (k c : Fin 256) :
    score qb kb (ix2 k c) = ∑ e : Fin 128, kb (ix2 k e) * qb (ix2 c e) := by pointwise [score]

/-- The causal mask at an index. -/
theorem causal_apply (k c : Fin 256) : causal (ix2 k c) = BitVec.ofBool (decide (k.val ≤ c.val)) := by
  pointwise [causal]
  exact WordCmp.cmpi_sle_ofNat (by omega) (by omega)

/-- A mean of a block's keys at an index. -/
theorem kmean_apply (kc : Vec Ideal S2048x128 .bf16) (n : Fin 8) (e : Fin 128) :
    kmean kc (ix2 n e) = Ideal.div (∑ r : Fin 256, kc (ix2 ⟨n.val * 256 + r.val, by omega⟩ e)) ((256 : ℝ) : EReal) := by
  rw [← bits_256]
  pointwise [kmean]

/-- A row of the gates at an index. -/
theorem row_apply (g : FVec Ideal S8x256 .f32) (n : Nat) (hn : n < 8) (c : Fin 256) : row g n (ix2 0 c) = g (ix2 ⟨n, hn⟩ c) := by
  pointwise [row]
  simp only [Nat.mod_eq_of_lt hn]

/-- A gate at an index: masked from the own block on. -/
theorem gate_apply (own : Nat) (hown : own < 8) (km : FVec Ideal S8x128 .f32) (qb : Vec Ideal S256x128 .bf16) (n : Fin 8) (c : Fin 256) :
    gate own km qb (ix2 n c) = if n.val < own then ∑ e : Fin 128, km (ix2 n e) * qb (ix2 c e) else ⊥ := by
  pointwise [gate, blkI, ninf]
  rw [bits_bot, slt_nat n.isLt hown, WordCmp.select_ofBool]
  simp only [decide_eq_true_eq]

/-- The running count counts. -/
theorem rank_apply (g : FVec Ideal S8x256 .f32) (G : ℕ → ℝ) (own : Nat) (hown : own < 8) (c : Fin 256)
    (hg : ∀ n : Fin 8, n.val < own → g (ix2 n c) = (G n.val : EReal)) (b : Fin 8) (hb : b.val < own) :
    ∀ n, n ≤ own → rank g n (ix2 b c)
      = BitVec.ofNat 32 ((Finset.range n).filter fun m => G b.val < G m ∨ (G m = G b.val ∧ m < b.val)).card := by
  intro n
  induction n with
  | zero => intro _; rfl
  | succ n ih =>
    intro hn
    have hn8 : n < 8 := by omega
    pointwise [rank, row, blkI]
    rw [ih (by omega)]
    simp only [Nat.mod_eq_of_lt hn8]
    rw [hg b hb, hg ⟨n, hn8⟩ (show n < own by omega), WordCmp.cmpi_sgt_ofNat (by omega) (by omega), WordCmp.andi_ofBool,
      WordCmp.ori_ofBool, WordCmp.select_ofBool, Finset.range_add_one, Finset.filter_insert]
    simp only [Bool.or_eq_true, Bool.and_eq_true, decide_eq_true_eq, EReal.coe_lt_coe_iff, EReal.coe_eq_coe_iff]
    split_ifs
    · rw [Finset.card_insert_of_notMem (by simp), BitVec.ofNat_add]; rfl
    · exact BitVec.add_zero _

/-- The bias of a block before the own: zero with fewer than three better ones, else minus infinity. -/
theorem bias_apply (g : FVec Ideal S8x256 .f32) (G : ℕ → ℝ) (own : Nat) (hown : own < 8) (c : Fin 256)
    (hg : ∀ n : Fin 8, n.val < own → g (ix2 n c) = (G n.val : EReal)) (b : Fin 8) (hb : b.val < own) :
    bias own g (ix2 b c) = if before G own b.val < 3 then 0 else ⊥ := by
  have hlt : before G own b.val ≤ own := by
    unfold before
    exact (Finset.card_filter_le _ _).trans (by rw [Finset.card_range])
  pointwise [bias, blkI, ninf]
  rw [rank_apply g G own hown c hg b hb own le_rfl, bits_bot, slt_nat b.isLt hown, decide_eq_true hb]
  change Scalar.select (IntOp.andi (IntOp.cmpi .slt (BitVec.ofNat 32 (before G own b.val)) (BitVec.ofNat 32 3)) _) _ _ = _
  rw [WordCmp.cmpi_slt_ofNat (by omega) (by omega), WordCmp.andi_ofBool, WordCmp.select_ofBool]
  simp only [Bool.and_true, decide_eq_true_eq]

/-- A masked score at an index. -/
theorem masked_apply (s : FVec Ideal S256x256 .f32) (k c : Fin 256) :
    masked s (ix2 k c) = if k.val ≤ c.val then s (ix2 k c) else ⊥ := by
  pointwise [masked, ninf]
  rw [causal_apply, bits_bot, WordCmp.select_ofBool]
  simp only [decide_eq_true_eq]

/-- The greatest of a column. -/
theorem colmax_apply (s : FVec Ideal S256x256 .f32) (c : Fin 256) :
    colmax s (ix2 0 c) = Finset.fold max ⊥ (fun k : Fin 256 => s (ix2 k c)) Finset.univ := by
  rw [← bits_bot]
  pointwise [colmax]

/-- The greatest of a column that stays below infinity does too. -/
theorem colmax_lt (s : FVec Ideal S256x256 .f32) (c : Fin 256) (h : ∀ k, s (ix2 k c) < ⊤) : colmax s (ix2 0 c) < ⊤ := by
  rw [colmax_apply, Finset.fold_max_lt]
  exact ⟨bot_lt_top, fun k _ => h k⟩

/-- The greatest of a column with an entry above minus infinity is above it too. -/
theorem colmax_gt (s : FVec Ideal S256x256 .f32) (c : Fin 256) (k : Fin 256) (h : ⊥ < s (ix2 k c)) : ⊥ < colmax s (ix2 0 c) := by
  rw [colmax_apply, Finset.lt_fold_max]
  exact Or.inr ⟨k, Finset.mem_univ _, h⟩

section Max
variable (so : FVec Ideal S256x256 .f32) (s : Nat → FVec Ideal S256x256 .f32) (b : FVec Ideal S8x256 .f32) (own : Nat) (c : Fin 256)
  (h1 : ∀ k, so (ix2 k c) < ⊤) (h2 : ⊥ < so (ix2 c c)) (h3 : ∀ n k, s n (ix2 k c) < ⊤)
include h1 h2 h3

/-- The maximum over all blocks is a real number. -/
theorem maxA_real : ∀ n, ∃ M : ℝ, maxA so s n (ix2 0 c) = (M : EReal) := by
  suffices h : ∀ n, ⊥ < maxA so s n (ix2 0 c) ∧ maxA so s n (ix2 0 c) < ⊤ from fun n =>
    ⟨_, (EReal.coe_toReal (h n).2.ne (h n).1.ne').symm⟩
  intro n
  induction n with
  | zero => exact ⟨colmax_gt so c c h2, colmax_lt so c h1⟩
  | succ n ih =>
    have e : maxA so s (n + 1) (ix2 0 c) = max (maxA so s n (ix2 0 c)) (colmax (s n) (ix2 0 c)) := by pointwise [maxA]
    rw [e]
    exact ⟨lt_max_of_lt_left ih.1, max_lt ih.2 (colmax_lt _ c (h3 n))⟩

/-- So is the maximum of the biased blocks. -/
theorem maxB_real (hown : own < 8) (h4 : ∀ n : Fin 8, n.val < own → b (ix2 n c) < ⊤) :
    ∀ n, n ≤ own → ∃ M : ℝ, maxB so s b n (ix2 0 c) = (M : EReal) := by
  suffices h : ∀ n, n ≤ own → ⊥ < maxB so s b n (ix2 0 c) ∧ maxB so s b n (ix2 0 c) < ⊤ from fun n hn =>
    ⟨_, (EReal.coe_toReal (h n hn).2.ne (h n hn).1.ne').symm⟩
  intro n
  induction n with
  | zero => intro _; exact ⟨colmax_gt so c c h2, colmax_lt so c h1⟩
  | succ n ih =>
    intro hn
    have e : maxB so s b (n + 1) (ix2 0 c) = max (maxB so s b n (ix2 0 c)) (colmax (s n) (ix2 0 c) + row b n (ix2 0 c)) := by
      pointwise [maxB]
    rw [e]
    refine ⟨lt_max_of_lt_left (ih (by omega)).1, max_lt (ih (by omega)).2 ?_⟩
    rw [row_apply b n (by omega)]
    exact EReal.add_lt_top (colmax_lt _ c (h3 n)).ne (h4 ⟨n, by omega⟩ (show n < own by omega)).ne

end Max

/-- One block's step of the accumulator, at an index. -/
theorem accStep_apply (a : FVec Ideal S144x256 .f32) (s : FVec Ideal S256x256 .f32) (sh : FVec Ideal S1x256 .f32)
    (vt : Vec Ideal S1x144x256 .bf16) (r : Fin 144) (c : Fin 256) :
    accStep a s sh vt (ix2 r c) = a (ix2 r c) + ∑ k : Fin 256, vt (ix3 0 r k) * Ideal.exp2 (s (ix2 k c) - sh (ix2 0 c)) := by
  pointwise [accStep]
  rfl

/-- The division and gating at the end, at an index. -/
theorem finish_apply (a : FVec Ideal S144x256 .f32) (zb : Vec Ideal S256x128 .bf16) (c : Fin 256) (d : Fin 128) :
    finish a zb (ix2 c d) = Ideal.div (a (ix2 ⟨d.val, by omega⟩ c)) (a (ix2 128 c)) * zb (ix2 c d) := by
  pointwise [finish]

/-- The accumulator after `n` blocks, the weights named. -/
theorem accB_apply (s : Nat → FVec Ideal S256x256 .f32) (m : FVec Ideal S1x256 .f32) (b : FVec Ideal S8x256 .f32)
    (vt : Nat → Vec Ideal S1x144x256 .bf16) (W : ℕ → Fin 256 → EReal) (own : Nat) (c : Fin 256)
    (h : ∀ n < own, ∀ k, Ideal.exp2 (s n (ix2 k c) - (m (ix2 0 c) - row b n (ix2 0 c))) = W n k) (r : Fin 144) :
    ∀ n, n ≤ own → accB s m b vt n (ix2 r c) = ∑ n' ∈ Finset.range n, ∑ k, vt n' (ix3 0 r k) * W n' k := by
  intro n
  induction n with
  | zero => intro _; pointwise [accB]; rw [Finset.sum_range_zero]
  | succ n ih =>
    intro hn
    rw [accB, accStep_apply, ih (by omega), Finset.sum_range_succ]
    congr 1
    refine Finset.sum_congr rfl fun k _ => ?_
    rw [← h n (by omega) k]
    pointwise

/-- The accumulator over the blocks, at an index. -/
theorem accA_apply (s : Nat → FVec Ideal S256x256 .f32) (m : FVec Ideal S1x256 .f32)
    (vt : Nat → Vec Ideal S1x144x256 .bf16) (W : ℕ → Fin 256 → EReal) (own : Nat) (c : Fin 256)
    (h : ∀ n < own, ∀ k, Ideal.exp2 (s n (ix2 k c) - m (ix2 0 c)) = W n k) (r : Fin 144) :
    ∀ n, n ≤ own → accA s m vt n (ix2 r c) = ∑ n' ∈ Finset.range n, ∑ k, vt n' (ix3 0 r k) * W n' k := by
  intro n
  induction n with
  | zero => intro _; pointwise [accA]; rw [Finset.sum_range_zero]
  | succ n ih =>
    intro hn
    rw [accA, accStep_apply, ih (by omega), Finset.sum_range_succ]
    congr 1
    refine Finset.sum_congr rfl fun k _ => ?_
    rw [← h n (by omega) k]

/-- A power of two of a shifted score is the exponential of the score scaled, times a common factor. -/
theorem exp2_shift (x M : ℝ) : Ideal.exp2 ((x : EReal) - (M : EReal)) = ((Real.exp (Real.log 2 * x) * (2 : ℝ) ^ (-M) : ℝ) : EReal) := by
  rw [← EReal.coe_sub, Ideal.exp2_coe]
  congr 1
  show (2 : ℝ) ^ (x - M) = _
  rw [sub_eq_add_neg, Real.rpow_add (by norm_num), Real.rpow_def_of_pos (by norm_num) x]

section Unit
variable (own : Nat) (hown : own < 8) (c : Fin 256) (d : Fin 128) (km : FVec Ideal S8x128 .f32) (qb : Vec Ideal S256x128 .bf16)
  (kb : Nat → Vec Ideal S256x128 .bf16) (vt : Nat → Vec Ideal S1x144x256 .bf16) (zb : Vec Ideal S256x128 .bf16)
  (S : ℕ → Fin 256 → ℝ) (G : ℕ → ℝ)
  (hS : ∀ n k, ∑ e : Fin 128, kb n (ix2 k e) * qb (ix2 c e) = (S n k : EReal))
  (h1 : ∀ n k, vt n (ix3 0 128 k) = 1)
include hown hS h1

/-- The own block's weights, and the finish, common to both kinds of unit. -/
theorem finish_att (m : FVec Ideal S1x256 .f32) (M : ℝ) (hM : m (ix2 0 c) = (M : EReal)) (a : FVec Ideal S144x256 .f32)
    (ha : ∀ r, a (ix2 r c) = ∑ n ∈ Finset.range own, ∑ k, vt n (ix3 0 r k)
      * ((wt (fun n k => Real.log 2 * S n k) G own c.val n k * (2 : ℝ) ^ (-M) : ℝ) : EReal)) :
    finish (accStep a (masked (score qb (kb own))) m (vt own)) zb (ix2 c d)
      = att (fun n k => Real.log 2 * S n k) G (fun n k => vt n (ix3 0 ⟨d.val, by omega⟩ k)) own c.val * zb (ix2 c d) := by
  have hacc : ∀ r, accStep a (masked (score qb (kb own))) m (vt own) (ix2 r c)
      = ∑ n ∈ Finset.range (own + 1), ∑ k, vt n (ix3 0 r k)
        * ((wt (fun n k => Real.log 2 * S n k) G own c.val n k * (2 : ℝ) ^ (-M) : ℝ) : EReal) := fun r => by
    rw [accStep_apply, ha, Finset.sum_range_succ]
    congr 1
    refine Finset.sum_congr rfl fun k _ => congrArg _ ?_
    rw [masked_apply, score_apply, hS, hM]
    have : ¬ sel G own own := fun h => absurd h.1 (lt_irrefl _)
    unfold wt
    simp only [this, false_or, true_and]
    split_ifs
    · exact exp2_shift _ _
    · simp
  rw [finish_apply, hacc, hacc]
  simp only [h1]
  rw [div_eq_att hown _ (by positivity)]

/-- A unit whose past blocks are all taken is the attention. -/
theorem unitA_apply (h3 : own ≤ 3) :
    unitA own qb kb vt zb (ix2 c d)
      = att (fun n k => Real.log 2 * S n k) G (fun n k => vt n (ix3 0 ⟨d.val, by omega⟩ k)) own c.val * zb (ix2 c d) := by
  obtain ⟨M, hM⟩ := maxA_real (masked (score qb (kb own))) (fun n => score qb (kb n)) c
    (fun k => by
      rw [masked_apply, score_apply, hS]; split_ifs
      · exact EReal.coe_lt_top _
      · exact bot_lt_top)
    (by rw [masked_apply, score_apply, hS, if_pos le_rfl]; exact EReal.bot_lt_coe _)
    (fun n k => by rw [score_apply, hS]; exact EReal.coe_lt_top _) own
  refine finish_att own hown c d qb kb vt zb S G hS h1 _ M hM _ fun r => ?_
  refine accA_apply _ _ vt _ own c (fun n hn k => ?_) r own le_rfl
  rw [score_apply, hS, hM, exp2_shift]
  unfold wt
  rw [if_pos (Or.inl (sel_of_le h3 hn))]

/-- A unit whose past blocks are chosen by the gates is the attention. -/
theorem unitB_apply (hG : ∀ n : Fin 8, ∑ e : Fin 128, km (ix2 n e) * qb (ix2 c e) = (G n.val : EReal)) :
    unitB own km qb kb vt zb (ix2 c d)
      = att (fun n k => Real.log 2 * S n k) G (fun n k => vt n (ix3 0 ⟨d.val, by omega⟩ k)) own c.val * zb (ix2 c d) := by
  have hb : ∀ n : Fin 8, n.val < own → bias own (gate own km qb) (ix2 n c) = if before G own n.val < 3 then 0 else ⊥ :=
    fun n hn => bias_apply _ G own hown c (fun n hn => by rw [gate_apply own hown, if_pos hn, hG]) n hn
  obtain ⟨M, hM⟩ := maxB_real (masked (score qb (kb own))) (fun n => score qb (kb n)) (bias own (gate own km qb)) own c
    (fun k => by
      rw [masked_apply, score_apply, hS]; split_ifs
      · exact EReal.coe_lt_top _
      · exact bot_lt_top)
    (by rw [masked_apply, score_apply, hS, if_pos le_rfl]; exact EReal.bot_lt_coe _)
    (fun n k => by rw [score_apply, hS]; exact EReal.coe_lt_top _) hown
    (fun n hn => by
      rw [hb n hn]; split_ifs
      · exact EReal.coe_lt_top 0
      · exact bot_lt_top) own le_rfl
  refine finish_att own hown c d qb kb vt zb S G hS h1 _ M hM _ fun r => ?_
  refine accB_apply _ _ _ vt _ own c (fun n hn k => ?_) r own le_rfl
  rw [score_apply, hS, hM, row_apply _ n (by omega), hb ⟨n, by omega⟩ hn]
  unfold wt sel
  have : ¬ n = own := by omega
  simp only [hn, this, true_and, false_and, or_false]
  split_ifs
  · rw [sub_zero]; exact exp2_shift _ _
  · simp

end Unit

end Cert.KernelIdeal.Attn

end
-- ==== Proof.Block.lean ====
/- The block a grid point leaves, at an index: the unit of that index's block of queries and head, its loads read from
   the point's input blocks. -/
module

public import proofs.«01_k».proof.Proof.Run
public import proofs.«01_k».proof.Proof.UnitIdeal
public import Idealize.ShloMosaic.Lib.Pipeline.ValueKit

@[expose] public section

set_option maxRecDepth 16384

noncomputable section

namespace Cert.KernelIdeal.Attn

open Cert.KernelIdeal Cert.KernelIdeal.Gen Idealize.ShloMosaic Idealize.SL.Sem Cert.Moba

/-- The position of key `k` of block `n`. -/
def kp (n : Nat) (k : Fin 256) : Fin 2048 := ⟨256 * (n % 8) + k.val, by have := Nat.mod_lt n (by decide : 8 > 0); omega⟩

/-- The column of coordinate `e` of head `h` of the block. -/
def cp (h : Nat) (e : Fin 128) : Fin 512 := ⟨128 * (h % 4) + e.val, by have := Nat.mod_lt h (by decide : 4 > 0); omega⟩

/-- The load of a block of one head at an index. -/
theorem rd_apply (a : Memref sig .tc .vmem S2048x512 .bf16) (ha : a.IsWhole) (x : Vec Ideal S2048x512 .bf16) (n h : Nat)
    (r : Fin 256) (e : Fin 128) : rd (F := Ideal) a ha x n h (ix2 r e) = x (ix2 (kp n r) (cp h e)) := by
  unfold rd
  rw [View.readAt_eq_ld, ha.read_unread]
  refine congrArg x (funext fun b => Fin.ext ?_)
  fin_cases b
  · show 256 * (n % 8) + 1 * r.val = _; rw [one_mul]; rfl
  · show 128 * (h % 4) + 1 * e.val = _; rw [one_mul]; rfl

/-- The load of one head's columns at an index. -/
theorem col_apply (a : Memref sig .tc .vmem S2048x512 .bf16) (ha : a.IsWhole) (x : Vec Ideal S2048x512 .bf16) (h : Nat)
    (r : Fin 2048) (e : Fin 128) :
    cd (F := Ideal) a ha x h (ix2 r e) = x (ix2 r (cp h e)) := by
  unfold cd
  rw [View.readAt_eq_ld, ha.read_unread]
  refine congrArg x (funext fun b => Fin.ext ?_)
  fin_cases b
  · show 0 + 1 * r.val = _; rw [one_mul, Nat.zero_add]; rfl
  · show 128 * (h % 4) + 1 * e.val = _; rw [one_mul]; rfl

/-- The transposed values at an index. -/
theorem vT_apply (v : Vec Ideal S256x128 .bf16) (j : Fin 128) (k : Fin 256) : vT v (ix3 0 j k) = v (ix2 k j) := by
  pointwise [vT]

/-- The rows of ones at an index. -/
theorem onesT_apply (j : Fin 16) (k : Fin 2048) : onesT (F := Ideal) (ix3 0 j k) = 1 := by
  pointwise [onesT]

/-- What the scratch buffer holds: each head's values transposed, and ones below. -/
def vG (x2 : Vec Ideal S2048x512 .bf16) (y : S4x144x2048.Idx) : Elt Ideal .bf16 :=
  if h : (y 1).val < 128 then x2 (ix2 (y 2) (cp (y 0).val ⟨(y 1).val, h⟩)) else 1

/-- The transposed values with ones below them: the first 128 rows are the values. -/
theorem vG_lt (x2 : Vec Ideal S2048x512 .bf16) (y : S4x144x2048.Idx) (k : Fin 2048) (h : Nat) (j : Fin 128)
    (e0 : (y 0).val = h % 4) (e1 : (y 1).val = j.val) (e2 : (y 2).val = k.val) : vG x2 y = x2 (ix2 k (cp h j)) := by
  have hj : (y 1).val < 128 := by omega
  have hk : y 2 = k := Fin.ext e2
  have hc : cp (y 0).val ⟨(y 1).val, hj⟩ = cp h j := Fin.ext (by
    show 128 * ((y 0).val % 4) + (y 1).val = 128 * (h % 4) + j.val
    omega)
  unfold vG
  rw [dif_pos hj, hc, hk]

/-- The transposed values with ones below them: the rows from 128 on are ones. -/
theorem vG_ge (x2 : Vec Ideal S2048x512 .bf16) (y : S4x144x2048.Idx) (e1 : ¬ (y 1).val < 128) : vG x2 y = 1 := by
  unfold vG
  rw [dif_neg e1]

/-- The stores of the values are of four heads and nine pieces. -/
theorem vorder_lt : ∀ a ∈ vorder, a.1 < 4 ∧ a.2 < 9 := by decide
/-- The blocks of queries are eight of each of four heads. -/
theorem order_lt : ∀ a ∈ order, a.1 < 8 ∧ a.2 < 4 := by decide
/-- Every head and piece of the values is stored. -/
theorem vorder_mem : ∀ h < 4, ∀ n < 9, (h, n) ∈ vorder := by decide

section
variable (c : Dev nD) (i : grid0.Coords) (arg2 : Memref sig .tc .vmem S2048x512 .bf16) (harg2 : arg2.IsWhole)
  (arg3 : Memref sig .tc .vmem S2048x512 .bf16) (harg3 : arg3.IsWhole) (arg4 : Memref sig .tc .vmem S2048x512 .bf16)
  (harg4 : arg4.IsWhole) (arg5 : Memref sig .tc .vmem S2048x512 .bf16) (harg5 : arg5.IsWhole)
  (arg6 : Memref sig .tc .vmem S2048x512 .bf16) (harg6 : arg6.IsWhole) (arg7 : Memref sig .tc .vmem S4x144x2048 .bf16)
  (harg7 : arg7.IsWhole) (x0 x1 x2 x3 : Vec Ideal S2048x512 .bf16)

/-- A store of the scratch buffer stores what `vG` says. -/
theorem vpiece_apply (a : Nat × Nat) (ha : a.1 < 4 ∧ a.2 < 9) (x : (vpiece (F := Ideal) arg4 harg4 x2 a).1.shape.Idx) :
    (vpiece (F := Ideal) arg4 harg4 x2 a).2 x = vG x2 ((vpiece (F := Ideal) arg4 harg4 x2 a).1.emb x) := by
  obtain ⟨h, n⟩ := a
  obtain ⟨hh, hn⟩ := ha
  simp only at hh hn
  revert x
  by_cases hne : n = 8
  · rw [show vpiece (F := Ideal) arg4 harg4 x2 (h, n) = ⟨obox h, onesT⟩ by unfold vpiece; rw [if_pos hne]]
    intro x
    obtain ⟨p, j, k, rfl⟩ : ∃ (p : Fin 1) (j : Fin 16) (k : Fin 2048), x = ix3 p j k := ⟨x 0, x 1, x 2, eq_ix3 (n0 := 1) (n1 := 16) (n2 := 2048) x⟩
    obtain rfl : p = 0 := Subsingleton.elim _ _
    refine (onesT_apply j k).trans (vG_ge x2 _ ?_).symm
    show ¬ 128 + 1 * j.val < 128
    omega
  · rw [show vpiece (F := Ideal) arg4 harg4 x2 (h, n) = ⟨wbox h n, vT (rd arg4 harg4 x2 n h)⟩ by unfold vpiece; rw [if_neg hne]]
    intro x
    obtain ⟨p, j, k, rfl⟩ : ∃ (p : Fin 1) (j : Fin 128) (k : Fin 256), x = ix3 p j k := ⟨x 0, x 1, x 2, eq_ix3 (n0 := 1) (n1 := 128) (n2 := 256) x⟩
    obtain rfl : p = 0 := Subsingleton.elim _ _
    refine ((vT_apply _ j k).trans (rd_apply arg4 harg4 x2 n h k j)).trans (vG_lt x2 _ (kp n k) h j ?_ ?_ ?_).symm
    · show h % 4 + 1 * 0 = h % 4; omega
    · show 0 + 1 * j.val = j.val; omega
    · show 256 * (n % 8) + 1 * k.val = 256 * (n % 8) + k.val; omega

/-- A load of the scratch buffer. -/
theorem vt_apply (h n : Nat) (r : Fin 144) (k : Fin 256) :
    vd (F := Ideal) arg4 harg4 arg7 x2 h n (ix3 0 r k)
      = if hr : r.val < 128 then x2 (ix2 (kp n k) (cp h ⟨r.val, hr⟩)) else 1 := by
  have hh := Nat.mod_lt h (by decide : 4 > 0)
  have hn := Nat.mod_lt n (by decide : 8 > 0)
  unfold vd
  rw [View.readCov_eq_canon']
  set y : S4x144x2048.Idx := (vbox h n).toLoadRect.idx (ix3 0 r k) with hy
  have e0 : (y 0).val = h % 4 := by show h % 4 + 1 * 0 = _; omega
  have e1 : (y 1).val = r.val := by show 0 + 1 * r.val = _; omega
  have e2 : (y 2).val = 256 * (n % 8) + k.val := by show 256 * (n % 8) + 1 * k.val = _; omega
  have key : View.canon (vlist (F := Ideal) arg4 harg4 x2) y = vG x2 y := by
    refine View.canon_apply_of_pieces (Val := Elt Ideal) (e := .bf16) (vG x2) _ ?_ y ?_
    · intro p hp
      obtain ⟨a, ha, rfl⟩ := List.mem_map.1 hp
      exact vpiece_apply arg4 harg4 x2 a (vorder_lt a ha)
    · by_cases hr : r.val < 128
      · refine ⟨_, List.mem_map.2 ⟨(h % 4, n % 8), vorder_mem _ hh _ (by omega), rfl⟩, ?_⟩
        have : vpiece (F := Ideal) arg4 harg4 x2 (h % 4, n % 8) = ⟨wbox (h % 4) (n % 8), vT (rd arg4 harg4 x2 (n % 8) (h % 4))⟩ := by
          unfold vpiece; rw [if_neg (by show ¬ n % 8 = 8; omega)]
        rw [this]
        show y ∈ (wbox (h % 4) (n % 8)).set
        unfold wbox
        rw [Rect.mem_set_unit]
        intro b
        fin_cases b
        · show h % 4 % 4 ≤ (y 0).val ∧ (y 0).val < h % 4 % 4 + 1; omega
        · show 0 ≤ (y 1).val ∧ (y 1).val < 0 + 128; omega
        · show 256 * (n % 8 % 8) ≤ (y 2).val ∧ (y 2).val < 256 * (n % 8 % 8) + 256; omega
      · refine ⟨_, List.mem_map.2 ⟨(h % 4, 8), vorder_mem _ hh _ (by omega), rfl⟩, ?_⟩
        have : vpiece (F := Ideal) arg4 harg4 x2 (h % 4, 8) = ⟨obox (h % 4), onesT⟩ := by
          unfold vpiece; rw [if_pos rfl]
        rw [this]
        show y ∈ (obox (h % 4)).set
        unfold obox
        rw [Rect.mem_set_unit]
        intro b
        fin_cases b
        · show h % 4 % 4 ≤ (y 0).val ∧ (y 0).val < h % 4 % 4 + 1; omega
        · show 128 ≤ (y 1).val ∧ (y 1).val < 128 + 16; omega
        · show 0 ≤ (y 2).val ∧ (y 2).val < 0 + 2048; omega
  refine key.trans ?_
  by_cases hr : r.val < 128
  · rw [dif_pos hr]
    exact vG_lt x2 y (kp n k) h ⟨r.val, hr⟩ e0 e1 e2
  · rw [dif_neg hr]
    exact vG_ge x2 y (by omega)

/-- The block's element is the unit's. -/
theorem out_eq_unit (r : Fin 2048) (s : Fin 512) :
    out0_A_4 c i arg2 harg2 arg3 harg3 arg4 harg4 arg5 harg5 arg6 harg6 arg7 harg7 x0 x1 x2 x3 (ix2 r s)
      = unit (F := Ideal) arg2 harg2 arg3 harg3 arg4 harg4 arg5 harg5 arg7 x0 x1 x2 x3 (r.val / 256, s.val / 128)
          (ix2 ⟨r.val % 256, Nat.mod_lt _ (by decide)⟩ ⟨s.val % 128, Nat.mod_lt _ (by decide)⟩) := by
  unfold out0_A_4
  rw [View.read_writes_junk_eq_canon]
  have hc := cover0_A_4 c i arg2 harg2 arg3 harg3 arg4 harg4 arg5 harg5 arg6 harg6 arg7 harg7 x0 x1 x2 x3 (ix2 r s)
  rw [run_eq] at hc ⊢
  refine View.canon_apply_of_pieces (Val := Elt Ideal) (e := .bf16) (fun y : S2048x512.Idx =>
    unit (F := Ideal) arg2 harg2 arg3 harg3 arg4 harg4 arg5 harg5 arg7 x0 x1 x2 x3 ((y 0).val / 256, (y 1).val / 128)
      (ix2 ⟨(y 0).val % 256, Nat.mod_lt _ (by decide)⟩ ⟨(y 1).val % 128, Nat.mod_lt _ (by decide)⟩)) _ ?_ _ hc
  intro p hp
  obtain ⟨⟨n, h⟩, ha, rfl⟩ := List.mem_map.1 hp
  obtain ⟨hn, hh⟩ := order_lt _ ha
  simp only at hn hh
  intro x
  obtain ⟨u, v, rfl⟩ : ∃ (u : Fin 256) (v : Fin 128), x = ix2 u v := ⟨x 0, x 1, eq_ix2 (n0 := 256) (n1 := 128) x⟩
  have e0 : (((box n h).emb (ix2 u v)) 0).val = 256 * n + u.val := by
    show 256 * (n % 8) + 1 * u.val = _
    omega
  have e1 : (((box n h).emb (ix2 u v)) 1).val = 128 * h + v.val := by
    show 128 * (h % 4) + 1 * v.val = _
    omega
  have q0 : (256 * n + u.val) / 256 = n := by omega
  have q1 : (128 * h + v.val) / 128 = h := by omega
  have m0 : (256 * n + u.val) % 256 = u.val := by omega
  have m1 : (128 * h + v.val) % 128 = v.val := by omega
  simp only [e0, e1, q0, q1, m0, m1]

/-- The block's element is the attention of the element's query and head. -/
theorem out_apply (r : Fin 2048) (s : Fin 512) (S : ℕ → Fin 256 → ℝ) (G : ℕ → ℝ)
    (hS : ∀ n k, ∑ e : Fin 128, x1 (ix2 (kp n k) (cp (s.val / 128) e)) * x0 (ix2 r (cp (s.val / 128) e)) = (S n k : EReal))
    (hG : ∀ n, ∑ e : Fin 128, Ideal.div (∑ k : Fin 256, x1 (ix2 (kp n k) (cp (s.val / 128) e))) ((256 : ℝ) : EReal)
      * x0 (ix2 r (cp (s.val / 128) e)) = (G n : EReal)) :
    out0_A_4 c i arg2 harg2 arg3 harg3 arg4 harg4 arg5 harg5 arg6 harg6 arg7 harg7 x0 x1 x2 x3 (ix2 r s)
      = att (fun n k => Real.log 2 * S n k) G (fun n k => x2 (ix2 (kp n k) s)) (r.val / 256) (r.val % 256) * x3 (ix2 r s) := by
  have hr : r.val / 256 < 8 := by omega
  have hs : s.val / 128 < 4 := by omega
  have er : kp (r.val / 256) ⟨r.val % 256, Nat.mod_lt _ (by decide)⟩ = r := Fin.ext (by
    show 256 * (r.val / 256 % 8) + r.val % 256 = r.val; omega)
  have es : cp (s.val / 128) ⟨s.val % 128, Nat.mod_lt _ (by decide)⟩ = s := Fin.ext (by
    show 128 * (s.val / 128 % 4) + s.val % 128 = s.val; omega)
  rw [out_eq_unit]
  have hS' : ∀ n k, ∑ e : Fin 128, rd (F := Ideal) arg3 harg3 x1 n (s.val / 128) (ix2 k e)
      * rd (F := Ideal) arg2 harg2 x0 (r.val / 256) (s.val / 128) (ix2 ⟨r.val % 256, Nat.mod_lt _ (by decide)⟩ e) = (S n k : EReal) := fun n k => by
    simp only [rd_apply, er]
    exact hS n k
  have h1 : ∀ n k, vd (F := Ideal) arg4 harg4 arg7 x2 (s.val / 128) n (ix3 0 128 k) = 1 := fun n k => by
    rw [vt_apply]; rfl
  have hV : (fun (n : ℕ) (k : Fin 256) => vd (F := Ideal) arg4 harg4 arg7 x2 (s.val / 128) n
      (ix3 0 ⟨s.val % 128, by omega⟩ k)) = fun n k => x2 (ix2 (kp n k) s) := by
    funext n k
    rw [vt_apply, dif_pos (Nat.mod_lt _ (by decide)), es]
  have hz : rd (F := Ideal) arg5 harg5 x3 (r.val / 256) (s.val / 128) (ix2 ⟨r.val % 256, Nat.mod_lt _ (by decide)⟩ ⟨s.val % 128, Nat.mod_lt _ (by decide)⟩)
      = x3 (ix2 r s) := by rw [rd_apply, er, es]
  unfold unit
  split
  · rename_i h3
    rw [unitA_apply _ hr _ _ _ _ _ _ S G hS' h1 h3, hV, hz]
  · have hG' : ∀ n : Fin 8, ∑ e : Fin 128, kmean (cd (F := Ideal) arg3 harg3 x1 (s.val / 128)) (ix2 n e)
        * rd (F := Ideal) arg2 harg2 x0 (r.val / 256) (s.val / 128) (ix2 ⟨r.val % 256, Nat.mod_lt _ (by decide)⟩ e) = (G n.val : EReal) := fun n => by
      rw [← hG n.val]
      refine Finset.sum_congr rfl fun e _ => ?_
      rw [kmean_apply, rd_apply, er]
      congr 2
      refine Finset.sum_congr rfl fun k _ => ?_
      rw [col_apply]
      refine congrArg x1 ?_
      congr 1
      refine Fin.ext ?_
      show n.val * 256 + k.val = 256 * (n.val % 8) + k.val
      omega
    rw [unitB_apply _ hr _ _ _ _ _ _ _ S G hS' h1 hG', hV, hz]

end

end Cert.KernelIdeal.Attn

end
-- ==== Proof.Layer.lean ====
/- The layer's attention as a function of its four arrays: which rows and columns an element reads, and its value. -/
module

public import proofs.«01_k».proof.Proof.Spec

@[expose] public section

noncomputable section

namespace Cert.Moba

open Idealize.ShloMosaic Finset

/-- The row of key `k` of block `n` in the batch of row `R`. -/
def keyRow (R : Fin 8192) (n : ℕ) (k : Fin 256) : Fin 8192 :=
  ⟨2048 * (R.val / 2048) + (256 * (n % 8) + k.val), by have := R.isLt; have := k.isLt; have := Nat.mod_lt n (by decide : 8 > 0); omega⟩

/-- The column of coordinate `e` of the head of column `C`. -/
def headCol (C : Fin 2048) (e : Fin 128) : Fin 2048 :=
  ⟨128 * (C.val / 128) + e.val, by have := C.isLt; have := e.isLt; omega⟩

/-- The product of the query of row `R` with key `k` of block `n`, in the head of column `C`. -/
def dotKey (q k : Fin 8192 → Fin 2048 → ℝ) (R : Fin 8192) (C : Fin 2048) (n : ℕ) (j : Fin 256) : ℝ :=
  ∑ e : Fin 128, k (keyRow R n j) (headCol C e) * q R (headCol C e)

/-- The product of the query of row `R` with the mean key of block `n`, in the head of column `C`. -/
def dotMean (q k : Fin 8192 → Fin 2048 → ℝ) (R : Fin 8192) (C : Fin 2048) (n : ℕ) : ℝ :=
  ∑ e : Fin 128, (∑ j : Fin 256, k (keyRow R n j) (headCol C e)) / 256 * q R (headCol C e)

/-- An activation times its own logistic. -/
def silu (z : EReal) : EReal := z * Ideal.div 1 (1 + Ideal.exp (-z))

/-- Element (`R`, `C`) of the layer's attention: the chosen keys' values by their weights, times the activated gate. -/
def layer (q k : Fin 8192 → Fin 2048 → ℝ) (V Z : Fin 8192 → Fin 2048 → EReal) (R : Fin 8192) (C : Fin 2048) : EReal :=
  att (fun n j => dotKey q k R C n j / √128) (dotMean q k R C) (fun n j => V (keyRow R n j) C) (R.val % 2048 / 256) (R.val % 256)
    * silu (Z R C)

end Cert.Moba

end
-- ==== Proof.KernelVal.lean ====
/- The kernel's output array as a function of the program's arguments: each grid point's block at its place in the array,
   the blocks it reads taken from the arrays the host prepares. -/
module

public import proofs.«01_k».proof.Proof.Block
public import proofs.«01_k».proof.Proof.Layer
public import proofs.«01_k».proof.Proof.Gen.KernelIdeal.Value
public import Idealize.ShloMosaic.Lib.Pointwise
public import Idealize.ShloMosaic.Lib.Claim

@[expose] public section

set_option maxRecDepth 16384

noncomputable section

namespace Cert.KernelIdeal.Attn

open Cert.KernelIdeal Cert.KernelIdeal.Gen Idealize.ShloMosaic Idealize.ShloMosaic.TcCoe Idealize.SL.Sem Cert.Moba

variable (m : (ℓ : Loc nD τ sig) → Buf (Elt Ideal) ℓ) (c : Dev nD)

/-- The queries the kernel reads: divided by the root of 128 times the logarithm of 2. -/
theorem queries_apply (R : Fin 8192) (C : Fin 2048) (x : ℝ) (hx : m ((c : Thread nD τ).loc main_arg0) (ix2 R C) = (x : EReal)) :
    V m c main_v5 (ix2 R C) = ((x / (√128 * Real.log 2) : ℝ) : EReal) := by
  entry_read
  pointwise
  rw [hx, bits_128, bits_2]
  have h2 : 0 < Real.log 2 := Real.log_pos (by norm_num)
  have hs : 0 < √(128 : ℝ) := Real.sqrt_pos.2 (by norm_num)
  rw [Ideal.sqrt_coe, Ideal.log_coe, if_neg (by norm_num), if_neg (by norm_num), ← EReal.coe_mul,
    Ideal.div_coe (mul_pos hs h2).ne', ← EReal.coe_mul, mul_one_div]

/-- The keys the call is given, at an index. -/
theorem keys_apply (R : Fin 8192) (C : Fin 2048) :
    V m c main_v14 (ix2 R C) = m ((c : Thread nD τ).loc main_arg1) (ix2 R C) := by
  entry_read
  pointwise

/-- The values the call is given, at an index. -/
theorem values_apply (R : Fin 8192) (C : Fin 2048) :
    V m c main_v15 (ix2 R C) = m ((c : Thread nD τ).loc main_arg2) (ix2 R C) := by
  entry_read
  pointwise

/-- The gate activations the call is given, at an index. -/
theorem gates_apply (R : Fin 8192) (C : Fin 2048) :
    V m c main_v13 (ix2 R C) = silu (m ((c : Thread nD τ).loc main_arg3) (ix2 R C)) := by
  entry_read
  pointwise [silu]

/-- The row of the array that row `a` of point `t`'s blocks is. -/
def rowOf (t : Fin grid0.N) (a : Fin 2048) : Fin 8192 := ⟨2048 * (t.val / 4 % 4) + a.val, by omega⟩

/-- The column of the array that column `b` of point `t`'s blocks is. -/
def colOf (t : Fin grid0.N) (b : Fin 512) : Fin 2048 := ⟨512 * (t.val % 4) + b.val, by omega⟩

/-- Where window 0 lies at a point. -/
theorem index_0 : ∀ t : Fin cfg0.N, win0_0.index t = ![t.val / 4 % 4, t.val % 4] := (by decide +kernel : ∀ t : Fin grid0.N, _)
/-- Where window 1 lies at a point. -/
theorem index_1 : ∀ t : Fin cfg0.N, win0_1.index t = ![t.val / 4 % 4, t.val % 4] := (by decide +kernel : ∀ t : Fin grid0.N, _)
/-- Where window 2 lies at a point. -/
theorem index_2 : ∀ t : Fin cfg0.N, win0_2.index t = ![t.val / 4 % 4, t.val % 4] := (by decide +kernel : ∀ t : Fin grid0.N, _)
/-- Where window 3 lies at a point. -/
theorem index_3 : ∀ t : Fin cfg0.N, win0_3.index t = ![t.val / 4 % 4, t.val % 4] := (by decide +kernel : ∀ t : Fin grid0.N, _)
/-- Where window 4 lies at a point. -/
theorem index_4 : ∀ t : Fin cfg0.N, win0_4.index t = ![t.val / 4 % 4, t.val % 4] := (by decide +kernel : ∀ t : Fin grid0.N, _)

/-- The queries' block at a point. -/
theorem iblk0_apply (t : Fin cfg0.N) (a : Fin 2048) (b : Fin 512) :
    iblk m c 0 t (ix2 a b) = V m c main_v5 (ix2 (rowOf t a) (colOf t b)) := by
  blk_simp [iblk]
  refine congrArg _ ?_
  blk_ext [index_0 t, rowOf, colOf]

/-- The keys' block at a point. -/
theorem iblk1_apply (t : Fin cfg0.N) (a : Fin 2048) (b : Fin 512) :
    iblk m c 1 t (ix2 a b) = m ((c : Thread nD τ).loc main_arg1) (ix2 (rowOf t a) (colOf t b)) := by
  rw [← keys_apply m c]
  blk_simp [iblk]
  refine congrArg _ ?_
  blk_ext [index_1 t, rowOf, colOf]

/-- The values' block at a point. -/
theorem iblk2_apply (t : Fin cfg0.N) (a : Fin 2048) (b : Fin 512) :
    iblk m c 2 t (ix2 a b) = m ((c : Thread nD τ).loc main_arg2) (ix2 (rowOf t a) (colOf t b)) := by
  rw [← values_apply m c]
  blk_simp [iblk]
  refine congrArg _ ?_
  blk_ext [index_2 t, rowOf, colOf]

/-- The gate activations' block at a point. -/
theorem iblk3_apply (t : Fin cfg0.N) (a : Fin 2048) (b : Fin 512) :
    iblk m c 3 t (ix2 a b) = silu (m ((c : Thread nD τ).loc main_arg3) (ix2 (rowOf t a) (colOf t b))) := by
  rw [← gates_apply m c]
  blk_simp [iblk]
  refine congrArg _ ?_
  blk_ext [index_3 t, rowOf, colOf]

/-- The row of a key of a block, in the array. -/
theorem rowOf_kp (t : Fin grid0.N) (r : Fin 2048) (n : ℕ) (j : Fin 256) : rowOf t (kp n j) = keyRow (rowOf t r) n j :=
  Fin.ext (by
    show 2048 * (t.val / 4 % 4) + (256 * (n % 8) + j.val) = 2048 * ((2048 * (t.val / 4 % 4) + r.val) / 2048) + (256 * (n % 8) + j.val)
    omega)

/-- The column of a head's entry, in the array. -/
theorem colOf_cp (t : Fin grid0.N) (s : Fin 512) (e : Fin 128) : colOf t (cp (s.val / 128) e) = headCol (colOf t s) e :=
  Fin.ext (by
    show 512 * (t.val % 4) + (128 * (s.val / 128 % 4) + e.val) = 128 * ((512 * (t.val % 4) + s.val) / 128) + e.val
    omega)

variable (q k : Fin 8192 → Fin 2048 → ℝ)
  (hq : ∀ R C, m ((c : Thread nD τ).loc main_arg0) (ix2 R C) = (q R C : EReal))
  (hk : ∀ R C, m ((c : Thread nD τ).loc main_arg1) (ix2 R C) = (k R C : EReal))
include hq hk

/-- A grid point's block holds the layer's attention at its place in the array. -/
theorem outsAt_apply (t : Fin cfg0.N) (r : Fin 2048) (s : Fin 512) :
    outsAt0 m c t (ix2 r s) = layer q k (fun R C => m ((c : Thread nD τ).loc main_arg2) (ix2 R C))
      (fun R C => m ((c : Thread nD τ).loc main_arg3) (ix2 R C)) (rowOf t r) (colOf t s) := by
  have h2 : 0 < Real.log 2 := Real.log_pos (by norm_num)
  have hs : 0 < √(128 : ℝ) := Real.sqrt_pos.2 (by norm_num)
  have hN : (256 : ℝ) ≠ 0 := by norm_num
  unfold outsAt0
  rw [out_apply _ _ _ _ _ _ _ _ _ _ _ _ _ _ _ _ _ _ r s
    (fun n j => dotKey q k (rowOf t r) (colOf t s) n j / (√128 * Real.log 2))
    (fun n => 1 / (√128 * Real.log 2) * dotMean q k (rowOf t r) (colOf t s) n)
    (fun n j => by
      unfold dotKey
      rw [Finset.sum_div, coe_sum]
      refine Finset.sum_congr rfl fun e _ => ?_
      rw [iblk1_apply, iblk0_apply, queries_apply m c _ _ _ (hq _ _), hk, ← EReal.coe_mul, rowOf_kp t r, colOf_cp, mul_div_assoc])
    (fun n => by
      unfold dotMean
      rw [Finset.mul_sum, coe_sum]
      refine Finset.sum_congr rfl fun e _ => ?_
      have h : ∀ j : Fin 256, iblk m c 1 t (ix2 (kp n j) (cp (s.val / 128) e))
          = (k (keyRow (rowOf t r) n j) (headCol (colOf t s) e) : EReal) := fun j => by
        rw [iblk1_apply, hk, rowOf_kp t r, colOf_cp]
      simp only [h]
      rw [iblk0_apply, queries_apply m c _ _ _ (hq _ _), colOf_cp, ← coe_sum, Ideal.div_coe hN, ← EReal.coe_mul, ← EReal.coe_mul]
      congr 1
      ring),
    att_scale _ (by positivity), iblk3_apply]
  unfold layer
  congr 2
  · funext n j
    field_simp
  · funext n j
    rw [iblk2_apply, rowOf_kp t r]
  · show r.val / 256 = (2048 * (t.val / 4 % 4) + r.val) % 2048 / 256
    omega
  · show r.val % 256 = (2048 * (t.val / 4 % 4) + r.val) % 256
    omega

/-- The kernel's output array holds the layer's attention. -/
theorem kernel_eq : (dats m 0 c).arrAt 4 cfg0.N = fun i : S8192x2048.Idx => layer q k
      (fun R C => m ((c : Thread nD τ).loc main_arg2) (ix2 R C)) (fun R C => m ((c : Thread nD τ).loc main_arg3) (ix2 R C)) (i 0) (i 1) := by
  refine (dats m 0 c).arrAt_eq_of_covers 4 _ (by decide +kernel) fun t hf y => ?_
  blk_simp
  rw [after0_4]
  have he : ∀ y : S2048x512.Idx, (win0_4.blk t).view.emb y = ix2 (rowOf t (y 0)) (colOf t (y 1)) := fun y => by
    blk_ext [index_4 t, rowOf, colOf]
  rw [he, eq_ix2 (n0 := 2048) (n1 := 512) y]
  exact outsAt_apply m c q k hq hk t (y 0) (y 1)

end Cert.KernelIdeal.Attn

end
-- ==== Proof.RefGate.lean ====
/- The reference's gates, read at an index: the scaled queries, the blocks of keys and values, the mean keys, the masked
   products of a query with them. -/
module

public import proofs.«01_k».proof.Proof.Gen.ReferenceIdeal.Read
public import proofs.«01_k».proof.Proof.Layer
public import Idealize.ShloMosaic.Lib.Pointwise
public import Idealize.ShloMosaic.Lib.WordCmp

@[expose] public section

set_option maxRecDepth 16384

noncomputable section

namespace Cert.ReferenceIdeal.Attn

open Cert.ReferenceIdeal Cert.ReferenceIdeal.Gen Cert.ReferenceIdeal.Read Idealize.ShloMosaic Cert.Moba

variable (x0 x1 x2 x3 : (⟨S8192x2048, .f32⟩ : BufTy).Contents (Elt Ideal)) (q k : Fin 8192 → Fin 2048 → ℝ)

/-- The row of position `t` of batch `b`. -/
def rowQ (b : Fin 4) (t : Fin 2048) : Fin 8192 := ⟨2048 * b.val + t.val, by omega⟩

/-- The column of coordinate `e` of head `h`. -/
def colQ (h : Fin 16) (e : Fin 128) : Fin 2048 := ⟨128 * h.val + e.val, by omega⟩

/-- The position of key `j` of block `n`. -/
def posK (n : Fin 8) (j : Fin 256) : Fin 2048 := ⟨256 * n.val + j.val, by omega⟩

/-- The row of a key of a block, from a query's row. -/
theorem keyRow_rowQ (b : Fin 4) (t : Fin 2048) (n : Fin 8) (j : Fin 256) : keyRow (rowQ b t) n.val j = rowQ b (posK n j) :=
  Fin.ext (by
    show 2048 * ((2048 * b.val + t.val) / 2048) + (256 * (n.val % 8) + j.val) = 2048 * b.val + (256 * n.val + j.val)
    omega)

/-- The column of an entry of a column's head. -/
theorem headCol_colQ (h : Fin 16) (s e : Fin 128) : headCol (colQ h s) e = colQ h e :=
  Fin.ext (by show 128 * ((128 * h.val + s.val) / 128) + e.val = 128 * h.val + e.val; omega)

/-- The queries, a head at a time, divided by the root of the head's width. -/
theorem q_apply (hq : ∀ R C, x0 (ix2 R C) = (q R C : EReal)) (b : Fin 4) (h : Fin 16) (t : Fin 2048) (e : Fin 128) :
    val_main_v4 (F := Ideal) x0 (ix4 b h t e) = ((q (rowQ b t) (colQ h e) / √128 : ℝ) : EReal) := by
  pointwise [val_main_v4, val_main_v3, val_main_v2, val_main_cst, val_main_v1, val_main_v0]
  rw [bits_128, Ideal.sqrt_coe, if_neg (by norm_num), hq, Ideal.div_coe (Real.sqrt_pos.2 (by norm_num)).ne', ← EReal.coe_mul, mul_one_div]
  congr 3
  · exact Fin.ext (by show b.val * 2048 + t.val = 2048 * b.val + t.val; omega)
  · exact Fin.ext (by show h.val * 128 + e.val = 128 * h.val + e.val; omega)

/-- The keys, a block of a head at a time. -/
theorem kb_apply (b : Fin 4) (h : Fin 16) (n : Fin 8) (j : Fin 256) (e : Fin 128) :
    val_main_v9 (F := Ideal) x1 (ix5 b h n j e) = x1 (ix2 (rowQ b (posK n j)) (colQ h e)) := by
  pointwise [val_main_v9, val_main_v6, val_main_v5]
  congr 2
  · exact Fin.ext (by show b.val * 2048 + (n.val * 256 + j.val) = 2048 * b.val + (256 * n.val + j.val); omega)
  · exact Fin.ext (by show h.val * 128 + e.val = 128 * h.val + e.val; omega)

/-- The values in blocks, at an index. -/
theorem vb_apply (b : Fin 4) (h : Fin 16) (n : Fin 8) (j : Fin 256) (e : Fin 128) :
    val_main_v10 (F := Ideal) x2 (ix5 b h n j e) = x2 (ix2 (rowQ b (posK n j)) (colQ h e)) := by
  exact kb_apply x2 b h n j e

/-- The mean key of a block. -/
theorem mean_apply (hk : ∀ R C, x1 (ix2 R C) = (k R C : EReal)) (b : Fin 4) (h : Fin 16) (n : Fin 8) (e : Fin 128) :
    val_main_v13 (F := Ideal) x1 (ix4 b h n e) = (((∑ j : Fin 256, k (rowQ b (posK n j)) (colQ h e)) / 256 : ℝ) : EReal) := by
  pointwise [val_main_v13, val_main_v12, val_main_v11, val_main_cst_0, val_main_cst_1]
  simp only [kb_apply, hk]
  rw [bits_256, ← coe_sum, Ideal.div_coe (by norm_num), ← EReal.coe_mul, mul_one_div]

/-- The block a position lies in. -/
theorem own_apply (t : Fin 2048) : val_main_v17 (F := Ideal) (ix1 t) = BitVec.ofNat 32 (t.val / 256) := by
  pointwise [val_main_v17, val_main_v16, val_main_v14]

/-- The masked gate of a query for a block. -/
theorem gate_apply (b : Fin 4) (h : Fin 16) (t : Fin 2048) (n : Fin 8) :
    val_main_v25 (F := Ideal) x0 x1 (ix4 b h t n)
      = if n.val < t.val / 256 then ∑ e : Fin 128, val_main_v4 (F := Ideal) x0 (ix4 b h t e) * val_main_v13 (F := Ideal) x1 (ix4 b h n e) else ⊥ := by
  pointwise [val_main_v25, val_main_v18, val_main_call0_v0, val_main_call0_v1, val_main_v24, val_main_v23, val_main_v22, val_main_v21, val_main_v20, val_main_v19, val_main_v14, val_main_cst_2]
  rw [own_apply, WordCmp.cmpi_slt_ofNat (by omega) (by omega), WordCmp.select_ofBool, bits_bot]
  simp only [decide_eq_true_eq]

/-- The masked gate of a query for a block, as the layer's product with the mean key. -/
theorem gate_real (hq : ∀ R C, x0 (ix2 R C) = (q R C : EReal)) (hk : ∀ R C, x1 (ix2 R C) = (k R C : EReal))
    (b : Fin 4) (h : Fin 16) (t : Fin 2048) (s : Fin 128) (n : Fin 8) :
    val_main_v25 (F := Ideal) x0 x1 (ix4 b h t n)
      = if n.val < t.val / 256 then ((1 / √128 * dotMean q k (rowQ b t) (colQ h s) n.val : ℝ) : EReal) else ⊥ := by
  rw [gate_apply]
  congr 1
  unfold dotMean
  rw [Finset.mul_sum, coe_sum]
  refine Finset.sum_congr rfl fun e _ => ?_
  rw [q_apply x0 q hq, mean_apply x1 k hk, ← EReal.coe_mul, headCol_colQ]
  simp only [keyRow_rowQ]
  congr 1
  ring

end Cert.ReferenceIdeal.Attn

end
-- ==== Proof.RefPick.lean ====
/- The reference's choice of blocks: the three best gates of a query, and the keys and values taken from those blocks. -/
module

public import proofs.«01_k».proof.Proof.RefGate

@[expose] public section

set_option maxRecDepth 16384

noncomputable section

namespace Cert.ReferenceIdeal.Attn

open Cert.ReferenceIdeal Cert.ReferenceIdeal.Gen Cert.ReferenceIdeal.Read Idealize.ShloMosaic Cert.Moba

variable (x0 x1 x2 : (⟨S8192x2048, .f32⟩ : BufTy).Contents (Elt Ideal))

/-- The gates of a query. -/
def gates (b : Fin 4) (h : Fin 16) (t : Fin 2048) (n : Fin 8) : EReal := val_main_v25 (F := Ideal) x0 x1 (ix4 b h t n)

/-- The block the query takes into slot `j`. -/
def pick (b : Fin 4) (h : Fin 16) (t : Fin 2048) (j : Fin 3) : Fin 8 := src (gates x0 x1 b h t) ⟨j.val, by omega⟩

/-- The numbers of the three greatest entries of a row of eight. -/
theorem topK_apply (x : Vec Ideal S4x16x2048x8 .f32) (b : Fin 4) (h : Fin 16) (t : Fin 2048) (j : Fin 3) :
    (Host.topK S4x16x2048x3 3 (FloatOps.cmpfTotal (F := Ideal) (φ := .f32) .gt) x sliceFits_S4x16x2048x8_S4x16x2048x3).2 (ix4 b h t j)
      = BitVec.ofNat 32 (src (fun n => x (ix4 b h t n)) ⟨j.val, by omega⟩).val := by
  show extractStridedSlice S4x16x2048x3 (fun _ => 0) (fun i : S4x16x2048x8.Idx => iotaInDim S4x16x2048x8 32 3 (i.along 3
    (sortedFrom (fun k k' : Fin 8 => FloatOps.cmpfTotal (F := Ideal) (φ := .f32) .gt (x (i.along 3 k)) (x (i.along 3 k')) == 1#1) (i 3))))
    sliceFits_S4x16x2048x8_S4x16x2048x3 (ix4 b h t j) = _
  have ha : ∀ (j k : Fin 8), (ix4 b h t j : S4x16x2048x8.Idx).along 3 k = ix4 b h t k := fun j k => by
    funext a; refine Fin.ext ?_; fin_cases a <;> rfl
  have hc : ∀ a b : EReal, (FloatOps.cmpfTotal (F := Ideal) (φ := .f32) .gt a b == 1#1) = decide (b < a) := fun a b => by
    by_cases hab : b < a <;> simp [Ideal.cmpfTotal_def, Ideal.cmp, CmpDirection.ordered, hab]
  pointwise
  simp only [ha, hc]
  rfl

/-- The indices chosen, at an index. -/
theorem indices_apply (b : Fin 4) (h : Fin 16) (t : Fin 2048) (j : Fin 3) :
    val_main_indices (F := Ideal) x0 x1 (ix4 b h t j) = BitVec.ofNat 32 (pick x0 x1 b h t j).val := by
  unfold val_main_indices pick gates
  exact topK_apply _ b h t j

/-- The reference's picking of blocks by their numbers. -/
abbrev picks : GatherDims S4x16x8x256x128 S4x16x2048x3x1 S4x16x2048x3x256x128 :=
  gather_S4x16x8x256x128_S4x16x2048x3x1_S4x16x2048x3x256x128_45_2_01_01_2_4_111256128

/-- A gather of blocks at an index. -/
theorem gather_apply {α : Type} (x : S4x16x8x256x128.Idx → α) (idx : IVec S4x16x2048x3x1 32) (b : Fin 4) (h : Fin 16) (t : Fin 2048)
    (j : Fin 3) (k : Fin 256) (e : Fin 128) (n : Fin 8) (hn : idx (ix5 b h t j 0) = BitVec.ofNat 32 n.val) :
    Host.gather picks x idx (ix6 b h t j k e)
      = x (ix5 b h n k e) := by
  unfold Host.gather
  congr 1
  funext a
  refine Fin.ext ?_
  show GatherDims.start picks _ idx a + GatherDims.batchCoord picks _ a + GatherDims.offCoord picks _ a = _
  fin_cases a
  · rw [GatherDims.start_batching _ _ _ _ (by decide), GatherDims.offCoord_eq_zero _ _ _ (by decide)]
    unfold GatherDims.batchCoord
    rw [dif_pos (by decide)]
    simp only [Nat.zero_add, Nat.add_zero]
    rfl
  · rw [GatherDims.start_batching _ _ _ _ (by decide), GatherDims.offCoord_eq_zero _ _ _ (by decide)]
    unfold GatherDims.batchCoord
    rw [dif_pos (by decide)]
    simp only [Nat.zero_add, Nat.add_zero]
    rfl
  · rw [GatherDims.batchCoord_eq_zero _ _ _ (by decide), GatherDims.offCoord_eq_zero _ _ _ (by decide)]
    unfold GatherDims.start
    rw [dif_pos (by decide)]
    simp only [Nat.add_zero]
    have hi : GatherDims.siIdx picks (ix6 b h t j k e) ⟨0, by decide⟩ = ix5 b h t j 0 := by
      funext a; refine Fin.ext ?_; fin_cases a <;> rfl
    show min (idx (GatherDims.siIdx picks (ix6 b h t j k e) ⟨0, by decide⟩)).toInt.toNat 7 = n.val
    rw [hi, hn]
    clear hn
    revert n
    decide
  · unfold GatherDims.start
    rw [GatherDims.batchCoord_eq_zero _ _ _ (by decide), dif_neg (by decide)]
    unfold GatherDims.offCoord
    rw [dif_pos (by decide)]
    simp only [Nat.zero_add, Nat.add_zero]
    rfl
  · unfold GatherDims.start
    rw [GatherDims.batchCoord_eq_zero _ _ _ (by decide), dif_neg (by decide)]
    unfold GatherDims.offCoord
    rw [dif_pos (by decide)]
    simp only [Nat.zero_add, Nat.add_zero]
    rfl

/-- The chosen keys of a query, slot by slot. -/
theorem ks_apply (b : Fin 4) (h : Fin 16) (t : Fin 2048) (m : Fin 768) (e : Fin 128) :
    val_main_v36 (F := Ideal) x0 x1 (ix5 b h t m e)
      = x1 (ix2 (rowQ b (posK (pick x0 x1 b h t ⟨m.val / 256, by omega⟩) ⟨m.val % 256, Nat.mod_lt _ (by decide)⟩)) (colQ h e)) := by
  pointwise [val_main_v36]
  unfold val_main_v35
  rw [gather_apply _ _ _ _ _ _ _ _ (pick x0 x1 b h t ⟨m.val / 256, by omega⟩) (by
    pointwise [val_main_v34]
    exact indices_apply x0 x1 b h t _), kb_apply]

/-- The chosen values of a query, slot by slot. -/
theorem vs_apply (b : Fin 4) (h : Fin 16) (t : Fin 2048) (m : Fin 768) (e : Fin 128) :
    val_main_v39 (F := Ideal) x0 x1 x2 (ix5 b h t m e)
      = x2 (ix2 (rowQ b (posK (pick x0 x1 b h t ⟨m.val / 256, by omega⟩) ⟨m.val % 256, Nat.mod_lt _ (by decide)⟩)) (colQ h e)) := by
  pointwise [val_main_v39]
  unfold val_main_v38
  rw [gather_apply _ _ _ _ _ _ _ _ (pick x0 x1 b h t ⟨m.val / 256, by omega⟩) (by
    pointwise [val_main_v37]
    exact indices_apply x0 x1 b h t _), vb_apply]

end Cert.ReferenceIdeal.Attn

end
-- ==== Proof.RefSoft.lean ====
/- The reference's scores and their softmax, read at an index. -/
module

public import proofs.«01_k».proof.Proof.RefPick

@[expose] public section

set_option maxRecDepth 16384

noncomputable section

namespace Cert.ReferenceIdeal.Attn

open Cert.ReferenceIdeal Cert.ReferenceIdeal.Gen Cert.ReferenceIdeal.Read Idealize.ShloMosaic Cert.Moba

variable (x0 x1 x2 x3 : (⟨S8192x2048, .f32⟩ : BufTy).Contents (Elt Ideal)) (q k : Fin 8192 → Fin 2048 → ℝ)

/-- The mask of the chosen blocks: those before the query's own. -/
theorem valid_apply (t : Fin 2048) (m : Fin 768) :
    val_main_v33 (F := Ideal) (ix2 t m) = BitVec.ofBool (decide (m.val / 256 < t.val / 256)) := by
  pointwise [val_main_v33, val_main_v32, val_main_v31, val_main_v30, val_main_v29, val_main_v28, val_main_v27, val_main_v26]
  rw [own_apply, WordCmp.cmpi_slt_ofNat (by omega) (by omega)]

/-- The masked scores of the chosen blocks. -/
theorem chosen_apply (b : Fin 4) (h : Fin 16) (t : Fin 2048) (m : Fin 768) :
    val_main_v42 (F := Ideal) x0 x1 (ix4 b h t m)
      = if m.val / 256 < t.val / 256 then ∑ e : Fin 128, val_main_v4 (F := Ideal) x0 (ix4 b h t e) * val_main_v36 (F := Ideal) x0 x1 (ix5 b h t m e) else ⊥ := by
  pointwise [val_main_v42, val_main_call1_v0, val_main_call1_v1, val_main_cst_3, val_main_v41, val_main_v40]
  rw [valid_apply, WordCmp.select_ofBool, bits_bot]
  simp only [decide_eq_true_eq]

/-- The mask of the query's own block: the keys up to the query. -/
theorem causal_apply (t : Fin 2048) (j : Fin 256) :
    val_main_v56 (F := Ideal) (ix2 t j) = BitVec.ofBool (decide (j.val ≤ t.val % 256)) := by
  pointwise [val_main_v56, val_main_v55, val_main_v54, val_main_v53, val_main_v52, val_main_v51, val_main_v50, val_main_v49, val_main_v48, val_main_v47, val_main_c, val_main_v46, val_main_v15]
  have hs : IntOp.addi (IntOp.muli (BitVec.ofNat 32 (t.val / 256)) 256#32) (BitVec.ofNat 32 j.val) = BitVec.ofNat 32 (t.val / 256 * 256 + j.val) := by
    show BitVec.ofNat 32 (t.val / 256) * BitVec.ofNat 32 256 + BitVec.ofNat 32 j.val = _
    rw [← BitVec.ofNat_mul, ← BitVec.ofNat_add]
  rw [own_apply, hs, WordCmp.cmpi_sle_ofNat (by omega) (by omega)]
  congr 2
  exact propext ⟨fun _ => by omega, fun _ => by omega⟩

/-- The masked scores of the query's own block. -/
theorem own_score_apply (b : Fin 4) (h : Fin 16) (t : Fin 2048) (j : Fin 256) :
    val_main_v58 (F := Ideal) x0 x1 (ix4 b h t j)
      = if j.val ≤ t.val % 256 then ∑ e : Fin 128, val_main_v4 (F := Ideal) x0 (ix4 b h t e) * val_main_v9 (F := Ideal) x1 (ix5 b h ⟨t.val / 256, by omega⟩ j e) else ⊥ := by
  pointwise [val_main_v58, val_main_call2_v0, val_main_call2_v1, val_main_cst_4, val_main_v57, val_main_v45, val_main_v44, val_main_v43]
  rw [causal_apply, WordCmp.select_ofBool, bits_bot]
  simp only [decide_eq_true_eq]

/-- The row of scores that the softmax is taken of: the chosen blocks' scores, then the own block's. -/
theorem row_apply (b : Fin 4) (h : Fin 16) (t : Fin 2048) (i : Fin 1024) :
    val_main_v59 (F := Ideal) x0 x1 (ix4 b h t i)
      = if hi : i.val < 768 then val_main_v42 (F := Ideal) x0 x1 (ix4 b h t ⟨i.val, hi⟩)
        else val_main_v58 (F := Ideal) x0 x1 (ix4 b h t ⟨i.val - 768, by omega⟩) := by
  pointwise [val_main_v59]

/-- The greatest entry of each row. -/
theorem max_of (Y : Vec Ideal S4x16x2048x1024 .f32) (init : Vec Ideal S_ .f32) (b : Fin 4) (h : Fin 16) (t : Fin 2048) :
    Host.reduce (FloatOps.maximumf (F := Ideal) (φ := .f32)) Y init reducesTo_S4x16x2048x1024_S4x16x2048_d3 h_S_ (ix3 b h t)
      = Finset.univ.fold max (init (Shape.Idx.first h_S_)) fun i : Fin 1024 => Y (ix4 b h t i) := by
  rw [Host.reduce_eq_fold_single _ _ _ _ (by decide)]
  refine congrArg (fun f => Finset.univ.fold max _ f) (funext fun i => congrArg Y (funext fun a => Fin.ext ?_))
  fin_cases a <;> rfl

/-- A greatest entry of finitely many, none of them plus infinity and one of them a real number, is a real number. -/
theorem fold_max_real {ι : Type} (s : Finset ι) (f : ι → EReal) (hf : ∀ i, f i < ⊤) (i : ι) (h : i ∈ s) (hi : ⊥ < f i) :
    ∃ M : ℝ, max ⊥ (s.fold max ⊥ f) = (M : EReal) := by
  have h1 : s.fold max ⊥ f < ⊤ := (Finset.fold_max_lt _).2 ⟨bot_lt_top, fun x _ => hf x⟩
  have h2 : ⊥ < s.fold max ⊥ f := (Finset.lt_fold_max _).2 (Or.inr ⟨i, h, hi⟩)
  refine ⟨(s.fold max ⊥ f).toReal, ?_⟩
  rw [max_eq_right bot_le, EReal.coe_toReal h1.ne h2.ne']

/-- The greatest score of a row. -/
theorem max_apply (b : Fin 4) (h : Fin 16) (t : Fin 2048) :
    val_main_v62 (F := Ideal) x0 x1 (ix3 b h t)
      = max ⊥ (Finset.univ.fold max ⊥ fun i : Fin 1024 => val_main_v59 (F := Ideal) x0 x1 (ix4 b h t i)) := by
  have h61 : val_main_v61 (F := Ideal) (ix3 b h t) = ⊥ := by
    pointwise [val_main_v61, val_main_cst_6]
    exact bits_bot
  have h5 : val_main_cst_5 (F := Ideal) (Shape.Idx.first h_S_) = ⊥ := bits_bot
  rw [val_main_v62_apply, h61]
  unfold val_main_v60
  generalize val_main_v59 (F := Ideal) x0 x1 = Y
  rw [max_of, h5]
  rfl

/-- A weight of the softmax. -/
theorem prob_apply (b : Fin 4) (h : Fin 16) (t : Fin 2048) (i : Fin 1024) :
    val_main_v70 (F := Ideal) x0 x1 (ix4 b h t i)
      = Ideal.div (Ideal.exp (val_main_v59 (F := Ideal) x0 x1 (ix4 b h t i) - val_main_v62 (F := Ideal) x0 x1 (ix3 b h t)))
        (∑ i : Fin 1024, Ideal.exp (val_main_v59 (F := Ideal) x0 x1 (ix4 b h t i) - val_main_v62 (F := Ideal) x0 x1 (ix3 b h t))) := by
  pointwise [val_main_v70, val_main_v69, val_main_v68, val_main_v67, val_main_cst_7, val_main_v66, val_main_v65, val_main_v64, val_main_v63]

variable (hq : ∀ R C, x0 (ix2 R C) = (q R C : EReal)) (hk : ∀ R C, x1 (ix2 R C) = (k R C : EReal))
  (b : Fin 4) (h : Fin 16) (t : Fin 2048) (s : Fin 128)

/-- The scaled score of key `j` of block `n`. -/
def score (n : ℕ) (j : Fin 256) : ℝ := dotKey q k (rowQ b t) (colQ h s) n j / √128

include hq hk

/-- A product of query and key is the real score. -/
theorem score_eq (n : Fin 8) (j : Fin 256) :
    ∑ e : Fin 128, val_main_v4 (F := Ideal) x0 (ix4 b h t e) * x1 (ix2 (rowQ b (posK n j)) (colQ h e)) = (score q k b h t s n.val j : EReal) := by
  unfold score dotKey
  rw [Finset.sum_div, coe_sum]
  refine Finset.sum_congr rfl fun e _ => ?_
  rw [q_apply x0 q hq, hk, ← EReal.coe_mul, headCol_colQ, keyRow_rowQ, mul_comm, mul_div_assoc]

/-- The masked scores of the chosen blocks, in the real scores. -/
theorem chosen_real (m : Fin 768) :
    val_main_v42 (F := Ideal) x0 x1 (ix4 b h t m)
      = if m.val / 256 < t.val / 256 then (score q k b h t s (pick x0 x1 b h t ⟨m.val / 256, by omega⟩).val ⟨m.val % 256, Nat.mod_lt _ (by decide)⟩ : EReal) else ⊥ := by
  rw [chosen_apply, ← score_eq x0 x1 q k hq hk]
  simp only [ks_apply]

/-- The masked scores of the own block, in the real scores. -/
theorem own_real (j : Fin 256) :
    val_main_v58 (F := Ideal) x0 x1 (ix4 b h t j)
      = if j.val ≤ t.val % 256 then (score q k b h t s (t.val / 256) j : EReal) else ⊥ := by
  rw [own_score_apply, ← score_eq x0 x1 q k hq hk b h t s ⟨t.val / 256, by omega⟩]
  simp only [kb_apply]

/-- The greatest score of a query is a real number. -/
theorem max_real : ∃ M : ℝ, val_main_v62 (F := Ideal) x0 x1 (ix3 b h t) = (M : EReal) := by
  rw [max_apply]
  refine fold_max_real _ _ (fun i => ?_) ⟨768, by decide⟩ (Finset.mem_univ _) ?_
  · rw [row_apply]
    split
    · rw [chosen_real x0 x1 q k hq hk b h t 0]
      split_ifs
      · exact EReal.coe_lt_top _
      · exact bot_lt_top
    · rw [own_real x0 x1 q k hq hk b h t 0]
      split_ifs
      · exact EReal.coe_lt_top _
      · exact bot_lt_top
  · rw [row_apply, dif_neg (by decide), own_real x0 x1 q k hq hk b h t 0]
    split_ifs with h0
    · exact EReal.bot_lt_coe _
    · exact absurd (Nat.zero_le _) h0

omit hq hk in
/-- The exponential of a masked score less a shift. -/
theorem exp_sub (p : Prop) [Decidable p] (a M : ℝ) :
    Ideal.exp ((if p then (a : EReal) else ⊥) - (M : EReal)) = ((if p then Real.exp (a - M) else 0 : ℝ) : EReal) := by
  split_ifs
  · rw [← EReal.coe_sub, Ideal.exp_coe]
  · rw [EReal.bot_sub, Ideal.exp_bot]; rfl

/-- The numerator of the softmax at place `i` of the row. -/
def num (M : ℝ) (i : Fin 1024) : ℝ :=
  if hi : i.val < 768 then
    if i.val / 256 < t.val / 256 then
      Real.exp (score q k b h t s (pick x0 x1 b h t ⟨i.val / 256, by omega⟩).val ⟨i.val % 256, Nat.mod_lt _ (by decide)⟩ - M)
    else 0
  else if i.val - 768 ≤ t.val % 256 then Real.exp (score q k b h t s (t.val / 256) ⟨i.val - 768, by omega⟩ - M) else 0

/-- The numerator of a weight is a real number. -/
theorem num_eq (M : ℝ) (i : Fin 1024) :
    Ideal.exp (val_main_v59 (F := Ideal) x0 x1 (ix4 b h t i) - (M : EReal)) = (num x0 x1 q k b h t s M i : EReal) := by
  rw [row_apply]
  unfold num
  by_cases hi : i.val < 768
  · rw [dif_pos hi, dif_pos hi, chosen_real x0 x1 q k hq hk b h t s, exp_sub]
  · rw [dif_neg hi, dif_neg hi, own_real x0 x1 q k hq hk b h t s, exp_sub]

omit hq hk in
/-- A numerator is not negative. -/
theorem num_nonneg (M : ℝ) (i : Fin 1024) : 0 ≤ num x0 x1 q k b h t s M i := by
  unfold num
  split_ifs <;> first | exact (Real.exp_pos _).le | exact le_rfl

omit hq hk in
/-- The sum of the numerators is positive. -/
theorem num_pos (M : ℝ) : 0 < ∑ i, num x0 x1 q k b h t s M i :=
  Finset.sum_pos' (fun i _ => num_nonneg ..) ⟨⟨768, by decide⟩, Finset.mem_univ _, by
    unfold num
    rw [dif_neg (by decide)]
    split_ifs with h0
    · exact Real.exp_pos _
    · exact absurd (Nat.zero_le _) h0⟩

/-- A weight is the quotient of its numerator and their sum. -/
theorem prob_real (M : ℝ) (hM : val_main_v62 (F := Ideal) x0 x1 (ix3 b h t) = (M : EReal)) (i : Fin 1024) :
    val_main_v70 (F := Ideal) x0 x1 (ix4 b h t i)
      = ((num x0 x1 q k b h t s M i / ∑ i, num x0 x1 q k b h t s M i : ℝ) : EReal) := by
  rw [prob_apply, hM]
  simp only [num_eq x0 x1 q k hq hk b h t s]
  rw [← coe_sum, Ideal.div_coe (num_pos ..).ne', ← EReal.coe_mul, mul_one_div]

omit hq hk in
/-- A sum over the slots' keys, slot by slot. -/
theorem sum_768 {A : Type} [AddCommMonoid A] (f : Fin 768 → A) : ∑ m, f m = ∑ j : Fin 3, ∑ a : Fin 256, f ⟨256 * j.val + a.val, by omega⟩ := by
  rw [← Fintype.sum_prod_type', ← (finProdFinEquiv (m := 3) (n := 256)).sum_comp]
  refine Finset.sum_congr rfl fun p _ => congrArg f (Fin.ext ?_)
  show p.2.val + 256 * p.1.val = 256 * p.1.val + p.2.val
  omega

omit hq hk in
/-- A sum over a row, the slots' keys and then the own block's. -/
theorem sum_1024 {A : Type} [AddCommMonoid A] (f : Fin 1024 → A) :
    ∑ i, f i = ∑ m : Fin 768, f ⟨m.val, by omega⟩ + ∑ a : Fin 256, f ⟨768 + a.val, by omega⟩ :=
  Fin.sum_univ_add (a := 768) (b := 256) f

omit hq hk in
/-- The numerator of a key of a chosen block. -/
theorem num_slot (M : ℝ) (j : Fin 3) (a : Fin 256) (hi : 256 * j.val + a.val < 1024) : num x0 x1 q k b h t s M ⟨256 * j.val + a.val, hi⟩
    = if j.val < t.val / 256 then Real.exp (score q k b h t s (pick x0 x1 b h t j).val a - M) else 0 := by
  have h1 : (256 * j.val + a.val) / 256 = j.val := by omega
  have h2 : (256 * j.val + a.val) % 256 = a.val := by omega
  unfold num
  rw [dif_pos (by show 256 * j.val + a.val < 768; omega)]
  simp only [h1, h2]

omit hq hk in
/-- The numerator of a key of the own block. -/
theorem num_own (M : ℝ) (a : Fin 256) (hi : 768 + a.val < 1024) : num x0 x1 q k b h t s M ⟨768 + a.val, hi⟩
    = if a.val ≤ t.val % 256 then Real.exp (score q k b h t s (t.val / 256) a - M) else 0 := by
  have h1 : 768 + a.val - 768 = a.val := by omega
  unfold num
  rw [dif_neg (by show ¬ 768 + a.val < 768; omega)]
  simp only [h1]

/-- The softmax of a query's row, times the values of the row's keys, is the attention. -/
theorem att_eq :
    (∑ m : Fin 768, val_main_v70 (F := Ideal) x0 x1 (ix4 b h t ⟨m.val, by omega⟩) * val_main_v39 (F := Ideal) x0 x1 x2 (ix5 b h t m s))
      + ∑ a : Fin 256, val_main_v70 (F := Ideal) x0 x1 (ix4 b h t ⟨768 + a.val, by omega⟩)
        * val_main_v10 (F := Ideal) x2 (ix5 b h ⟨t.val / 256, by omega⟩ a s)
      = att (score q k b h t s) (dotMean q k (rowQ b t) (colQ h s)) (fun n j => x2 (ix2 (keyRow (rowQ b t) n j) (colQ h s)))
        (t.val / 256) (t.val % 256) := by
  obtain ⟨M, hM⟩ := max_real x0 x1 q k hq hk b h t
  have hg : ∀ n : Fin 8, gates x0 x1 b h t n
      = if n.val < t.val / 256 then ((1 / √128 * dotMean q k (rowQ b t) (colQ h s) n.val : ℝ) : EReal) else ⊥ := fun n =>
    gate_real x0 x1 q k hq hk b h t s n
  rw [← att_scale (1 / √128) (by positivity), ← slots_eq_att hg (by omega) M (∑ i, num x0 x1 q k b h t s M i) (by
    rw [sum_1024, sum_768]
    simp only [num_slot, num_own]
    rfl)]
  rw [sum_768]
  simp only [prob_real x0 x1 q k hq hk b h t s M hM, num_slot, num_own, vs_apply, vb_apply]
  have h1 : ∀ (j : Fin 3) (a : Fin 256) (h0), (⟨(256 * j.val + a.val) / 256, h0⟩ : Fin 3) = j := fun j a h0 => Fin.ext (by
    show (256 * j.val + a.val) / 256 = j.val; omega)
  have h2 : ∀ (j : Fin 3) (a : Fin 256) (h0), (⟨(256 * j.val + a.val) % 256, h0⟩ : Fin 256) = a := fun j a h0 => Fin.ext (by
    show (256 * j.val + a.val) % 256 = a.val; omega)
  simp only [h1, h2, ← keyRow_rowQ b t]
  rfl

/-- The reference's result holds the layer's attention. -/
theorem reference_apply (R : Fin 8192) (C : Fin 2048) :
    val_main_v82 (F := Ideal) x0 x1 x2 x3 (ix2 R C) = layer q k (fun R C => x2 (ix2 R C)) (fun R C => x3 (ix2 R C)) R C := by
  have eR : rowQ ⟨R.val / 2048, by omega⟩ ⟨R.val % 2048, Nat.mod_lt _ (by decide)⟩ = R := Fin.ext (by
    show 2048 * (R.val / 2048) + R.val % 2048 = R.val; omega)
  have eC : colQ ⟨C.val / 128, by omega⟩ ⟨C.val % 128, Nat.mod_lt _ (by decide)⟩ = C := Fin.ext (by
    show 128 * (C.val / 128) + C.val % 128 = C.val; omega)
  have hm : R.val % 2048 / 256 * 256 + R.val % 2048 % 256 = R.val % 2048 := by omega
  have hc : R.val % 2048 % 256 = R.val % 256 := by omega
  have h := att_eq x0 x1 x2 q k hq hk ⟨R.val / 2048, by omega⟩ ⟨C.val / 128, by omega⟩ ⟨R.val % 2048, Nat.mod_lt _ (by decide)⟩
    ⟨C.val % 128, Nat.mod_lt _ (by decide)⟩
  unfold score at h
  rw [eR, eC] at h
  simp only [hc] at h
  pointwise [val_main_v82, val_main_v81, val_main_v80, val_main_v79, val_main_v78, val_main_v77, val_main_v76, val_main_v75, val_main_v74,
    val_main_v73, val_main_v72, val_main_v71, val_main_call3_v5, val_main_call3_v4, val_main_call3_v3, val_main_call3_v2,
    val_main_call3_v1, val_main_call3_v0, val_main_call3_cst, val_main_call3_cst_0]
  simp only [hm]
  rw [h]
  rfl

end Cert.ReferenceIdeal.Attn

end
-- ==== Proof.In.lean ====
/- The projection kernel's run as lists: what its straight line stores of each result is, for each of four blocks of 512
   rows, one payload at that block's loads; its weights are the scratch buffer's, filled at the first block of a column. -/
module

public import proofs.«01_k».proof.Proof.Gen.Kernel2Ideal.Value

@[expose] public section

set_option maxRecDepth 65536

noncomputable section

namespace Cert.Kernel2Ideal.In

open Cert.Kernel2Ideal Cert.Kernel2Ideal.Gen Idealize.ShloMosaic Idealize.SL.Sem

variable {F : FTy → Type} [FloatOps F] [Named F]

/-- Block `n` of 512 rows of a result. -/
def box (n : Nat) : Rect S2048x256 :=
  Rect.unit ![512 * (n % 4), 0] S512x256.size (by
    have h1 := Nat.mod_lt n (by decide : 4 > 0)
    intro a
    fin_cases a
    · show 512 * (n % 4) + 512 ≤ 2048; omega
    · show 0 + 256 ≤ 256; omega)

/-- Block `n` of 512 rows of the layer's input. -/
def xbox (n : Nat) : Rect S2048x2048 :=
  Rect.unit ![512 * (n % 4), 0] S512x2048.size (by
    have h1 := Nat.mod_lt n (by decide : 4 > 0)
    intro a
    fin_cases a
    · show 512 * (n % 4) + 512 ≤ 2048; omega
    · show 0 + 2048 ≤ 2048; omega)

/-- Path `k`'s weights in the scratch buffer. -/
def wbox (k : Nat) : Rect S4x2048x256 :=
  Rect.unit ![k % 4, 0, 0] S1x2048x256.size (by
    have h1 := Nat.mod_lt k (by decide : 4 > 0)
    intro a
    fin_cases a
    · show k % 4 + 1 ≤ 4; omega
    · show 0 + 2048 ≤ 2048; omega
    · show 0 + 256 ≤ 256; omega)

section
variable (c : Dev nD) (i : grid0.Coords) (arg2 : Memref sig .tc .vmem S2048x2048 .bf16) (harg2 : arg2.IsWhole)
  (arg3 : Memref sig .tc .vmem S2048x256 .f32) (harg3 : arg3.IsWhole) (arg4 : Memref sig .tc .vmem S2048x256 .f32) (harg4 : arg4.IsWhole)
  (arg5 : Memref sig .tc .vmem S2048x256 .f32) (harg5 : arg5.IsWhole) (arg6 : Memref sig .tc .vmem S2048x256 .f32) (harg6 : arg6.IsWhole)
  (arg7 : Memref sig .tc .vmem S1x64x2048 .f32) (harg7 : arg7.IsWhole) (arg8 : Memref sig .tc .vmem S1x64x2048 .f32) (harg8 : arg8.IsWhole)
  (arg9 : Memref sig .tc .vmem S2048x256 .bf16) (harg9 : arg9.IsWhole) (arg10 : Memref sig .tc .vmem S2048x256 .bf16) (harg10 : arg10.IsWhole)
  (arg11 : Memref sig .tc .vmem S2048x256 .bf16) (harg11 : arg11.IsWhole) (arg12 : Memref sig .tc .vmem S2048x256 .bf16) (harg12 : arg12.IsWhole)
  (arg13 : Memref sig .tc .vmem S64x2048 .bf16) (harg13 : arg13.IsWhole) (arg14 : Memref sig .tc .vmem S64x2048 .bf16) (harg14 : arg14.IsWhole)
  (arg15 : Memref sig .tc .vmem S4x2048x256 .bf16) (harg15 : arg15.IsWhole)
  (x0 : Vec F S2048x2048 .bf16) (x1 x2 x3 x4 : Vec F S2048x256 .f32) (x5 x6 : Vec F S1x64x2048 .f32) (xs0 : Vec F S4x2048x256 .bf16)

/-- A block of the input's rows as the run loads it. -/
def xr (n : Nat) : Vec F S512x2048 .bf16 := View.readAt (Elt F) arg2.view (xbox n).toLoadRect (harg2.unread x0)

/-- A block of weights as the run loads it. -/
def wload (a : Memref sig .tc .vmem S2048x256 .f32) (ha : a.IsWhole) (x : Vec F S2048x256 .f32) : Vec F S2048x256 .f32 :=
  View.readAt (Elt F) a.view (Rect.unit (s := S2048x256) ![0, 0] S2048x256.size inb_S2048x256_S2048x256_0_0).toLoadRect (ha.unread x)

/-- The stores of the scratch buffer, the last first. -/
abbrev wlist : List (View.Piece (Elt F) S4x2048x256 .bf16) :=
  [⟨wbox 3, k0_pay5 (wload arg6 harg6 x4)⟩, ⟨wbox 2, k0_pay4 (wload arg5 harg5 x3)⟩,
   ⟨wbox 1, k0_pay3 (wload arg4 harg4 x2)⟩, ⟨wbox 0, k0_pay2 (wload arg3 harg3 x1)⟩]

/-- The weights of a path as loaded after those stores. -/
def wA (k : Nat) : Vec F S1x2048x256 .bf16 :=
  arg15.view.readCov (wlist arg3 harg3 arg4 harg4 arg5 harg5 arg6 harg6 x1 x2 x3 x4) (wbox k).toLoadRect

/-- The weights of a path as loaded from what the block before left. -/
def wB (k : Nat) : Vec F S1x2048x256 .bf16 := View.readAt (Elt F) arg15.view (wbox k).toLoadRect (harg15.unread xs0)

/-- One result's stores: a payload for each block of rows, the last first. -/
abbrev rows (pay : Vec F S512x2048 .bf16 → FVec F S512x256 .bf16) : List (View.Piece (Elt F) S2048x256 .bf16) :=
  [3, 2, 1, 0].map fun n => ⟨box n, pay (xr arg2 harg2 x0 n)⟩

/-- The stores of the queries. -/
abbrev rowsQ (w : Nat → Vec F S1x2048x256 .bf16) := rows arg2 harg2 x0 fun x => k0_pay27 x (w 0)
/-- The stores of the keys. -/
abbrev rowsK (w : Nat → Vec F S1x2048x256 .bf16) := rows arg2 harg2 x0 fun x => k0_pay28 x (w 1)
/-- The stores of the values. -/
abbrev rowsV (w : Nat → Vec F S1x2048x256 .bf16) := rows arg2 harg2 x0 fun x => k0_pay28 x (w 2)
/-- The stores of the gates. -/
abbrev rowsZ (w : Nat → Vec F S1x2048x256 .bf16) := rows arg2 harg2 x0 fun x => k0_pay26 x (w 3)

/-- The store of one of the layer's other weights, cast. -/
abbrev slist (a : Memref sig .tc .vmem S1x64x2048 .f32) (ha : a.IsWhole) (x : Vec F S1x64x2048 .f32) :
    List (View.Piece (Elt F) S64x2048 .bf16) :=
  [⟨Rect.unit (s := S64x2048) ![0, 0] S64x2048.size inb_S64x2048_S64x2048_0_0, k0_pay12 (View.readAt (Elt F) a.view
    (Rect.unit (s := S1x64x2048) ![0, 0, 0] S1x64x2048.size inb_S1x64x2048_S1x64x2048_0_0_0).toLoadRect (ha.unread x))⟩]

variable (hA : cond0_0 i) (hB : ¬ cond0_0 i)

/-- The run at the first block of a column. -/
abbrev RA := kernelRun0_A c i arg2 harg2 arg3 harg3 arg4 harg4 arg5 harg5 arg6 harg6 arg7 harg7 arg8 harg8 arg9 harg9 arg10 harg10 arg11 harg11 arg12 harg12 arg13 harg13 arg14 harg14 arg15 harg15 hA x0 x1 x2 x3 x4 x5 x6
/-- The run at a later block. -/
abbrev RB := kernelRun0_B c i arg2 harg2 arg3 harg3 arg4 harg4 arg5 harg5 arg6 harg6 arg7 harg7 arg8 harg8 arg9 harg9 arg10 harg10 arg11 harg11 arg12 harg12 arg13 harg13 arg14 harg14 arg15 harg15 hB x0 x1 x2 x3 x4 x5 x6 xs0

/-- The queries' block after a point at the head of a column of blocks. -/
theorem runA_Q : (RA c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 hA).1 = rowsQ arg2 harg2 x0 (wA arg3 harg3 arg4 harg4 arg5 harg5 arg6 harg6 arg15 x1 x2 x3 x4) := by
  sl_kernel_rfl

/-- The keys' block after a point at the head of a column of blocks. -/
theorem runA_K : (RA c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 hA).2.1 = rowsK arg2 harg2 x0 (wA arg3 harg3 arg4 harg4 arg5 harg5 arg6 harg6 arg15 x1 x2 x3 x4) := by
  sl_kernel_rfl

/-- The values' block after a point at the head of a column of blocks. -/
theorem runA_V : (RA c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 hA).2.2.1 = rowsV arg2 harg2 x0 (wA arg3 harg3 arg4 harg4 arg5 harg5 arg6 harg6 arg15 x1 x2 x3 x4) := by
  sl_kernel_rfl

/-- The gate activations' block after a point at the head of a column of blocks. -/
theorem runA_Z : (RA c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 hA).2.2.2.1 = rowsZ arg2 harg2 x0 (wA arg3 harg3 arg4 harg4 arg5 harg5 arg6 harg6 arg15 x1 x2 x3 x4) := by
  sl_kernel_rfl

/-- The queries' block after a point further down. -/
theorem runB_Q : (RB c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 xs0 hB).1 = rowsQ arg2 harg2 x0 (wB arg15 harg15 xs0) := by
  sl_kernel_rfl

/-- The keys' block after a point further down. -/
theorem runB_K : (RB c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 xs0 hB).2.1 = rowsK arg2 harg2 x0 (wB arg15 harg15 xs0) := by
  sl_kernel_rfl

/-- The values' block after a point further down. -/
theorem runB_V : (RB c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 xs0 hB).2.2.1 = rowsV arg2 harg2 x0 (wB arg15 harg15 xs0) := by
  sl_kernel_rfl

/-- The gate activations' block after a point further down. -/
theorem runB_Z : (RB c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 xs0 hB).2.2.2.1 = rowsZ arg2 harg2 x0 (wB arg15 harg15 xs0) := by
  sl_kernel_rfl

/-- The scratch buffer's stores at the first block of a column. -/
theorem runA_W : (RA c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 hA).2.2.2.2.2.2.1 = wlist arg3 harg3 arg4 harg4 arg5 harg5 arg6 harg6 x1 x2 x3 x4 := by
  sl_kernel_rfl

/-- The first copied weights' block after a point at the head of a column of blocks. -/
theorem runA_S5 : (RA c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 hA).2.2.2.2.1 = slist arg7 harg7 x5 := by
  sl_kernel_rfl

/-- The second copied weights' block after a point at the head of a column of blocks. -/
theorem runA_S6 : (RA c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 hA).2.2.2.2.2.1 = slist arg8 harg8 x6 := by
  sl_kernel_rfl

/-- The first copied weights' block after a point further down. -/
theorem runB_S5 : (RB c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 xs0 hB).2.2.2.2.1 = slist arg7 harg7 x5 := by
  sl_kernel_rfl

/-- The second copied weights' block after a point further down. -/
theorem runB_S6 : (RB c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 xs0 hB).2.2.2.2.2.1 = slist arg8 harg8 x6 := by
  sl_kernel_rfl

end

end Cert.Kernel2Ideal.In

end
-- ==== Proof.InVal.lean ====
/- The projection kernel at an index: each result's entry is a row of the input against a column of one path's weights. -/
module

public import proofs.«01_k».proof.Proof.In
public import proofs.«01_k».proof.Proof.Layer
public import Idealize.ShloMosaic.Lib.Pointwise
public import Idealize.ShloMosaic.Lib.Pipeline.ValueKit
public import Idealize.ShloMosaic.Lib.Claim

@[expose] public section

set_option maxRecDepth 16384

noncomputable section

namespace Cert.Kernel2Ideal.In

open Cert.Kernel2Ideal Cert.Kernel2Ideal.Gen Idealize.ShloMosaic Idealize.SL.Sem Cert.Moba

/-- The query scale: one over the root of 128 times the logarithm of 2. -/
def scale : EReal := (((√128 * Real.log 2)⁻¹ : ℝ) : EReal)

/-- The named constant is the scale. -/
theorem scale_eq : Named.named (F := Ideal) κ "scale2" (φ := .f32) 0x3E0293EE#32 = scale :=
  IdealRules.named_const.ideal_named_scalar κ "scale2" _ _ rfl

/-- A stored block of queries at an index. -/
theorem payQ (x : Vec Ideal S512x2048 .bf16) (w : Vec Ideal S1x2048x256 .bf16) (a : Fin 512) (b : Fin 256) :
    k0_pay27 x w (ix2 a b) = (∑ e : Fin 2048, x (ix2 a e) * w (ix3 0 e b)) * scale := by
  pointwise [k0_pay27, k0_pay25]
  rw [scale_eq]

/-- A stored block of keys at an index. -/
theorem payK (x : Vec Ideal S512x2048 .bf16) (w : Vec Ideal S1x2048x256 .bf16) (a : Fin 512) (b : Fin 256) :
    k0_pay28 x w (ix2 a b) = ∑ e : Fin 2048, x (ix2 a e) * w (ix3 0 e b) := by
  pointwise [k0_pay28, k0_pay25]

/-- A stored block of gate activations at an index. -/
theorem payZ (x : Vec Ideal S512x2048 .bf16) (w : Vec Ideal S1x2048x256 .bf16) (a : Fin 512) (b : Fin 256) :
    k0_pay26 x w (ix2 a b) = silu (∑ e : Fin 2048, x (ix2 a e) * w (ix3 0 e b)) := by
  pointwise [k0_pay26, k0_pay25]
  rfl

/-- A stored block of copied weights at an index. -/
theorem payS (x : Vec Ideal S1x64x2048 .f32) (a : Fin 64) (b : Fin 2048) : k0_pay12 x (ix2 a b) = x (ix3 0 a b) := by
  pointwise [k0_pay12]

/-- A stored block of the projection's weights at an index. -/
theorem payW (x : Vec Ideal S2048x256 .f32) (a : Fin 2048) (b : Fin 256) : k0_pay2 x (ix3 0 a b) = x (ix2 a b) := by
  pointwise [k0_pay2]

section
variable (arg2 : Memref sig .tc .vmem S2048x2048 .bf16) (harg2 : arg2.IsWhole)
  (arg3 : Memref sig .tc .vmem S2048x256 .f32) (harg3 : arg3.IsWhole) (arg4 : Memref sig .tc .vmem S2048x256 .f32) (harg4 : arg4.IsWhole)
  (arg5 : Memref sig .tc .vmem S2048x256 .f32) (harg5 : arg5.IsWhole) (arg6 : Memref sig .tc .vmem S2048x256 .f32) (harg6 : arg6.IsWhole)
  (arg15 : Memref sig .tc .vmem S4x2048x256 .bf16) (harg15 : arg15.IsWhole)
  (x0 : Vec Ideal S2048x2048 .bf16) (x1 x2 x3 x4 : Vec Ideal S2048x256 .f32) (xs0 : Vec Ideal S4x2048x256 .bf16)

/-- The load of a block of rows at an index. -/
theorem xr_apply (n : Nat) (a : Fin 512) (e : Fin 2048) (r : Fin 2048) (hr : r.val = 512 * (n % 4) + a.val) :
    xr (F := Ideal) arg2 harg2 x0 n (ix2 a e) = x0 (ix2 r e) := by
  unfold xr
  rw [View.readAt_eq_ld, harg2.read_unread]
  refine congrArg x0 (funext fun b => Fin.ext ?_)
  fin_cases b
  · show 512 * (n % 4) + 1 * a.val = r.val; omega
  · show 0 + 1 * e.val = e.val; omega

/-- The load of a whole block of weights is that block. -/
theorem wload_eq (a : Memref sig .tc .vmem S2048x256 .f32) (ha : a.IsWhole) (x : Vec Ideal S2048x256 .f32) :
    wload (F := Ideal) a ha x = x := by
  unfold wload
  rw [View.readAt_eq_ld, ha.read_unread]
  funext j
  refine congrArg x (funext fun b => Fin.ext ?_)
  fin_cases b
  · show 0 + 1 * (j 0).val = (j 0).val; omega
  · show 0 + 1 * (j 1).val = (j 1).val; omega

/-- The load of weights from the scratch, further down a column of blocks. -/
theorem wB_apply (k : Fin 4) (e : Fin 2048) (b : Fin 256) : wB (F := Ideal) arg15 harg15 xs0 k.val (ix3 0 e b) = xs0 (ix3 k e b) := by
  have hk := k.isLt
  unfold wB
  rw [View.readAt_eq_ld, harg15.read_unread]
  refine congrArg xs0 (funext fun d => Fin.ext ?_)
  fin_cases d
  · show k.val % 4 + 1 * 0 = k.val; omega
  · show 0 + 1 * e.val = e.val; omega
  · show 0 + 1 * b.val = b.val; omega

/-- The scratch buffer after its stores holds the four paths' weights. -/
theorem wlist_apply (k : Fin 4) (e : Fin 2048) (b : Fin 256) :
    View.canon (wlist (F := Ideal) arg3 harg3 arg4 harg4 arg5 harg5 arg6 harg6 x1 x2 x3 x4) (ix3 k e b) = ![x1, x2, x3, x4] k (ix2 e b) := by
  refine View.canon_apply_of_pieces (Val := Elt Ideal) (e := .bf16)
    (fun y : S4x2048x256.Idx => ![x1, x2, x3, x4] (y 0) (ix2 (y 1) (y 2))) _ ?_ (ix3 k e b) ?_
  · have key : ∀ (n : Fin 4) (x : Vec Ideal S2048x256 .f32) (hx : x = ![x1, x2, x3, x4] n) (j : S1x2048x256.Idx),
        k0_pay2 x j = (fun y : S4x2048x256.Idx => ![x1, x2, x3, x4] (y 0) (ix2 (y 1) (y 2))) ((wbox n.val).emb j) := by
      intro n x hx j
      obtain ⟨p, u, v, rfl⟩ : ∃ (p : Fin 1) (u : Fin 2048) (v : Fin 256), j = ix3 p u v :=
        ⟨j 0, j 1, j 2, eq_ix3 (n0 := 1) (n1 := 2048) (n2 := 256) j⟩
      obtain rfl : p = 0 := Subsingleton.elim _ _
      have h0 : ((wbox n.val).emb (ix3 0 u v)) 0 = n := Fin.ext (by
        show n.val % 4 + 1 * 0 = n.val
        omega)
      have h1 : ((wbox n.val).emb (ix3 0 u v)) 1 = u := Fin.ext (by show 0 + 1 * u.val = u.val; omega)
      have h2 : ((wbox n.val).emb (ix3 0 u v)) 2 = v := Fin.ext (by show 0 + 1 * v.val = v.val; omega)
      simp only [h0, h1, h2]
      rw [payW, hx]
    simp only [wload_eq, List.forall_mem_cons]
    exact ⟨key 3 x4 rfl, key 2 x3 rfl, key 1 x2 rfl, key 0 x1 rfl, fun p hp => absurd hp List.not_mem_nil⟩
  · have hm : ∀ n : Fin 4, ix3 n e b ∈ (wbox n.val).set := fun n => by
      unfold wbox
      rw [Rect.mem_set_unit]
      intro d
      fin_cases d
      · show n.val % 4 ≤ n.val ∧ n.val < n.val % 4 + 1; omega
      · show 0 ≤ e.val ∧ e.val < 0 + 2048; omega
      · show 0 ≤ b.val ∧ b.val < 0 + 256; omega
    fin_cases k
    · exact ⟨_, .tail _ (.tail _ (.tail _ (.head _))), hm 0⟩
    · exact ⟨_, .tail _ (.tail _ (.head _)), hm 1⟩
    · exact ⟨_, .tail _ (.head _), hm 2⟩
    · exact ⟨_, .head _, hm 3⟩

/-- The load of weights from the scratch, at the head of a column of blocks. -/
theorem wA_apply (k : Fin 4) (e : Fin 2048) (b : Fin 256) :
    wA (F := Ideal) arg3 harg3 arg4 harg4 arg5 harg5 arg6 harg6 arg15 x1 x2 x3 x4 k.val (ix3 0 e b) = ![x1, x2, x3, x4] k (ix2 e b) := by
  have hk := k.isLt
  rw [← wlist_apply arg3 harg3 arg4 harg4 arg5 harg5 arg6 harg6 x1 x2 x3 x4]
  unfold wA
  rw [View.readCov_eq_canon']
  refine congrArg _ (funext fun d => Fin.ext ?_)
  fin_cases d
  · show k.val % 4 + 1 * 0 = k.val; omega
  · show 0 + 1 * e.val = e.val; omega
  · show 0 + 1 * b.val = b.val; omega

/-- A result at an index: the payload of its block of rows. -/
theorem rows_apply (pay : Vec Ideal S512x2048 .bf16 → FVec Ideal S512x256 .bf16) (r : Fin 2048) (s : Fin 256) :
    View.canon (rows (F := Ideal) arg2 harg2 x0 pay) (ix2 r s)
      = pay (xr arg2 harg2 x0 (r.val / 512)) (ix2 ⟨r.val % 512, Nat.mod_lt _ (by decide)⟩ s) := by
  refine View.canon_apply_of_pieces (Val := Elt Ideal) (e := .bf16)
    (fun y : S2048x256.Idx => pay (xr arg2 harg2 x0 ((y 0).val / 512)) (ix2 ⟨(y 0).val % 512, Nat.mod_lt _ (by decide)⟩ (y 1))) _ ?_ (ix2 r s) ?_
  · intro p hp
    obtain ⟨n, hn, rfl⟩ := List.mem_map.1 hp
    have hn4 := (by decide : ∀ n ∈ [3, 2, 1, 0], n < 4) n hn
    intro x
    obtain ⟨u, v, rfl⟩ : ∃ (u : Fin 512) (v : Fin 256), x = ix2 u v := ⟨x 0, x 1, eq_ix2 (n0 := 512) (n1 := 256) x⟩
    have e0 : (((box n).emb (ix2 u v)) 0).val = 512 * n + u.val := by
      show 512 * (n % 4) + 1 * u.val = _
      omega
    have e1 : ((box n).emb (ix2 u v)) 1 = v := Fin.ext (by show 0 + 1 * v.val = v.val; omega)
    have q0 : (512 * n + u.val) / 512 = n := by omega
    have m0 : (512 * n + u.val) % 512 = u.val := by omega
    simp only [e0, e1, q0, m0]
  · have hr : r.val / 512 < 4 := by omega
    refine ⟨_, List.mem_map.2 ⟨r.val / 512, (by decide : ∀ n < 4, n ∈ [3, 2, 1, 0]) _ hr, rfl⟩, ?_⟩
    show ix2 r s ∈ (box (r.val / 512)).set
    unfold box
    rw [Rect.mem_set_unit]
    intro b
    fin_cases b
    · show 512 * (r.val / 512 % 4) ≤ r.val ∧ r.val < 512 * (r.val / 512 % 4) + 512; omega
    · show 0 ≤ s.val ∧ s.val < 0 + 256; omega

/-- A row of the input against a column of weights. -/
theorem row_dot (w : Vec Ideal S1x2048x256 .bf16) (r : Fin 2048) (s : Fin 256) :
    (∑ e : Fin 2048, xr (F := Ideal) arg2 harg2 x0 (r.val / 512) (ix2 ⟨r.val % 512, Nat.mod_lt _ (by decide)⟩ e) * w (ix3 0 e s))
      = ∑ e : Fin 2048, x0 (ix2 r e) * w (ix3 0 e s) :=
  Finset.sum_congr rfl fun e _ => by
    rw [xr_apply arg2 harg2 x0 _ _ e r (by show r.val = 512 * (r.val / 512 % 4) + r.val % 512; omega)]

/-- The cast weights at an index: the block read. -/
theorem slist_apply (a : Memref sig .tc .vmem S1x64x2048 .f32) (ha : a.IsWhole) (x : Vec Ideal S1x64x2048 .f32) (r : Fin 64)
    (s : Fin 2048) : View.canon (slist (F := Ideal) a ha x) (ix2 r s) = x (ix3 0 r s) := by
  refine (View.canon_apply_of_pieces (Val := Elt Ideal) (e := .bf16) (fun y : S64x2048.Idx => x (ix3 0 (y 0) (y 1))) _ ?_ (ix2 r s) ?_)
  · simp only [List.forall_mem_cons]
    refine ⟨fun j => ?_, fun p hp => absurd hp List.not_mem_nil⟩
    obtain ⟨u, v, rfl⟩ : ∃ (u : Fin 64) (v : Fin 2048), j = ix2 u v := ⟨j 0, j 1, eq_ix2 (n0 := 64) (n1 := 2048) j⟩
    rw [payS, View.readAt_eq_ld, ha.read_unread]
    refine congrArg x (funext fun d => Fin.ext ?_)
    fin_cases d
    · rfl
    · show 0 + 1 * u.val = 0 + 1 * u.val; rfl
    · show 0 + 1 * v.val = 0 + 1 * v.val; rfl
  · refine ⟨_, .head _, ?_⟩
    rw [Rect.mem_set_unit]
    intro d
    fin_cases d
    · show 0 ≤ r.val ∧ r.val < 0 + 64; omega
    · show 0 ≤ s.val ∧ s.val < 0 + 2048; omega

end

end Cert.Kernel2Ideal.In

end
-- ==== Proof.InArr.lean ====
/- The projection kernel's arrays: the blocks of the results placed, and the scratch buffer's weights followed down a column
   of blocks. -/
module

public import proofs.«01_k».proof.Proof.InVal

@[expose] public section

set_option maxRecDepth 16384

noncomputable section

namespace Cert.Kernel2Ideal.In

open Cert.Kernel2Ideal Cert.Kernel2Ideal.Gen Idealize.ShloMosaic Idealize.ShloMosaic.TcCoe Idealize.SL.Sem Cert.Moba

variable (m : (ℓ : Loc nD τ sig) → Buf (Elt Ideal) ℓ) (c : Dev nD)

/-- Column `C` of path `k` among the projection's columns. -/
def pathCol (k : Fin 4) (C : Fin 2048) : Fin 8192 := ⟨2048 * k.val + C.val, by omega⟩

/-- An entry of path `k` of the projection of rows `X` by weights `W`. -/
def proj (X : S4x2048x2048.Idx → EReal) (W : S1x2048x8192.Idx → EReal) (k : Fin 4) (R : Fin 8192) (C : Fin 2048) : EReal :=
  ∑ e : Fin 2048, X (ix3 ⟨R.val / 2048, by omega⟩ ⟨R.val % 2048, Nat.mod_lt _ (by decide)⟩ e) * W (ix3 0 e (pathCol k C))

/-- The rows of the input, flattened, at an index. -/
theorem x_apply (R : Fin 8192) (e : Fin 2048) : V m c main_v1 (ix2 R e)
    = m ((c : Thread nD τ).loc main_arg0) (ix3 ⟨R.val / 2048, by omega⟩ ⟨R.val % 2048, Nat.mod_lt _ (by decide)⟩ e) := by
  entry_read
  pointwise

/-- The weights of the projection at an index. -/
theorem w_apply (e : Fin 2048) (C : Fin 8192) : V m c main_v2 (ix2 e C) = m ((c : Thread nD τ).loc main_arg1) (ix3 0 e C) := by
  entry_read
  pointwise

/-- The row of the array that row `a` of point `t`'s blocks is. -/
def rowOf (t : Fin grid0.N) (a : Fin 2048) : Fin 8192 := ⟨2048 * (t.val % 4) + a.val, by omega⟩

/-- The column of a path that column `b` of point `t`'s blocks is. -/
def colOf (t : Fin grid0.N) (b : Fin 256) : Fin 2048 := ⟨256 * (t.val / 4 % 8) + b.val, by omega⟩

/-- Where window 0 lies at a point. -/
theorem index_0 : ∀ t : Fin cfg0.N, win0_0.index t = ![t.val % 4, 0] := (by decide +kernel : ∀ t : Fin grid0.N, _)
/-- Where window 1 lies at a point. -/
theorem index_1 : ∀ t : Fin cfg0.N, win0_1.index t = ![0, t.val / 4 % 8] := (by decide +kernel : ∀ t : Fin grid0.N, _)
/-- Where window 2 lies at a point. -/
theorem index_2 : ∀ t : Fin cfg0.N, win0_2.index t = ![0, t.val / 4 % 8 + 8] := (by decide +kernel : ∀ t : Fin grid0.N, _)
/-- Where window 3 lies at a point. -/
theorem index_3 : ∀ t : Fin cfg0.N, win0_3.index t = ![0, t.val / 4 % 8 + 16] := (by decide +kernel : ∀ t : Fin grid0.N, _)
/-- Where window 4 lies at a point. -/
theorem index_4 : ∀ t : Fin cfg0.N, win0_4.index t = ![0, t.val / 4 % 8 + 24] := (by decide +kernel : ∀ t : Fin grid0.N, _)
/-- Where window 5 lies at a point. -/
theorem index_5 : ∀ t : Fin cfg0.N, win0_5.index t = ![1, t.val % 32, 0] := (by decide +kernel : ∀ t : Fin grid0.N, _)
/-- Where window 6 lies at a point. -/
theorem index_6 : ∀ t : Fin cfg0.N, win0_6.index t = ![1, t.val % 32, 0] := (by decide +kernel : ∀ t : Fin grid0.N, _)
/-- Where window 7 lies at a point. -/
theorem index_7 : ∀ t : Fin cfg0.N, win0_7.index t = ![t.val % 4, t.val / 4 % 8] := (by decide +kernel : ∀ t : Fin grid0.N, _)
/-- Where window 8 lies at a point. -/
theorem index_8 : ∀ t : Fin cfg0.N, win0_8.index t = ![t.val % 4, t.val / 4 % 8] := (by decide +kernel : ∀ t : Fin grid0.N, _)
/-- Where window 9 lies at a point. -/
theorem index_9 : ∀ t : Fin cfg0.N, win0_9.index t = ![t.val % 4, t.val / 4 % 8] := (by decide +kernel : ∀ t : Fin grid0.N, _)
/-- Where window 10 lies at a point. -/
theorem index_10 : ∀ t : Fin cfg0.N, win0_10.index t = ![t.val % 4, t.val / 4 % 8] := (by decide +kernel : ∀ t : Fin grid0.N, _)
/-- Where window 11 lies at a point. -/
theorem index_11 : ∀ t : Fin cfg0.N, win0_11.index t = ![t.val % 32, 0] := (by decide +kernel : ∀ t : Fin grid0.N, _)
/-- Where window 12 lies at a point. -/
theorem index_12 : ∀ t : Fin cfg0.N, win0_12.index t = ![t.val % 32, 0] := (by decide +kernel : ∀ t : Fin grid0.N, _)

/-- The input's block at a point, in the rows. -/
theorem iblk0_apply (t : Fin cfg0.N) (a : Fin 2048) (e : Fin 2048) : iblk m c 0 t (ix2 a e) = V m c main_v1 (ix2 (rowOf t a) e) := by
  blk_simp [iblk]
  refine congrArg _ ?_
  blk_ext [index_0 t, rowOf]

/-- The four weight blocks of a point. -/
theorem iblkW_apply (t : Fin cfg0.N) (k : Fin 4) (e : Fin 2048) (b : Fin 256) :
    ![iblk m c 1 t, iblk m c 2 t, iblk m c 3 t, iblk m c 4 t] k (ix2 e b)
      = m ((c : Thread nD τ).loc main_arg1) (ix3 0 e (pathCol k (colOf t b))) := by
  rw [← w_apply m c]
  fin_cases k
  · show iblk m c 1 t (ix2 e b) = _
    blk_simp [iblk]
    refine congrArg _ ?_
    blk_ext [index_1 t, pathCol, colOf]
  · show iblk m c 2 t (ix2 e b) = _
    blk_simp [iblk]
    refine congrArg _ ?_
    blk_ext [index_2 t, pathCol, colOf]
  · show iblk m c 3 t (ix2 e b) = _
    blk_simp [iblk]
    refine congrArg _ ?_
    blk_ext [index_3 t, pathCol, colOf]
  · show iblk m c 4 t (ix2 e b) = _
    blk_simp [iblk]
    refine congrArg _ ?_
    blk_ext [index_4 t, pathCol, colOf]

section Case

variable (t : Fin cfg0.N)

/-- The weights of path `k` a point at the head of a column multiplies by. -/
abbrev headW (k : ℕ) : Vec Ideal S1x2048x256 .bf16 :=
  wA (ms0_1 t) (hs0_1 t) (ms0_2 t) (hs0_2 t) (ms0_3 t) (hs0_3 t) (ms0_4 t) (hs0_4 t) scM0_0
    (iblk m c 1 t) (iblk m c 2 t) (iblk m c 3 t) (iblk m c 4 t) k

/-- The weights of path `k` a later point multiplies by. -/
abbrev nextW (k : ℕ) : Vec Ideal S1x2048x256 .bf16 :=
  wB scM0_0 (Memref.isWhole_whole _) (outsAt0 m c (t.val - 1) (Nat.lt_of_le_of_lt (Nat.sub_le _ _) t.isLt)).2.2.2.2.2.2 k

variable (h0 : t.val % 4 = 0) (h1 : ¬ t.val % 4 = 0)

include h0 in
/-- What a point at the head of a column of blocks leaves of the queries. -/
theorem outA_Q : (outsAt0 m c t.val t.isLt).1 = View.canon (rowsQ (ms0_0 t) (hs0_0 t) (iblk m c 0 t) (headW m c t)) := by
  rw [outsAt0_A m c t h0]
  dsimp only
  unfold out0_A_7
  rw [View.read_writes_junk_eq_canon, runA_Q]

include h0 in
/-- What a point at the head of a column of blocks leaves of the keys. -/
theorem outA_K : (outsAt0 m c t.val t.isLt).2.1 = View.canon (rowsK (ms0_0 t) (hs0_0 t) (iblk m c 0 t) (headW m c t)) := by
  rw [outsAt0_A m c t h0]
  dsimp only
  unfold out0_A_8
  rw [View.read_writes_junk_eq_canon, runA_K]

include h0 in
/-- What a point at the head of a column of blocks leaves of the values. -/
theorem outA_V : (outsAt0 m c t.val t.isLt).2.2.1 = View.canon (rowsV (ms0_0 t) (hs0_0 t) (iblk m c 0 t) (headW m c t)) := by
  rw [outsAt0_A m c t h0]
  dsimp only
  unfold out0_A_9
  rw [View.read_writes_junk_eq_canon, runA_V]

include h0 in
/-- What a point at the head of a column of blocks leaves of the gate activations. -/
theorem outA_Z : (outsAt0 m c t.val t.isLt).2.2.2.1 = View.canon (rowsZ (ms0_0 t) (hs0_0 t) (iblk m c 0 t) (headW m c t)) := by
  rw [outsAt0_A m c t h0]
  dsimp only
  unfold out0_A_10
  rw [View.read_writes_junk_eq_canon, runA_Z]

include h0 in
/-- What a point at the head of a column of blocks leaves of the first copied weights. -/
theorem outA_S5 : (outsAt0 m c t.val t.isLt).2.2.2.2.1 = View.canon (slist (ms0_5 t) (hs0_5 t) (iblk m c 5 t)) := by
  rw [outsAt0_A m c t h0]
  dsimp only
  unfold out0_A_11
  rw [View.read_writes_junk_eq_canon, runA_S5]

include h0 in
/-- What a point at the head of a column of blocks leaves of the second copied weights. -/
theorem outA_S6 : (outsAt0 m c t.val t.isLt).2.2.2.2.2.1 = View.canon (slist (ms0_6 t) (hs0_6 t) (iblk m c 6 t)) := by
  rw [outsAt0_A m c t h0]
  dsimp only
  unfold out0_A_12
  rw [View.read_writes_junk_eq_canon, runA_S6]

include h1 in
/-- What a point further down leaves of the queries. -/
theorem outB_Q : (outsAt0 m c t.val t.isLt).1 = View.canon (rowsQ (ms0_0 t) (hs0_0 t) (iblk m c 0 t) (nextW m c t)) := by
  rw [outsAt0_B m c t h1]
  dsimp only
  unfold out0_B_7
  rw [View.read_writes_junk_eq_canon, runB_Q]

include h1 in
/-- What a point further down leaves of the keys. -/
theorem outB_K : (outsAt0 m c t.val t.isLt).2.1 = View.canon (rowsK (ms0_0 t) (hs0_0 t) (iblk m c 0 t) (nextW m c t)) := by
  rw [outsAt0_B m c t h1]
  dsimp only
  unfold out0_B_8
  rw [View.read_writes_junk_eq_canon, runB_K]

include h1 in
/-- What a point further down leaves of the values. -/
theorem outB_V : (outsAt0 m c t.val t.isLt).2.2.1 = View.canon (rowsV (ms0_0 t) (hs0_0 t) (iblk m c 0 t) (nextW m c t)) := by
  rw [outsAt0_B m c t h1]
  dsimp only
  unfold out0_B_9
  rw [View.read_writes_junk_eq_canon, runB_V]

include h1 in
/-- What a point further down leaves of the gate activations. -/
theorem outB_Z : (outsAt0 m c t.val t.isLt).2.2.2.1 = View.canon (rowsZ (ms0_0 t) (hs0_0 t) (iblk m c 0 t) (nextW m c t)) := by
  rw [outsAt0_B m c t h1]
  dsimp only
  unfold out0_B_10
  rw [View.read_writes_junk_eq_canon, runB_Z]

include h1 in
/-- What a point further down leaves of the first copied weights. -/
theorem outB_S5 : (outsAt0 m c t.val t.isLt).2.2.2.2.1 = View.canon (slist (ms0_5 t) (hs0_5 t) (iblk m c 5 t)) := by
  rw [outsAt0_B m c t h1]
  dsimp only
  unfold out0_B_11
  rw [View.read_writes_junk_eq_canon, runB_S5]

include h1 in
/-- What a point further down leaves of the second copied weights. -/
theorem outB_S6 : (outsAt0 m c t.val t.isLt).2.2.2.2.2.1 = View.canon (slist (ms0_6 t) (hs0_6 t) (iblk m c 6 t)) := by
  rw [outsAt0_B m c t h1]
  dsimp only
  unfold out0_B_12
  rw [View.read_writes_junk_eq_canon, runB_S6]

include h0 in
/-- The weights' scratch after a point at the head of a column of blocks. -/
theorem outA_W : (outsAt0 m c t.val t.isLt).2.2.2.2.2.2
    = View.canon (wlist (ms0_1 t) (hs0_1 t) (ms0_2 t) (hs0_2 t) (ms0_3 t) (hs0_3 t) (ms0_4 t) (hs0_4 t)
      (iblk m c 1 t) (iblk m c 2 t) (iblk m c 3 t) (iblk m c 4 t)) := by
  rw [outsAt0_A m c t h0]
  dsimp only
  unfold sout0_A_0
  rw [View.read_writes_junk_eq_canon, runA_W]

include h1 in
/-- The weights' scratch after a point further down: as it was. -/
theorem outB_W : (outsAt0 m c t.val t.isLt).2.2.2.2.2.2
    = (outsAt0 m c (t.val - 1) (Nat.lt_of_le_of_lt (Nat.sub_le _ _) t.isLt)).2.2.2.2.2.2 :=
  congrArg (fun o => o.2.2.2.2.2.2) (outsAt0_B m c t h1)

end Case

/-- What the scratch buffer holds after a point: the four paths' weights of the point's column. -/
theorem scratch_apply (n : ℕ) (hn : n < cfg0.N) (k : Fin 4) (e : Fin 2048) (b : Fin 256) :
    (outsAt0 m c n hn).2.2.2.2.2.2 (ix3 k e b)
      = m ((c : Thread nD τ).loc main_arg1) (ix3 0 e (pathCol k (colOf ⟨n, hn⟩ b))) := by
  have hA : ∀ t : Fin cfg0.N, t.val % 4 = 0 → (outsAt0 m c t.val t.isLt).2.2.2.2.2.2 (ix3 k e b)
      = m ((c : Thread nD τ).loc main_arg1) (ix3 0 e (pathCol k (colOf t b))) := fun t h0 =>
    (congrFun (outA_W m c t h0) _).trans ((wlist_apply ..).trans (iblkW_apply ..))
  induction n with
  | zero => exact hA ⟨0, hn⟩ rfl
  | succ n ih =>
    by_cases h0 : (n + 1) % 4 = 0
    · exact hA ⟨n + 1, hn⟩ h0
    · refine (congrFun (outB_W m c ⟨n + 1, hn⟩ h0) _).trans ((ih (Nat.lt_of_succ_lt hn)).trans ?_)
      congr 3
      exact Fin.ext (by
        show 256 * (n / 4 % 8) + b.val = 256 * ((n + 1) / 4 % 8) + b.val
        omega)

/-- What a point leaves of the four results: stores by rows of the payloads at weights `w`, which are the column's. -/
theorem outs_rows (t : Fin cfg0.N) : ∃ w : ℕ → Vec Ideal S1x2048x256 .bf16,
    (∀ (k : Fin 4) (e : Fin 2048) (b : Fin 256), w k.val (ix3 0 e b)
      = m ((c : Thread nD τ).loc main_arg1) (ix3 0 e (pathCol k (colOf t b))))
    ∧ (outsAt0 m c t.val t.isLt).1 = View.canon (rowsQ (ms0_0 t) (hs0_0 t) (iblk m c 0 t) w)
    ∧ (outsAt0 m c t.val t.isLt).2.1 = View.canon (rowsK (ms0_0 t) (hs0_0 t) (iblk m c 0 t) w)
    ∧ (outsAt0 m c t.val t.isLt).2.2.1 = View.canon (rowsV (ms0_0 t) (hs0_0 t) (iblk m c 0 t) w)
    ∧ (outsAt0 m c t.val t.isLt).2.2.2.1 = View.canon (rowsZ (ms0_0 t) (hs0_0 t) (iblk m c 0 t) w) := by
  by_cases h0 : t.val % 4 = 0
  · exact ⟨headW m c t, fun k e b => (wA_apply ..).trans (iblkW_apply ..),
      outA_Q m c t h0, outA_K m c t h0, outA_V m c t h0, outA_Z m c t h0⟩
  · refine ⟨nextW m c t, fun k e b => ?_, outB_Q m c t h0, outB_K m c t h0, outB_V m c t h0, outB_Z m c t h0⟩
    refine (wB_apply ..).trans ((scratch_apply ..).trans ?_)
    congr 3
    exact Fin.ext (by
      show 256 * ((t.val - 1) / 4 % 8) + b.val = 256 * (t.val / 4 % 8) + b.val
      omega)

/-- The casts of the layer's other weights a point leaves. -/
theorem outs_side (t : Fin cfg0.N) (a : Fin 64) (b : Fin 2048) :
    (outsAt0 m c t.val t.isLt).2.2.2.2.1 (ix2 a b) = iblk m c 5 t (ix3 0 a b)
    ∧ (outsAt0 m c t.val t.isLt).2.2.2.2.2.1 (ix2 a b) = iblk m c 6 t (ix3 0 a b) := by
  by_cases h0 : t.val % 4 = 0
  · exact ⟨(congrFun (outA_S5 m c t h0) _).trans (slist_apply _ _ _ a b),
      (congrFun (outA_S6 m c t h0) _).trans (slist_apply _ _ _ a b)⟩
  · exact ⟨(congrFun (outB_S5 m c t h0) _).trans (slist_apply _ _ _ a b),
      (congrFun (outB_S6 m c t h0) _).trans (slist_apply _ _ _ a b)⟩

/-- A row of a point's input block against a column of its weights is an entry of the projection. -/
theorem dot_proj (t : Fin cfg0.N) (w : ℕ → Vec Ideal S1x2048x256 .bf16) (hw : ∀ (k : Fin 4) (e : Fin 2048) (b : Fin 256),
    w k.val (ix3 0 e b) = m ((c : Thread nD τ).loc main_arg1) (ix3 0 e (pathCol k (colOf t b)))) (k : Fin 4) (r : Fin 2048) (s : Fin 256) :
    (∑ e : Fin 2048, xr (F := Ideal) (ms0_0 t) (hs0_0 t) (iblk m c 0 t) (r.val / 512) (ix2 ⟨r.val % 512, Nat.mod_lt _ (by decide)⟩ e)
      * w k.val (ix3 0 e s)) = proj (m ((c : Thread nD τ).loc main_arg0)) (m ((c : Thread nD τ).loc main_arg1)) k (rowOf t r) (colOf t s) := by
  rw [row_dot]
  unfold proj
  exact Finset.sum_congr rfl fun e _ => by rw [hw, iblk0_apply, x_apply]

/-- The queries. -/
theorem queries_eq : (dats m 0 c).arrAt 7 cfg0.N = fun i : S8192x2048.Idx =>
    proj (m ((c : Thread nD τ).loc main_arg0)) (m ((c : Thread nD τ).loc main_arg1)) 0 (i 0) (i 1) * scale := by
  refine (dats m 0 c).arrAt_eq_of_covers 7 _ (by decide +kernel) fun t hf y => ?_
  blk_simp
  rw [after0_7]
  obtain ⟨r, s, rfl⟩ : ∃ (r : Fin 2048) (s : Fin 256), y = ix2 r s := ⟨y 0, y 1, eq_ix2 (n0 := 2048) (n1 := 256) y⟩
  have he : (win0_7.blk t).view.emb (ix2 r s) = ix2 (rowOf t r) (colOf t s) := by
    blk_ext [index_7 t, rowOf, colOf]
  obtain ⟨w, hw, h, -⟩ := outs_rows m c t
  rw [he]
  exact (congrFun h _).trans ((rows_apply _ _ _ _ r s).trans ((payQ ..).trans (congrArg (· * scale) (dot_proj m c t w hw 0 _ _))))

/-- The keys. -/
theorem keys_eq : (dats m 0 c).arrAt 8 cfg0.N = fun i : S8192x2048.Idx =>
    proj (m ((c : Thread nD τ).loc main_arg0)) (m ((c : Thread nD τ).loc main_arg1)) 1 (i 0) (i 1) := by
  refine (dats m 0 c).arrAt_eq_of_covers 8 _ (by decide +kernel) fun t hf y => ?_
  blk_simp
  rw [after0_8]
  obtain ⟨r, s, rfl⟩ : ∃ (r : Fin 2048) (s : Fin 256), y = ix2 r s := ⟨y 0, y 1, eq_ix2 (n0 := 2048) (n1 := 256) y⟩
  have he : (win0_8.blk t).view.emb (ix2 r s) = ix2 (rowOf t r) (colOf t s) := by
    blk_ext [index_8 t, rowOf, colOf]
  obtain ⟨w, hw, -, h, -⟩ := outs_rows m c t
  rw [he]
  exact (congrFun h _).trans ((rows_apply _ _ _ _ r s).trans ((payK ..).trans (dot_proj m c t w hw 1 _ _)))

/-- The values. -/
theorem values_eq : (dats m 0 c).arrAt 9 cfg0.N = fun i : S8192x2048.Idx =>
    proj (m ((c : Thread nD τ).loc main_arg0)) (m ((c : Thread nD τ).loc main_arg1)) 2 (i 0) (i 1) := by
  refine (dats m 0 c).arrAt_eq_of_covers 9 _ (by decide +kernel) fun t hf y => ?_
  blk_simp
  rw [after0_9]
  obtain ⟨r, s, rfl⟩ : ∃ (r : Fin 2048) (s : Fin 256), y = ix2 r s := ⟨y 0, y 1, eq_ix2 (n0 := 2048) (n1 := 256) y⟩
  have he : (win0_9.blk t).view.emb (ix2 r s) = ix2 (rowOf t r) (colOf t s) := by
    blk_ext [index_9 t, rowOf, colOf]
  obtain ⟨w, hw, -, -, h, -⟩ := outs_rows m c t
  rw [he]
  exact (congrFun h _).trans ((rows_apply _ _ _ _ r s).trans ((payK ..).trans (dot_proj m c t w hw 2 _ _)))

/-- The gate activations. -/
theorem gates_eq : (dats m 0 c).arrAt 10 cfg0.N = fun i : S8192x2048.Idx =>
    silu (proj (m ((c : Thread nD τ).loc main_arg0)) (m ((c : Thread nD τ).loc main_arg1)) 3 (i 0) (i 1)) := by
  refine (dats m 0 c).arrAt_eq_of_covers 10 _ (by decide +kernel) fun t hf y => ?_
  blk_simp
  rw [after0_10]
  obtain ⟨r, s, rfl⟩ : ∃ (r : Fin 2048) (s : Fin 256), y = ix2 r s := ⟨y 0, y 1, eq_ix2 (n0 := 2048) (n1 := 256) y⟩
  have he : (win0_10.blk t).view.emb (ix2 r s) = ix2 (rowOf t r) (colOf t s) := by
    blk_ext [index_10 t, rowOf, colOf]
  obtain ⟨w, hw, -, -, -, h⟩ := outs_rows m c t
  rw [he]
  exact (congrFun h _).trans ((rows_apply _ _ _ _ r s).trans ((payZ ..).trans (congrArg silu (dot_proj m c t w hw 3 _ _))))

/-- The output projection's weights of the second layer, cast. -/
theorem out_weights_eq : (dats m 0 c).arrAt 11 cfg0.N = fun i : S2048x2048.Idx =>
    m ((c : Thread nD τ).loc main_arg2) (ix3 1 (i 0) (i 1)) := by
  refine (dats m 0 c).arrAt_eq_of_covers 11 _ (by decide +kernel) fun t hf y => ?_
  blk_simp
  rw [after0_11]
  obtain ⟨r, s, rfl⟩ : ∃ (r : Fin 64) (s : Fin 2048), y = ix2 r s := ⟨y 0, y 1, eq_ix2 (n0 := 64) (n1 := 2048) y⟩
  refine ((outs_side m c t r s).1).trans ?_
  blk_simp [iblk]
  refine congrArg _ ?_
  blk_ext [index_5 t, index_11 t]

/-- The embedding gate's weights of the second layer, cast. -/
theorem gate_weights_eq : (dats m 0 c).arrAt 12 cfg0.N = fun i : S2048x2048.Idx =>
    m ((c : Thread nD τ).loc main_arg3) (ix3 1 (i 0) (i 1)) := by
  refine (dats m 0 c).arrAt_eq_of_covers 12 _ (by decide +kernel) fun t hf y => ?_
  blk_simp
  rw [after0_12]
  obtain ⟨r, s, rfl⟩ : ∃ (r : Fin 64) (s : Fin 2048), y = ix2 r s := ⟨y 0, y 1, eq_ix2 (n0 := 64) (n1 := 2048) y⟩
  refine ((outs_side m c t r s).2).trans ?_
  blk_simp [iblk]
  refine congrArg _ ?_
  blk_ext [index_6 t, index_12 t]

end Cert.Kernel2Ideal.In

end
-- ==== Proof.InRef.lean ====
/- The projection's reference read at its elements. -/
module

public import proofs.«01_k».proof.Proof.InArr
public import proofs.«01_k».proof.Proof.Gen.Reference2Ideal.Run
public import proofs.«01_k».proof.Proof.Gen.Reference2Ideal.Read

@[expose] public section

noncomputable section

namespace Cert.Reference2Ideal.In

open Cert.Reference2Ideal Cert.Reference2Ideal.Read Idealize.ShloMosaic Cert.Moba Cert.Kernel2Ideal.In

variable (X : S4x2048x2048.Idx → EReal) (W : S1x2048x8192.Idx → EReal) (U : S2x2048x2048.Idx → EReal) (R : Fin 8192) (C : Fin 2048)

/-- Dividing by the root of 128 times the logarithm of 2 multiplies by the query scale. -/
theorem div_scale (x : EReal) :
    Ideal.div x (Ideal.sqrt (Ideal.ofBits .f32 0x43000000#32) * Ideal.log (Ideal.ofBits .f32 0x40000000#32)) = x * scale := by
  have h2 : 0 < Real.log 2 := Real.log_pos (by norm_num)
  have h1 : 0 < √(128 : ℝ) := Real.sqrt_pos.2 (by norm_num)
  rw [bits_128, bits_2, Ideal.sqrt_coe, Ideal.log_coe, if_neg (by norm_num), if_neg (by norm_num), ← EReal.coe_mul,
    Ideal.div_coe (by positivity), one_div]
  rfl

/-- The reference's scaled queries at an index. -/
theorem queries_apply : val_main_v12 (F := Ideal) X W (ix2 R C) = proj X W 0 R C * scale := by
  pointwise [val_main_v12, val_main_v11, val_main_v10, val_main_v9, val_main_v8, val_main_v7, val_main_v6, val_main_v2, val_main_v1, val_main_v0, val_main_cst, val_main_cst_0]
  rw [div_scale]
  simp only [proj, pathCol, Fin.val_zero, Nat.mul_zero, Nat.zero_add]

/-- The reference's keys at an index. -/
theorem keys_apply : val_main_v14 (F := Ideal) X W (ix2 R C) = proj X W 1 R C := by
  pointwise [val_main_v14, val_main_v13, val_main_v3, val_main_v1, val_main_v0]
  rfl

/-- The reference's values at an index. -/
theorem values_apply : val_main_v16 (F := Ideal) X W (ix2 R C) = proj X W 2 R C := by
  pointwise [val_main_v16, val_main_v15, val_main_v4, val_main_v1, val_main_v0]
  rfl

/-- The reference's gate activations at an index. -/
theorem gates_apply : val_main_v19 (F := Ideal) X W (ix2 R C) = silu (proj X W 3 R C) := by
  pointwise [val_main_v19, val_main_v18, val_main_v17, val_main_v5, val_main_v1, val_main_v0, val_main_call0_v0, val_main_call0_v1, val_main_call0_v2, val_main_call0_v3, val_main_call0_v4, val_main_call0_v5, val_main_call0_cst, val_main_call0_cst_0]
  rfl

/-- The reference's copy of the output weights at an index. -/
theorem out_weights_apply (R : Fin 2048) : val_main_v22 (F := Ideal) U (ix2 R C) = U (ix3 1 R C) := by
  pointwise [val_main_v22, val_main_v21, val_main_v20]

/-- The reference's copy of the gate weights at an index. -/
theorem gate_weights_apply (R : Fin 2048) : val_main_v25 (F := Ideal) U (ix2 R C) = U (ix3 1 R C) := by
  pointwise [val_main_v25, val_main_v24, val_main_v23]

end Cert.Reference2Ideal.In

end
-- ==== Proof.InMain.lean ====
/- The projection's claims: its frames, and the kernel's six results beside the reference's. -/
module

public import proofs.«01_k».proof.Defs
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.InRef
public import Idealize.ShloMosaic.Adequacy
public import Idealize.ShloMosaic.Init
public import Idealize.ShloMosaic.Lib.Quiescent

@[expose] public section

noncomputable section

namespace Cert.InProof

open Idealize.ShloMosaic Idealize.SL.Sem Cert.Kernel2Ideal Cert.Reference2Ideal.Read

/-- The projection's reference runs, keeps its arguments, and has no semaphore. -/
theorem frame_ref : Cert.quiescent_Reference2Ideal := fun m ρ _ =>
  (θ_run Cert.Reference2Ideal.defs _ _).mono (fun r h => ⟨fun c => (h c).2.2.2.2.2.2,
      Idealize.ShloMosaic.sem_eq_zero_of_no_sems (by decide) r.2⟩)
    (Cert.Reference2Ideal.Value.run (F := Ideal) m ρ)

/-- The one rewritten constant is the term it is named for. -/
theorem preserves : Cert.preserves_Kernel2_Kernel2Ideal :=
  IdealRules.named_const.statement Cert.Kernel2Ideal.κ "scale2" .f32 _ _ rfl

/-- Two arrays of rows that agree at every row and column. -/
theorem ext2 {n k : ℕ} (f g : (⟨2, ![n, k]⟩ : Shape).Idx → EReal) (h : ∀ (r : Fin n) (s : Fin k), f (ix2 r s) = g (ix2 r s)) : f = g :=
  funext fun i => by rw [eq_ix2 (n0 := n) (n1 := k) i]; exact h _ _

/-- The kernel's results are the reference's. -/
theorem algebraic : Cert.algebraic_Kernel2Ideal_Reference2Ideal := by
  intro m g m' g' _ hm
  refine ⟨fun c => (Gen.dats m 0 c).arrAt 7 cfg0.N, fun c => (Gen.dats m 0 c).arrAt 8 cfg0.N,
    fun c => (Gen.dats m 0 c).arrAt 9 cfg0.N, fun c => (Gen.dats m 0 c).arrAt 10 cfg0.N,
    fun c => (Gen.dats m 0 c).arrAt 11 cfg0.N, fun c => (Gen.dats m 0 c).arrAt 12 cfg0.N, Cert.Kernel2Ideal.Value.run_blocks m g, ?_⟩
  refine (θ_run Cert.Reference2Ideal.defs _ _).mono (fun r h c => ?_) (Cert.Reference2Ideal.Value.run (F := Ideal) m' g')
  obtain ⟨e0, e1, e2, e3⟩ := hm c
  obtain ⟨h0, h1, h2, h3, h4, h5, h⟩ := h c
  refine ⟨h0.trans ?_, h1.trans ?_, h2.trans ?_, h3.trans ?_, h4.trans ?_, h5.trans ?_, h⟩
  · rw [val_main_v12_eq, e0, e1]
    exact (ext2 _ _ fun R C => Cert.Reference2Ideal.In.queries_apply _ _ R C).trans (In.queries_eq m c).symm
  · rw [val_main_v14_eq, e0, e1]
    exact (ext2 _ _ fun R C => Cert.Reference2Ideal.In.keys_apply _ _ R C).trans (In.keys_eq m c).symm
  · rw [val_main_v16_eq, e0, e1]
    exact (ext2 _ _ fun R C => Cert.Reference2Ideal.In.values_apply _ _ R C).trans (In.values_eq m c).symm
  · rw [val_main_v19_eq, e0, e1]
    exact (ext2 _ _ fun R C => Cert.Reference2Ideal.In.gates_apply _ _ R C).trans (In.gates_eq m c).symm
  · rw [val_main_v22_eq, e2]
    exact (ext2 _ _ fun R C => Cert.Reference2Ideal.In.out_weights_apply _ C R).trans (In.out_weights_eq m c).symm
  · rw [val_main_v25_eq, e3]
    exact (ext2 _ _ fun R C => Cert.Reference2Ideal.In.gate_weights_apply _ C R).trans (In.gate_weights_eq m c).symm

end Cert.InProof

end
-- ==== Proof.TailSpec.lean ====
/- The mathematics of the layer's end: a row's mean and variance taken about a shift, the norm, and the gated embedding. -/
module

public import proofs.«01_k».proof.Proof.Spec
public import Idealize.ShloMosaic.Lib.Pointwise

@[expose] public section

noncomputable section

namespace Cert.Tail

open Idealize.ShloMosaic Finset

/-- A row's mean. -/
def mean (T : Fin 2048 → ℝ) : ℝ := (∑ C, T C) / 2048

/-- A row's variance. -/
def var (T : Fin 2048 → ℝ) : ℝ := (∑ C, (T C - mean T) * (T C - mean T)) / 2048

/-- The small number the norm adds to a variance, as both programs spell it. -/
def eps : EReal := Ideal.ofBits .f32 0x3727C5AC#32

/-- A row's norm, scaled and shifted. -/
def norm (T : Fin 2048 → ℝ) (g b : Fin 2048 → EReal) (C : Fin 2048) : EReal :=
  ((T C : EReal) - (mean T : EReal)) * Ideal.rsqrt ((var T : EReal) + eps) * g C + b C

/-- The layer's end at a column: the norm plus its gate times the projected embedding. -/
def tailOut (T : Fin 2048 → ℝ) (g b : Fin 2048 → EReal) (wg : Fin 2048 → Fin 2048 → EReal) (p : Fin 256 → EReal)
    (wp : Fin 256 → Fin 2048 → EReal) (C : Fin 2048) : EReal :=
  norm T g b C + Ideal.div 1 (1 + Ideal.exp (-∑ e, norm T g b e * wg e C)) * ∑ e, p e * wp e C

/-- Column `b` of the `c`-th 256 columns. -/
def col (c : ℕ) (b : Fin 256) : Fin 2048 := ⟨256 * (c % 8) + b.val, by omega⟩

/-- Lane `l` of the first half of 256 columns, and of the second. -/
def lo (l : Fin 128) : Fin 256 := ⟨l.val, by omega⟩
def hi (l : Fin 128) : Fin 256 := ⟨128 + l.val, by omega⟩

/-- Adding up 2048 columns in eight pieces folded to 128 lanes. -/
theorem sum_lanes (f : Fin 2048 → ℝ) :
    (∑ l : Fin 128, ∑ c : Fin 8, (f (col c.val (lo l)) + f (col c.val (hi l)))) = ∑ C, f C := by
  rw [Finset.sum_comm, ← (finProdFinEquiv (m := 8) (n := 256)).sum_comp f, Fintype.sum_prod_type]
  refine Finset.sum_congr rfl fun c _ => ?_
  rw [Fin.sum_univ_add (a := 128) (b := 128), Finset.sum_add_distrib]
  congr 1 <;> refine Finset.sum_congr rfl fun l _ => congrArg f (Fin.ext ?_)
  · show 256 * (c.val % 8) + l.val = l.val + 256 * c.val; omega
  · show 256 * (c.val % 8) + (128 + l.val) = (128 + l.val) + 256 * c.val; omega

/-- The mean from a shift `s`. -/
theorem mean_shift (T : Fin 2048 → ℝ) (s : ℝ) : s + (∑ C, (T C - s)) * (1 / 2048) = mean T := by
  simp only [mean, Finset.sum_sub_distrib, Finset.sum_const, Finset.card_univ, Fintype.card_fin, nsmul_eq_mul]
  push_cast
  ring

/-- The variance from a shift `s`. -/
theorem var_shift (T : Fin 2048 → ℝ) (s : ℝ) :
    (∑ C, (T C - s) * (T C - s)) * (1 / 2048) - (∑ C, (T C - s)) * (1 / 2048) * ((∑ C, (T C - s)) * (1 / 2048)) = var T := by
  have h (a : ℝ) : (∑ C, (T C - a) * (T C - a)) = (∑ C, T C * T C) - 2 * a * (∑ C, T C) + 2048 * (a * a) := by
    have : ∀ C, (T C - a) * (T C - a) = T C * T C - 2 * a * T C + a * a := fun C => by ring
    simp only [this, Finset.sum_add_distrib, Finset.sum_sub_distrib, ← Finset.mul_sum, Finset.sum_const, Finset.card_univ,
      Fintype.card_fin, nsmul_eq_mul]
    push_cast
    ring
  have h1 : (∑ C, (T C - s)) = (∑ C, T C) - 2048 * s := by
    simp only [Finset.sum_sub_distrib, Finset.sum_const, Finset.card_univ, Fintype.card_fin, nsmul_eq_mul]
    push_cast
    ring
  rw [var, h, h, h1, mean]
  ring

/-- The pattern of 2048. -/
theorem bits_2048 : Ideal.ofBits .f32 0x45000000#32 = ((2048 : ℝ) : EReal) := by
  simp [Ideal.ofBits, Ideal.ieee, -EReal.coe_mul]; norm_num

/-- The pattern of 1. -/
theorem bits_1 : Ideal.ofBits .f32 0x3F800000#32 = 1 := by
  simp [Ideal.ofBits, Ideal.ieee, -EReal.coe_mul]; norm_num

/-- The residual's scale, as both programs spell it. -/
def alpha : EReal := Ideal.ofBits .f32 0x3FB504F3#32

/-- The residual's scale is a real number. -/
theorem alpha_real : ∃ a : ℝ, alpha = (a : EReal) := by
  refine ⟨11863283 / 8388608, ?_⟩
  simp [alpha, Ideal.ofBits, Ideal.ieee, -EReal.coe_mul]; norm_num

section
variable (Y X : (⟨3, ![4, 2048, 2048]⟩ : Shape).Idx → EReal) (P : (⟨4, ![2, 4, 2048, 256]⟩ : Shape).Idx → EReal)
  (W Wg : (⟨3, ![2, 2048, 2048]⟩ : Shape).Idx → EReal) (G B : (⟨2, ![2, 2048]⟩ : Shape).Idx → EReal)
  (Wp : (⟨3, ![2, 256, 2048]⟩ : Shape).Idx → EReal) (i : Fin 2)

/-- The residual, scaled, plus the branch projected by layer `i`'s weights. -/
def res (b : Fin 4) (s C : Fin 2048) : EReal := alpha * X (ix3 b s C) + ∑ e, Y (ix3 b s e) * W (ix3 i e C)

/-- On real operands it is real. -/
theorem res_real (hY : ∀ j, Y j = ((Y j).toReal : EReal)) (hX : ∀ j, X j = ((X j).toReal : EReal)) (hW : ∀ j, W j = ((W j).toReal : EReal)) :
    ∃ T : Fin 4 → Fin 2048 → Fin 2048 → ℝ, ∀ b s C, res Y X W i b s C = (T b s C : EReal) := by
  obtain ⟨a, ha⟩ := alpha_real
  refine ⟨fun b s C => a * (X (ix3 b s C)).toReal + ∑ e, (Y (ix3 b s e)).toReal * (W (ix3 i e C)).toReal, fun b s C => ?_⟩
  rw [res, ha, EReal.coe_add, EReal.coe_mul, ← hX, Moba.coe_sum]
  refine congrArg _ (Finset.sum_congr rfl fun e _ => ?_)
  rw [EReal.coe_mul, ← hY, ← hW]

/-- Layer `i`'s end at row `s` of batch `b`, from the residual sum `T`. -/
def layerEnd (T : Fin 4 → Fin 2048 → Fin 2048 → ℝ) (b : Fin 4) (s C : Fin 2048) : EReal :=
  tailOut (T b s) (fun C => G (ix2 i C)) (fun C => B (ix2 i C)) (fun e C => Wg (ix3 i e C)) (fun e => P (ix4 i b s e))
    (fun e C => Wp (ix3 i e C)) C

end

/-- The batch and the place in it of a row of the flattened arrays. -/
def bat (R : Fin 8192) : Fin 4 := ⟨R.val / 2048, by omega⟩
def pos (R : Fin 8192) : Fin 2048 := ⟨R.val % 2048, Nat.mod_lt _ (by decide)⟩

end Cert.Tail

end
-- ==== Proof.Tail.lean ====
/- The layer's end for a block of 512 rows, in two pieces of 256 rows, as the body computes it: what a piece stores
   before its norm, its row statistics, and what it stores at last; for any way of loading the operands, so that both
   layers' calls are read by it. -/
module

public import proofs.«01_k».proof.Proof.Gen.Kernel3Ideal.Value
public import proofs.«01_k».proof.Proof.TailSpec
public import Idealize.ShloMosaic.Lib.Pointwise
public import Idealize.ShloMosaic.Lib.Pipeline.ValueKit
public import Idealize.ShloMosaic.Lib.Claim

@[expose] public section

set_option maxRecDepth 65536

noncomputable section

namespace Cert.Tail

open Cert.Kernel3Ideal Cert.Kernel3Ideal.Gen Idealize.ShloMosaic Idealize.SL.Sem

variable {F : FTy → Type} [FloatOps F]

/-- The loads of a point: rows of the branch, pieces of the residual, rows of the embedding, column pieces of the weights,
    the norm's rows, and rows of the result read back after stores. -/
structure Loads (F : FTy → Type) [FloatOps F] where
  y : ℕ → Vec F S256x2048 .bf16
  x : ℕ → ℕ → Vec F S256x256 .f32
  p : ℕ → Vec F S1x256x256 .f32
  wo : ℕ → Vec F S2048x256 .bf16
  g : Vec F S1x2048 .f32
  b : Vec F S1x2048 .f32
  wg : ℕ → Vec F S2048x256 .bf16
  wp : ℕ → Vec F S1x256x256 .bf16
  back : List (View.Piece (Elt F) S512x2048 .f32) → ℕ → Vec F S256x2048 .f32

variable (L : Loads F)

/-- Piece `c` of 256 columns of the rows `r`. -/
def obox (r c : ℕ) : Rect S512x2048 :=
  Rect.unit ![256 * (r % 2), 256 * (c % 8)] S256x256.size (by
    intro a
    fin_cases a
    · show 256 * (r % 2) + 256 ≤ 512; omega
    · show 256 * (c % 8) + 256 ≤ 2048; omega)

/-- Rows `k` of a block of rows. -/
def ybox (k : ℕ) : Rect S512x2048 :=
  Rect.unit ![256 * (k % 2), 0] S256x2048.size (by
    intro a
    fin_cases a
    · show 256 * (k % 2) + 256 ≤ 512; omega
    · show 0 + 2048 ≤ 2048; omega)

/-- Rows `k` of a block of embeddings. -/
def pbox (k : ℕ) : Rect S1x512x256 :=
  Rect.unit ![0, 256 * (k % 2), 0] S1x256x256.size (by
    intro a
    fin_cases a
    · show 0 + 1 ≤ 1; omega
    · show 256 * (k % 2) + 256 ≤ 512; omega
    · show 0 + 256 ≤ 256; omega)

/-- Piece `k` of 256 columns of a weight. -/
def wbox (k : ℕ) : Rect S2048x2048 :=
  Rect.unit ![0, 256 * (k % 8)] S2048x256.size (by
    intro a
    fin_cases a
    · show 0 + 2048 ≤ 2048; omega
    · show 256 * (k % 8) + 256 ≤ 2048; omega)

/-- Piece `k` of 256 columns of the embedding's projection. -/
def vbox (k : ℕ) : Rect S1x256x2048 :=
  Rect.unit ![0, 0, 256 * (k % 8)] S1x256x256.size (by
    intro a
    fin_cases a
    · show 0 + 1 ≤ 1; omega
    · show 0 + 256 ≤ 256; omega
    · show 256 * (k % 8) + 256 ≤ 2048; omega)

/-- Row `k` of the norm's parameters. -/
def gbox (k : ℕ) : Rect S2x2048 :=
  Rect.unit ![k % 2, 0] S1x2048.size (by
    intro a
    fin_cases a
    · show k % 2 + 1 ≤ 2; omega
    · show 0 + 2048 ≤ 2048; omega)

/-- The residual, scaled, plus the branch projected. -/
def pre (r c : ℕ) : FVec F S256x256 .f32 := k0_pay12 (L.x r c) (L.y r) (L.wo c)

/-- The mean of the first 256 columns. -/
def pilot (r : ℕ) : FVec F S256x1 .f32 := k0_pay3 (L.x r 0) (L.y r) (L.wo 0)

/-- A piece less the pilot mean. -/
def dev (r c : ℕ) : FVec F S256x256 .f32 := subf (pre L r c) (broadcastTo S256x256 (pilot L r) broadcasts_S256x1_S256x256)

/-- A piece's two halves added. -/
def lane (v : FVec F S256x256 .f32) : FVec F S256x128 .f32 :=
  addf (extractStridedSlice S256x128 ![0, 0] v slices_S256x256_o0_0_S256x128)
    (extractStridedSlice S256x128 ![0, 128] v slices_S256x256_o0_128_S256x128)

/-- Eight pieces added, one after another. -/
def acc (v : ℕ → FVec F S256x128 .f32) : FVec F S256x128 .f32 :=
  addf (addf (addf (addf (addf (addf (addf (v 0) (v 1)) (v 2)) (v 3)) (v 4)) (v 5)) (v 6)) (v 7)

/-- The lanes added and divided by 2048. -/
def avg (v : FVec F S256x128 .f32) : FVec F S256x1 .f32 :=
  mulf (shapeCast S256x1 (multiReduction .add [1] S256 v 0x00000000#32 reduces_S256x128_S256 (.inl rfl) rfl) shapeCasts_S256_S256x1)
    (broadcast S256x1 (Scalar.ofBits .f32 0x3A000000#32 : F .f32))

/-- The mean less the pilot. -/
def dmean (r : ℕ) : FVec F S256x1 .f32 := avg (acc fun c => lane (dev L r c))

/-- The mean. -/
def mu (r : ℕ) : FVec F S256x1 .f32 := addf (pilot L r) (dmean L r)

/-- One over the standard deviation. -/
def rstd (r : ℕ) : FVec F S256x1 .f32 :=
  rsqrt (addf (subf (avg (acc fun c => lane (mulf (dev L r c) (dev L r c)))) (mulf (dmean L r) (dmean L r)))
    (broadcast S256x1 (Scalar.ofBits .f32 0x3727C5AC#32 : F .f32)))

/-- The normed rows, from the rows read back. -/
def xn (t : Vec F S256x2048 .f32) (r : ℕ) : FVec F S256x2048 .f32 := k0_pay75 L.g L.b (mu L r) (rstd L r) t

/-- A piece of 256 columns lies within the rows. -/
theorem cut (c : ℕ) : S256x2048.Slices ![0, 256 * (c % 8)] S256x256 := by
  refine ⟨by decide, fun a => ?_⟩
  fin_cases a
  · show 0 + 256 ≤ 256; omega
  · show 256 * (c % 8) + 256 ≤ 2048; omega

/-- A piece of the result, from the normed rows. -/
def fin (n : FVec F S256x2048 .f32) (r c : ℕ) : FVec F S256x256 .f32 :=
  addf (extractStridedSlice S256x256 ![0, 256 * (c % 8)] n (cut c))
    (mulf
      (logistic (matmul dot_S256x2048_S2048x256_S256x256_1_0_0_1_n_n none (truncf .bf16 n bitsLt_bf16_f32)
        (shapeCast S2048x256 (L.wg c) shapeCasts_S2048x256_S2048x256) (constant S256x256 .f32 0x00000000#32)))
      (matmul dot_S256x256_S256x256_S256x256_1_0_0_1_n_n none (k0_pay77 (L.p r))
        (shapeCast S256x256 (L.wp c) shapeCasts_S1x256x256_S256x256) (constant S256x256 .f32 0x00000000#32)))

/-- The stores of rows `r`, the last first. -/
abbrev stores {e : EltTy} (r : ℕ) (v : ℕ → Vec F S256x256 e) : List (View.Piece (Elt F) S512x2048 e) :=
  [7, 6, 5, 4, 3, 2, 1, 0].map fun c => ⟨obox r c, v c⟩

/-- The stores before any norm. -/
abbrev list0 : List (View.Piece (Elt F) S512x2048 .f32) := stores 1 (pre L 1) ++ stores 0 (pre L 0)
/-- The normed first rows. -/
abbrev xn0 : FVec F S256x2048 .f32 := xn L (L.back (list0 L) 0) 0
/-- The stores up to the first rows' last. -/
abbrev list1 : List (View.Piece (Elt F) S512x2048 .f32) := stores 0 (fin L (xn0 L) 0) ++ list0 L
/-- The normed second rows. -/
abbrev xn1 : FVec F S256x2048 .f32 := xn L (L.back (list1 L) 1) 1
/-- All the stores of the result. -/
abbrev list2 : List (View.Piece (Elt F) S512x2048 .f32) := stores 1 (fin L (xn1 L) 1) ++ list1 L
/-- The stores of the result's copy. -/
abbrev copies : List (View.Piece (Elt F) S512x2048 .bf16) :=
  stores 1 (fun c => truncf .bf16 (fin L (xn1 L) 1 c) bitsLt_bf16_f32) ++ stores 0 fun c => truncf .bf16 (fin L (xn0 L) 0 c) bitsLt_bf16_f32

section Loads

variable {sg : RefSig} (i : ℕ) (arg1 : Memref sg .tc .vmem S512x2048 .bf16) (harg1 : arg1.IsWhole)
  (arg2 : Memref sg .tc .vmem S512x2048 .f32) (harg2 : arg2.IsWhole) (arg3 : Memref sg .tc .vmem S1x512x256 .f32) (harg3 : arg3.IsWhole)
  (arg4 : Memref sg .tc .vmem S2048x2048 .bf16) (harg4 : arg4.IsWhole) (arg5 : Memref sg .tc .vmem S2x2048 .f32) (harg5 : arg5.IsWhole)
  (arg6 : Memref sg .tc .vmem S2x2048 .f32) (harg6 : arg6.IsWhole) (arg7 : Memref sg .tc .vmem S2048x2048 .bf16) (harg7 : arg7.IsWhole)
  (arg8 : Memref sg .tc .vmem S1x256x2048 .bf16) (harg8 : arg8.IsWhole) (arg9 : Memref sg .tc .vmem S512x2048 .f32)
  (x0 : Vec F S512x2048 .bf16) (x1 : Vec F S512x2048 .f32) (x2 : Vec F S1x512x256 .f32) (x3 : Vec F S2048x2048 .bf16)
  (x4 : Vec F S2x2048 .f32) (x5 : Vec F S2x2048 .f32) (x6 : Vec F S2048x2048 .bf16) (x7 : Vec F S1x256x2048 .bf16)

/-- The loads of a point of layer `i`'s call. -/
abbrev loads : Loads F where
  y r := View.readAt (Elt F) arg1.view (ybox r).toLoadRect (harg1.unread x0)
  x r k := View.readAt (Elt F) arg2.view (obox r k).toLoadRect (harg2.unread x1)
  p r := View.readAt (Elt F) arg3.view (pbox r).toLoadRect (harg3.unread x2)
  wo k := View.readAt (Elt F) arg4.view (wbox k).toLoadRect (harg4.unread x3)
  g := View.readAt (Elt F) arg5.view (gbox i).toLoadRect (harg5.unread x4)
  b := View.readAt (Elt F) arg6.view (gbox i).toLoadRect (harg6.unread x5)
  wg k := View.readAt (Elt F) arg7.view (wbox k).toLoadRect (harg7.unread x6)
  wp k := View.readAt (Elt F) arg8.view (vbox k).toLoadRect (harg8.unread x7)
  back l r := arg9.view.readCov l (ybox r).toLoadRect

end Loads

end Cert.Tail

end
-- ==== Proof.Tail3.lean ====
/- The second layer's call: its run is the block's stores at its loads. -/
module

public import proofs.«01_k».proof.Proof.Tail

@[expose] public section

set_option maxRecDepth 65536

noncomputable section

namespace Cert.Kernel3Ideal.Tail

open Cert.Kernel3Ideal Cert.Kernel3Ideal.Gen Idealize.ShloMosaic Idealize.SL.Sem Cert.Tail

variable {F : FTy → Type} [FloatOps F]

section
variable (c : Dev nD) (i : grid0.Coords) (arg1 : Memref sig .tc .vmem S512x2048 .bf16) (harg1 : arg1.IsWhole)
  (arg2 : Memref sig .tc .vmem S512x2048 .f32) (harg2 : arg2.IsWhole) (arg3 : Memref sig .tc .vmem S1x512x256 .f32) (harg3 : arg3.IsWhole)
  (arg4 : Memref sig .tc .vmem S2048x2048 .bf16) (harg4 : arg4.IsWhole) (arg5 : Memref sig .tc .vmem S2x2048 .f32) (harg5 : arg5.IsWhole)
  (arg6 : Memref sig .tc .vmem S2x2048 .f32) (harg6 : arg6.IsWhole) (arg7 : Memref sig .tc .vmem S2048x2048 .bf16) (harg7 : arg7.IsWhole)
  (arg8 : Memref sig .tc .vmem S1x256x2048 .bf16) (harg8 : arg8.IsWhole) (arg9 : Memref sig .tc .vmem S512x2048 .f32) (harg9 : arg9.IsWhole)
  (x0 : Vec F S512x2048 .bf16) (x1 : Vec F S512x2048 .f32) (x2 : Vec F S1x512x256 .f32) (x3 : Vec F S2048x2048 .bf16)
  (x4 : Vec F S2x2048 .f32) (x5 : Vec F S2x2048 .f32) (x6 : Vec F S2048x2048 .bf16) (x7 : Vec F S1x256x2048 .bf16)

/-- The run's stores. -/
theorem run_eq : (kernelRun0_A c i arg1 harg1 arg2 harg2 arg3 harg3 arg4 harg4 arg5 harg5 arg6 harg6 arg7 harg7 arg8 harg8 arg9 harg9 x0 x1 x2 x3 x4 x5 x6 x7).1
    = list2 (loads 1 arg1 harg1 arg2 harg2 arg3 harg3 arg4 harg4 arg5 harg5 arg6 harg6 arg7 harg7 arg8 harg8 arg9 x0 x1 x2 x3 x4 x5 x6 x7) := by
  sl_kernel_rfl

end

end Cert.Kernel3Ideal.Tail

end
-- ==== Proof.TailVal.lean ====
/- The layer's end for a block of 512 rows at an index: the row statistics from the pilot mean, the rows read back, and the
   result, for any loads known at every index. -/
module

public import proofs.«01_k».proof.Proof.Tail
public import Idealize.ShloMosaic.Lib.Pipeline.CanonAppend

@[expose] public section

set_option maxRecDepth 65536

noncomputable section

namespace Cert.Tail

open Cert.Kernel3Ideal Cert.Kernel3Ideal.Gen Idealize.ShloMosaic Idealize.SL.Sem Cert.Moba

/-- Row `a` of the `k`-th 256 rows of a block. -/
def row (k : ℕ) (a : Fin 256) : Fin 512 := ⟨256 * (k % 2) + a.val, by omega⟩

/-- The pattern of one in 2048. -/
theorem bits_inv : Ideal.ofBits .f32 0x3A000000#32 = ((1 / 2048 : ℝ) : EReal) := by
  simp [Ideal.ofBits, Ideal.ieee, -EReal.coe_mul]; norm_num

/-- What the loads of a point are at every index. -/
structure Reads (L : Loads Ideal) (T : Fin 512 → Fin 2048 → ℝ) (g b : Fin 2048 → EReal) (wg : Fin 2048 → Fin 2048 → EReal)
    (p : Fin 512 → Fin 256 → EReal) (wp : Fin 256 → Fin 2048 → EReal) : Prop where
  pre : ∀ r c i j, pre L r c (ix2 i j) = (T (row r i) (col c j) : EReal)
  g : ∀ C, L.g (ix2 0 C) = g C
  b : ∀ C, L.b (ix2 0 C) = b C
  wg : ∀ c e j, L.wg c (ix2 e j) = wg e (col c j)
  p : ∀ r i e, L.p r (ix3 0 i e) = p (row r i) e
  wp : ∀ c e j, L.wp c (ix3 0 e j) = wp e (col c j)
  back : ∀ l r i C, L.back l r (ix2 i C) = View.canon l (ix2 (row r i) C)

section
variable {L : Loads Ideal} {T : Fin 512 → Fin 2048 → ℝ} {g b : Fin 2048 → EReal} {wg : Fin 2048 → Fin 2048 → EReal}
  {p : Fin 512 → Fin 256 → EReal} {wp : Fin 256 → Fin 2048 → EReal} (H : Reads L T g b wg p wp)
include H

/-- The shift is a real number in each row. -/
theorem pilot_apply (r : ℕ) : ∃ s : Fin 256 → ℝ, ∀ i, pilot L r (ix2 i 0) = (s i : EReal) := by
  refine ⟨fun i => (∑ j, T (row r i) (col 0 j)) * (1 / 256), fun i => ?_⟩
  pointwise [pilot, k0_pay3]
  have h : ∀ j, k0_pay2 (L.x r 0) (L.y r) (L.wo 0) (ix2 i j) = (T (row r i) (col 0 j) : EReal) := fun j => H.pre r 0 i j
  simp only [h]
  rw [← coe_sum, bits_256, Ideal.div_coe (by norm_num), ← EReal.coe_mul]

/-- A piece less the shift. -/
theorem dev_apply {r : ℕ} {s : Fin 256 → ℝ} (hs : ∀ i, pilot L r (ix2 i 0) = (s i : EReal)) (c : ℕ) (i j : Fin 256) :
    dev L r c (ix2 i j) = ((T (row r i) (col c j) - s i : ℝ) : EReal) := by
  pointwise [dev]
  rw [H.pre, hs, ← EReal.coe_sub]

omit H in
/-- The average over the pieces is the average over the row. -/
theorem avg_apply (v : ℕ → FVec Ideal S256x256 .f32) (f : Fin 256 → Fin 2048 → ℝ)
    (hv : ∀ c i j, v c (ix2 i j) = (f i (col c j) : EReal)) (i : Fin 256) :
    avg (acc fun c => lane (v c)) (ix2 i 0) = (((∑ C, f i C) * (1 / 2048) : ℝ) : EReal) := by
  have hl : ∀ l : Fin 128, acc (fun c => lane (v c)) (ix2 i l)
      = ((∑ c : Fin 8, (f i (col c.val (lo l)) + f i (col c.val (hi l))) : ℝ) : EReal) := fun l => by
    have hc : ∀ c, lane (v c) (ix2 i l) = ((f i (col c (lo l)) + f i (col c (hi l)) : ℝ) : EReal) := fun c => by
      rw [EReal.coe_add, ← hv, ← hv]
      pointwise [lane]
      congr 1 <;> refine congrArg (v c) (funext fun a => Fin.ext ?_) <;> fin_cases a <;> simp [lo, hi]
    show (((((((lane (v 0) (ix2 i l) + lane (v 1) (ix2 i l)) + lane (v 2) (ix2 i l)) + lane (v 3) (ix2 i l)) + lane (v 4) (ix2 i l))
      + lane (v 5) (ix2 i l)) + lane (v 6) (ix2 i l)) + lane (v 7) (ix2 i l) : EReal) = _
    simp only [hc, Fin.sum_univ_eight, ← EReal.coe_add]
    rfl
  pointwise [avg]
  simp only [hl]
  rw [← coe_sum, bits_inv, ← EReal.coe_mul, sum_lanes]

/-- The mean the kernel takes is the row's. -/
theorem mu_apply (r : ℕ) (i : Fin 256) : mu L r (ix2 i 0) = (mean (T (row r i)) : EReal) := by
  obtain ⟨s, hs⟩ := pilot_apply H r
  have hd := avg_apply (dev L r) (fun i C => T (row r i) C - s i) (dev_apply H hs) i
  show (pilot L r (ix2 i 0) + avg (acc fun c => lane (dev L r c)) (ix2 i 0) : EReal) = _
  rw [hs, hd, ← EReal.coe_add, mean_shift]

/-- The inverse deviation the kernel takes is the row's. -/
theorem rstd_apply (r : ℕ) (i : Fin 256) : rstd L r (ix2 i 0) = Ideal.rsqrt ((var (T (row r i)) : EReal) + eps) := by
  obtain ⟨s, hs⟩ := pilot_apply H r
  have hd := avg_apply (dev L r) (fun i C => T (row r i) C - s i) (dev_apply H hs) i
  have hq := avg_apply (fun c => mulf (dev L r c) (dev L r c)) (fun i C => (T (row r i) C - s i) * (T (row r i) C - s i))
    (fun c i j => by
      show (dev L r c (ix2 i j) * dev L r c (ix2 i j) : EReal) = _
      rw [dev_apply H hs, ← EReal.coe_mul]) i
  show Ideal.rsqrt ((avg (acc fun c => lane (mulf (dev L r c) (dev L r c))) (ix2 i 0)
    - avg (acc fun c => lane (dev L r c)) (ix2 i 0) * avg (acc fun c => lane (dev L r c)) (ix2 i 0)) + eps) = _
  rw [hd, hq, ← EReal.coe_mul, ← EReal.coe_sub, var_shift]

/-- The normalised rows at an index. -/
theorem xn_apply {t : Vec Ideal S256x2048 .f32} {r : ℕ} (ht : ∀ i C, t (ix2 i C) = (T (row r i) C : EReal)) (i : Fin 256)
    (C : Fin 2048) : xn L t r (ix2 i C) = norm (T (row r i)) g b C := by
  pointwise [xn, k0_pay75]
  rw [ht, mu_apply H, rstd_apply H, H.g, H.b, norm]

/-- A stored piece at an index. -/
theorem fin_apply {n : FVec Ideal S256x2048 .f32} {r : ℕ} (hn : ∀ i C, n (ix2 i C) = norm (T (row r i)) g b C) (c : ℕ)
    (i j : Fin 256) : fin L n r c (ix2 i j) = tailOut (T (row r i)) g b wg (p (row r i)) wp (col c j) := by
  have hs : extractStridedSlice S256x256 ![0, 256 * (c % 8)] n (cut c) (ix2 i j) = n (ix2 i (col c j)) :=
    extractStridedSlice_apply _ _ _ _ _ fun a => by
      fin_cases a
      · show i.val = 0 + i.val; omega
      · rfl
  unfold fin
  refine (congrArg₂ (· + ·) hs ?_).trans (congrArg (· + _) (hn i (col c j)))
  have h1 : matmul (F := Ideal) (φ₁ := .bf16) (φ₂ := .bf16) dot_S256x2048_S2048x256_S256x256_1_0_0_1_n_n none (truncf .bf16 n bitsLt_bf16_f32)
      (shapeCast S2048x256 (L.wg c) shapeCasts_S2048x256_S2048x256) (constant S256x256 .f32 0x00000000#32) (ix2 i j)
      = ∑ e, norm (T (row r i)) g b e * wg e (col c j) := by
    pointwise
    simp only [hn, H.wg]
  have h2 : matmul (F := Ideal) (φ₁ := .bf16) (φ₂ := .bf16) dot_S256x256_S256x256_S256x256_1_0_0_1_n_n none (k0_pay77 (L.p r))
        (shapeCast S256x256 (L.wp c) shapeCasts_S1x256x256_S256x256) (constant S256x256 .f32 0x00000000#32) (ix2 i j)
      = ∑ e, p (row r i) e * wp e (col c j) := by
    pointwise [k0_pay77]
    simp only [H.p, H.wp]
  refine congrArg₂ (· * ·) ?_ h2
  show Ideal.logistic (matmul (F := Ideal) (φ₁ := .bf16) (φ₂ := .bf16) dot_S256x2048_S2048x256_S256x256_1_0_0_1_n_n none _ _ _ (ix2 i j)) = _
  rw [h1]
  rfl

omit H in
/-- The stores of 256 rows, over others. -/
theorem stores_apply {e : EltTy} (r : ℕ) (v : ℕ → Vec Ideal S256x256 e) (f : Fin 512 → Fin 2048 → Elt Ideal e)
    (hv : ∀ c i j, v c (ix2 i j) = f (row r i) (col c j)) (l : List (View.Piece (Elt Ideal) S512x2048 e)) (i : Fin 256) (C : Fin 2048) :
    View.canon (stores r v ++ l) (ix2 (row r i) C) = f (row r i) C := by
  refine View.canon_append_of_pieces (Val := Elt Ideal) (fun y : S512x2048.Idx => f (y 0) (y 1)) l _ ?_ _ ?_
  · intro q hq x
    obtain ⟨c, -, rfl⟩ := List.mem_map.1 hq
    obtain ⟨u, w, rfl⟩ : ∃ (u w : Fin 256), x = ix2 u w := ⟨x 0, x 1, eq_ix2 (n0 := 256) (n1 := 256) x⟩
    have h0 : ((obox r c).emb (ix2 u w)) 0 = row r u := Fin.ext (by show 256 * (r % 2) + 1 * u.val = 256 * (r % 2) + u.val; omega)
    have h1 : ((obox r c).emb (ix2 u w)) 1 = col c w := Fin.ext (by show 256 * (c % 8) + 1 * w.val = 256 * (c % 8) + w.val; omega)
    simp only [h0, h1]
    exact hv c u w
  · refine ⟨⟨obox r (C.val / 256), v (C.val / 256)⟩, List.mem_map.2 ⟨C.val / 256, ?_, rfl⟩, ?_⟩
    · have : C.val / 256 < 8 := by omega
      interval_cases C.val / 256 <;> decide
    · show ix2 (row r i) C ∈ (obox r (C.val / 256)).set
      unfold obox
      rw [Rect.mem_set_unit]
      intro d
      fin_cases d
      · show 256 * (r % 2) ≤ 256 * (r % 2) + i.val ∧ 256 * (r % 2) + i.val < 256 * (r % 2) + 256; omega
      · show 256 * (C.val / 256 % 8) ≤ C.val ∧ C.val < 256 * (C.val / 256 % 8) + 256; omega

omit H in
/-- Stores that miss an index leave it. -/
theorem skip_append {e : EltTy} {S : Shape} (P l : List (View.Piece (Elt Ideal) S e)) (y : S.Idx) (h : ∀ q ∈ P, y ∉ q.1.set) :
    View.canon (P ++ l) y = View.canon l y := by
  induction P with
  | nil => rfl
  | cons q P ih =>
    rw [List.cons_append, View.canon_cons_of_not_mem _ _ (h q (by simp))]
    exact ih fun q' hq => h q' (by simp [hq])

omit H in
/-- The stores of the other 256 rows leave these. -/
theorem stores_skip {e : EltTy} (r r' : ℕ) (hr : r % 2 ≠ r' % 2) (v : ℕ → Vec Ideal S256x256 e)
    (l : List (View.Piece (Elt Ideal) S512x2048 e)) (i : Fin 256) (C : Fin 2048) :
    View.canon (stores r' v ++ l) (ix2 (row r i) C) = View.canon l (ix2 (row r i) C) := by
  have key : ∀ c, ix2 (row r i) C ∉ (obox r' c).set := fun c => by
    unfold obox
    rw [Rect.mem_set_unit]
    intro h
    have h0 : 256 * (r' % 2) ≤ 256 * (r % 2) + i.val ∧ 256 * (r % 2) + i.val < 256 * (r' % 2) + 256 := h 0
    omega
  exact skip_append _ l _ fun q hq => by
    obtain ⟨c, -, rfl⟩ := List.mem_map.1 hq
    exact key c

/-- The first half of the rows, read back, is the residual sum. -/
theorem back0 (i : Fin 256) (C : Fin 2048) : L.back (list0 L) 0 (ix2 i C) = (T (row 0 i) C : EReal) := by
  rw [H.back, stores_skip 0 1 (by decide), ← List.append_nil (stores 0 _)]
  exact stores_apply (e := .f32) 0 (pre L 0) (fun R C => (T R C : EReal)) (H.pre 0) [] i C

/-- The first half of the rows, normalised. -/
theorem xn0_apply (i : Fin 256) (C : Fin 2048) : xn0 L (ix2 i C) = norm (T (row 0 i)) g b C := xn_apply H (back0 H) i C

/-- The second half of the rows, read back, is the residual sum. -/
theorem back1 (i : Fin 256) (C : Fin 2048) : L.back (list1 L) 1 (ix2 i C) = (T (row 1 i) C : EReal) := by
  rw [H.back, stores_skip 1 0 (by decide)]
  exact stores_apply (e := .f32) 1 (pre L 1) (fun R C => (T R C : EReal)) (H.pre 1) _ i C

/-- The second half of the rows, normalised. -/
theorem xn1_apply (i : Fin 256) (C : Fin 2048) : xn1 L (ix2 i C) = norm (T (row 1 i)) g b C := xn_apply H (back1 H) i C

omit H in
/-- Every row is of the first half or of the second. -/
theorem row_split (R : Fin 512) : ∃ r i, (r = 0 ∨ r = 1) ∧ R = row r i := by
  refine ⟨R.val / 256, ⟨R.val % 256, Nat.mod_lt _ (by decide)⟩, by omega, Fin.ext ?_⟩
  show R.val = 256 * (R.val / 256 % 2) + R.val % 256
  omega

/-- The result after all the stores. -/
theorem list2_apply (R : Fin 512) (C : Fin 2048) : View.canon (list2 L) (ix2 R C) = tailOut (T R) g b wg (p R) wp C := by
  obtain ⟨r, i, rfl | rfl, rfl⟩ := row_split R
  · rw [stores_skip 0 1 (by decide)]
    exact stores_apply (e := .f32) 0 (fin L (xn0 L) 0) (fun R C => tailOut (T R) g b wg (p R) wp C) (fin_apply H (xn0_apply H)) _ i C
  · exact stores_apply (e := .f32) 1 (fin L (xn1 L) 1) (fun R C => tailOut (T R) g b wg (p R) wp C) (fin_apply H (xn1_apply H)) _ i C

/-- The copy after all the stores. -/
theorem copies_apply (R : Fin 512) (C : Fin 2048) : View.canon (copies L) (ix2 R C) = tailOut (T R) g b wg (p R) wp C := by
  obtain ⟨r, i, rfl | rfl, rfl⟩ := row_split R
  · rw [stores_skip 0 1 (by decide), ← List.append_nil (stores 0 _)]
    exact stores_apply (e := .bf16) 0 (fun c => truncf .bf16 (fin L (xn0 L) 0 c) bitsLt_bf16_f32) (fun R C => tailOut (T R) g b wg (p R) wp C) (fin_apply H (xn0_apply H)) [] i C
  · exact stores_apply (e := .bf16) 1 (fun c => truncf .bf16 (fin L (xn1 L) 1 c) bitsLt_bf16_f32) (fun R C => tailOut (T R) g b wg (p R) wp C) (fin_apply H (xn1_apply H)) _ i C

end

section
variable {sg : RefSig} (i : ℕ) (arg1 : Memref sg .tc .vmem S512x2048 .bf16) (harg1 : arg1.IsWhole)
  (arg2 : Memref sg .tc .vmem S512x2048 .f32) (harg2 : arg2.IsWhole) (arg3 : Memref sg .tc .vmem S1x512x256 .f32) (harg3 : arg3.IsWhole)
  (arg4 : Memref sg .tc .vmem S2048x2048 .bf16) (harg4 : arg4.IsWhole) (arg5 : Memref sg .tc .vmem S2x2048 .f32) (harg5 : arg5.IsWhole)
  (arg6 : Memref sg .tc .vmem S2x2048 .f32) (harg6 : arg6.IsWhole) (arg7 : Memref sg .tc .vmem S2048x2048 .bf16) (harg7 : arg7.IsWhole)
  (arg8 : Memref sg .tc .vmem S1x256x2048 .bf16) (harg8 : arg8.IsWhole) (arg9 : Memref sg .tc .vmem S512x2048 .f32)
  (x0 : Vec Ideal S512x2048 .bf16) (x1 : Vec Ideal S512x2048 .f32) (x2 : Vec Ideal S1x512x256 .f32) (x3 : Vec Ideal S2048x2048 .bf16)
  (x4 : Vec Ideal S2x2048 .f32) (x5 : Vec Ideal S2x2048 .f32) (x6 : Vec Ideal S2048x2048 .bf16) (x7 : Vec Ideal S1x256x2048 .bf16)

/-- The loads of a point, at every index of its blocks. -/
theorem reads (T : Fin 512 → Fin 2048 → ℝ) (hT : ∀ a C, alpha * x1 (ix2 a C) + ∑ e, x0 (ix2 a e) * x3 (ix2 e C) = (T a C : EReal)) :
    Reads (loads i arg1 harg1 arg2 harg2 arg3 harg3 arg4 harg4 arg5 harg5 arg6 harg6 arg7 harg7 arg8 harg8 arg9 x0 x1 x2 x3 x4 x5 x6 x7) T
      (fun C => x4 (ix2 ⟨i % 2, Nat.mod_lt _ (by decide)⟩ C)) (fun C => x5 (ix2 ⟨i % 2, Nat.mod_lt _ (by decide)⟩ C))
      (fun e C => x6 (ix2 e C)) (fun a e => x2 (ix3 0 a e)) (fun e C => x7 (ix3 0 e C)) := by
  have hy : ∀ r a e, View.readAt (Elt Ideal) arg1.view (ybox r).toLoadRect (harg1.unread x0) (ix2 a e) = x0 (ix2 (row r a) e) := fun r a e => by
    rw [View.readAt_eq_ld, harg1.read_unread]
    refine congrArg x0 (funext fun b => Fin.ext ?_)
    fin_cases b
    · show 256 * (r % 2) + 1 * a.val = 256 * (r % 2) + a.val; omega
    · show 0 + 1 * e.val = e.val; omega
  have hx : ∀ r k a b, View.readAt (Elt Ideal) arg2.view (obox r k).toLoadRect (harg2.unread x1) (ix2 a b) = x1 (ix2 (row r a) (col k b)) := fun r k a b => by
    rw [View.readAt_eq_ld, harg2.read_unread]
    refine congrArg x1 (funext fun d => Fin.ext ?_)
    fin_cases d
    · show 256 * (r % 2) + 1 * a.val = 256 * (r % 2) + a.val; omega
    · show 256 * (k % 8) + 1 * b.val = 256 * (k % 8) + b.val; omega
  have hw : ∀ (M : Memref sg .tc .vmem S2048x2048 .bf16) (hM : M.IsWhole) (w : Vec Ideal S2048x2048 .bf16) k e b,
      View.readAt (Elt Ideal) M.view (wbox k).toLoadRect (hM.unread w) (ix2 e b) = w (ix2 e (col k b)) := fun M hM w k e b => by
    rw [View.readAt_eq_ld, hM.read_unread]
    refine congrArg w (funext fun d => Fin.ext ?_)
    fin_cases d
    · show 0 + 1 * e.val = e.val; omega
    · show 256 * (k % 8) + 1 * b.val = 256 * (k % 8) + b.val; omega
  have hg : ∀ (M : Memref sg .tc .vmem S2x2048 .f32) (hM : M.IsWhole) (w : Vec Ideal S2x2048 .f32) C,
      View.readAt (Elt Ideal) M.view (gbox i).toLoadRect (hM.unread w) (ix2 0 C) = w (ix2 ⟨i % 2, Nat.mod_lt _ (by decide)⟩ C) := fun M hM w C => by
    rw [View.readAt_eq_ld, hM.read_unread]
    refine congrArg w (funext fun d => Fin.ext ?_)
    fin_cases d
    · show i % 2 + 1 * 0 = i % 2; omega
    · show 0 + 1 * C.val = C.val; omega
  refine ⟨fun r k a b => ?_, hg _ _ _, hg _ _ _, hw _ _ _, fun r a e => ?_, fun k e b => ?_, fun l r a C => ?_⟩
  · pointwise [pre, k0_pay12]
    have h : alpha * x1 (ix2 (row r a) (col k b)) + ∑ e, x0 (ix2 (row r a) e) * x3 (ix2 e (col k b)) = _ := hT _ _
    rw [← h]
    exact congrArg₂ (· + ·) (congrArg (alpha * ·) (hx ..)) (Finset.sum_congr rfl fun e _ => congrArg₂ (· * ·) (hy ..) (hw ..))
  · show View.readAt (Elt Ideal) arg3.view (pbox r).toLoadRect (harg3.unread x2) (ix3 0 a e) = _
    rw [View.readAt_eq_ld, harg3.read_unread]
    refine congrArg x2 (funext fun d => Fin.ext ?_)
    fin_cases d
    · rfl
    · show 256 * (r % 2) + 1 * a.val = 256 * (r % 2) + a.val; omega
    · show 0 + 1 * e.val = e.val; omega
  · show View.readAt (Elt Ideal) arg8.view (vbox k).toLoadRect (harg8.unread x7) (ix3 0 e b) = _
    rw [View.readAt_eq_ld, harg8.read_unread]
    refine congrArg x7 (funext fun d => Fin.ext ?_)
    fin_cases d
    · rfl
    · show 0 + 1 * e.val = e.val; omega
    · show 256 * (k % 8) + 1 * b.val = 256 * (k % 8) + b.val; omega
  · show arg9.view.readCov l (ybox r).toLoadRect (ix2 a C) = _
    rw [View.readCov_eq_canon']
    refine congrArg (View.canon l) (funext fun d => Fin.ext ?_)
    fin_cases d
    · show 256 * (r % 2) + 1 * a.val = 256 * (r % 2) + a.val; omega
    · show 0 + 1 * C.val = C.val; omega

end

end Cert.Tail

end
-- ==== Proof.TailArr3.lean ====
/- The second layer's call: its blocks placed in the arrays, and its result. -/
module

public import proofs.«01_k».proof.Proof.Tail3
public import proofs.«01_k».proof.Proof.TailVal

@[expose] public section

set_option maxRecDepth 65536

noncomputable section

namespace Cert.Kernel3Ideal.Tail

open Cert.Kernel3Ideal Cert.Kernel3Ideal.Gen Idealize.ShloMosaic Idealize.ShloMosaic.TcCoe Idealize.SL.Sem Cert.Tail

variable (m : (ℓ : Loc nD τ sig) → Buf (Elt Ideal) ℓ) (c : Dev nD)

/-- The branch's rows, flattened, at an index. -/
theorem y_apply (R : Fin 8192) (e : Fin 2048) : V m c main_v1 (ix2 R e)
    = m ((c : Thread nD τ).loc main_arg0) (ix3 (bat R) (pos R) e) := by
  entry_read
  pointwise
  rfl

/-- The residual's rows, flattened, at an index. -/
theorem x_apply (R : Fin 8192) (e : Fin 2048) : V m c main_v2 (ix2 R e)
    = m ((c : Thread nD τ).loc main_arg1) (ix3 (bat R) (pos R) e) := by
  entry_read
  pointwise
  rfl

/-- The embedding's rows, flattened, at an index. -/
theorem p_apply (k : Fin 2) (R : Fin 8192) (e : Fin 256) : V m c main_v3 (ix3 k R e)
    = m ((c : Thread nD τ).loc main_arg2) (ix4 k (bat R) (pos R) e) := by
  entry_read
  pointwise
  rfl

/-- The layer's output weights at an index. -/
theorem w_apply (e C : Fin 2048) : V m c main_v6 (ix2 e C) = m ((c : Thread nD τ).loc main_arg3) (ix3 1 e C) := by
  entry_read
  pointwise

/-- The layer's gate weights at an index. -/
theorem wg_apply (e C : Fin 2048) : V m c main_v9 (ix2 e C) = m ((c : Thread nD τ).loc main_arg6) (ix3 1 e C) := by
  entry_read
  pointwise

/-- The embedding's weights at an index. -/
theorem wp_apply (k : Fin 2) (e : Fin 256) (C : Fin 2048) : V m c main_v10 (ix3 k e C) = m ((c : Thread nD τ).loc main_arg7) (ix3 k e C) := by
  entry_read
  pointwise

/-- The row of the arrays that row `a` of point `t`'s blocks is. -/
def rowOf (t : Fin grid0.N) (a : Fin 512) : Fin 8192 := ⟨512 * (t.val % 16) + a.val, by omega⟩

/-- Where window 0 lies at a point. -/
theorem index_0 : ∀ t : Fin cfg0.N, win0_0.index t = ![t.val % 16, 0] := (by decide +kernel : ∀ t : Fin grid0.N, _)
/-- Where window 1 lies at a point. -/
theorem index_1 : ∀ t : Fin cfg0.N, win0_1.index t = ![t.val % 16, 0] := (by decide +kernel : ∀ t : Fin grid0.N, _)
/-- Where window 2 lies at a point. -/
theorem index_2 : ∀ t : Fin cfg0.N, win0_2.index t = ![1, t.val % 16, 0] := (by decide +kernel : ∀ t : Fin grid0.N, _)
/-- Where window 3 lies at a point. -/
theorem index_3 : ∀ t : Fin cfg0.N, win0_3.index t = ![0, 0] := (by decide +kernel : ∀ t : Fin grid0.N, _)
/-- Where window 4 lies at a point. -/
theorem index_4 : ∀ t : Fin cfg0.N, win0_4.index t = ![0, 0] := (by decide +kernel : ∀ t : Fin grid0.N, _)
/-- Where window 5 lies at a point. -/
theorem index_5 : ∀ t : Fin cfg0.N, win0_5.index t = ![0, 0] := (by decide +kernel : ∀ t : Fin grid0.N, _)
/-- Where window 6 lies at a point. -/
theorem index_6 : ∀ t : Fin cfg0.N, win0_6.index t = ![0, 0] := (by decide +kernel : ∀ t : Fin grid0.N, _)
/-- Where window 7 lies at a point. -/
theorem index_7 : ∀ t : Fin cfg0.N, win0_7.index t = ![1, 0, 0] := (by decide +kernel : ∀ t : Fin grid0.N, _)
/-- Where window 8 lies at a point. -/
theorem index_8 : ∀ t : Fin cfg0.N, win0_8.index t = ![t.val % 16, 0] := (by decide +kernel : ∀ t : Fin grid0.N, _)

section
variable (t : Fin cfg0.N)

/-- The branch's block at a point. -/
theorem y_blk (a : Fin 512) (e : Fin 2048) : iblk m c 0 t (ix2 a e)
    = m ((c : Thread nD τ).loc main_arg0) (ix3 (bat (rowOf t a)) (pos (rowOf t a)) e) := by
  rw [← y_apply m c]
  blk_simp [iblk]
  refine congrArg _ ?_
  blk_ext [index_0 t, rowOf]

/-- The residual's block at a point. -/
theorem x_blk (a : Fin 512) (e : Fin 2048) : iblk m c 1 t (ix2 a e)
    = m ((c : Thread nD τ).loc main_arg1) (ix3 (bat (rowOf t a)) (pos (rowOf t a)) e) := by
  rw [← x_apply m c]
  blk_simp [iblk]
  refine congrArg _ ?_
  blk_ext [index_1 t, rowOf]

/-- The embedding's block at a point. -/
theorem p_blk (a : Fin 512) (e : Fin 256) : iblk m c 2 t (ix3 0 a e)
    = m ((c : Thread nD τ).loc main_arg2) (ix4 1 (bat (rowOf t a)) (pos (rowOf t a)) e) := by
  rw [← p_apply m c]
  blk_simp [iblk]
  refine congrArg _ ?_
  blk_ext [index_2 t, rowOf]

/-- The output weights' block at a point. -/
theorem w_blk (e C : Fin 2048) : iblk m c 3 t (ix2 e C) = m ((c : Thread nD τ).loc main_arg3) (ix3 1 e C) := by
  rw [← w_apply m c]
  blk_simp [iblk]
  refine congrArg _ ?_
  blk_ext [index_3 t]

/-- The norm's scale at a point. -/
theorem g_blk (k : Fin 2) (C : Fin 2048) : iblk m c 4 t (ix2 k C) = m ((c : Thread nD τ).loc main_arg4) (ix2 k C) := by
  rw [← V_main_arg4 m c]
  blk_simp [iblk]
  refine congrArg _ ?_
  blk_ext [index_4 t]

/-- The norm's shift at a point. -/
theorem b_blk (k : Fin 2) (C : Fin 2048) : iblk m c 5 t (ix2 k C) = m ((c : Thread nD τ).loc main_arg5) (ix2 k C) := by
  rw [← V_main_arg5 m c]
  blk_simp [iblk]
  refine congrArg _ ?_
  blk_ext [index_5 t]

/-- The gate weights' block at a point. -/
theorem wg_blk (e C : Fin 2048) : iblk m c 6 t (ix2 e C) = m ((c : Thread nD τ).loc main_arg6) (ix3 1 e C) := by
  rw [← wg_apply m c]
  blk_simp [iblk]
  refine congrArg _ ?_
  blk_ext [index_6 t]

/-- The embedding weights' block at a point. -/
theorem wp_blk (e : Fin 256) (C : Fin 2048) : iblk m c 7 t (ix3 0 e C) = m ((c : Thread nD τ).loc main_arg7) (ix3 1 e C) := by
  rw [← wp_apply m c]
  blk_simp [iblk]
  refine congrArg _ ?_
  blk_ext [index_7 t]

/-- The loads of point `t`. -/
abbrev pload : Loads Ideal :=
  loads 1 (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) (ms0_7 t) (hs0_7 t) (ms0_8 t) (iblk m c 0 t) (iblk m c 1 t) (iblk m c 2 t) (iblk m c 3 t) (iblk m c 4 t)
    (iblk m c 5 t) (iblk m c 6 t) (iblk m c 7 t)

/-- What a point leaves of the result. -/
theorem out_eq : outsAt0 m c t = View.canon (list2 (pload m c t)) := by
  unfold outsAt0 out0_A_8
  rw [View.read_writes_junk_eq_canon, run_eq]

variable (T : Fin 4 → Fin 2048 → Fin 2048 → ℝ)
  (hT : ∀ b s C, res (m ((c : Thread nD τ).loc main_arg0)) (m ((c : Thread nD τ).loc main_arg1)) (m ((c : Thread nD τ).loc main_arg3)) 1 b s C = (T b s C : EReal))
include hT

/-- The loads of a point, in the arguments. -/
theorem pload_reads : Reads (pload m c t) (fun a => T (bat (rowOf t a)) (pos (rowOf t a)))
    (fun C => m ((c : Thread nD τ).loc main_arg4) (ix2 1 C)) (fun C => m ((c : Thread nD τ).loc main_arg5) (ix2 1 C))
    (fun e C => m ((c : Thread nD τ).loc main_arg6) (ix3 1 e C))
    (fun a e => m ((c : Thread nD τ).loc main_arg2) (ix4 1 (bat (rowOf t a)) (pos (rowOf t a)) e))
    (fun e C => m ((c : Thread nD τ).loc main_arg7) (ix3 1 e C)) := by
  have h := reads 1 (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) (ms0_7 t) (hs0_7 t) (ms0_8 t) (iblk m c 0 t) (iblk m c 1 t) (iblk m c 2 t) (iblk m c 3 t) (iblk m c 4 t)
    (iblk m c 5 t) (iblk m c 6 t) (iblk m c 7 t) (fun a => T (bat (rowOf t a)) (pos (rowOf t a))) (fun a C => by
      rw [← hT, res, x_blk]
      simp only [y_blk, w_blk])
  simp only [g_blk, b_blk, wg_blk, p_blk, wp_blk] at h
  exact h

end

variable (T : Fin 4 → Fin 2048 → Fin 2048 → ℝ)
  (hT : ∀ b s C, res (m ((c : Thread nD τ).loc main_arg0)) (m ((c : Thread nD τ).loc main_arg1)) (m ((c : Thread nD τ).loc main_arg3)) 1 b s C = (T b s C : EReal))
include hT

/-- The result is the second layer's end. -/
theorem result_eq : (dats m 0 c).arrAt 8 cfg0.N = fun i : S8192x2048.Idx =>
    layerEnd (m ((c : Thread nD τ).loc main_arg2)) (m ((c : Thread nD τ).loc main_arg6)) (m ((c : Thread nD τ).loc main_arg4))
      (m ((c : Thread nD τ).loc main_arg5)) (m ((c : Thread nD τ).loc main_arg7)) 1 T (bat (i 0)) (pos (i 0)) (i 1) := by
  refine (dats m 0 c).arrAt_eq_of_covers 8 _ (by decide +kernel) fun t hf y => ?_
  blk_simp
  rw [after0_8]
  obtain ⟨r, s, rfl⟩ : ∃ (r : Fin 512) (s : Fin 2048), y = ix2 r s := ⟨y 0, y 1, eq_ix2 (n0 := 512) (n1 := 2048) y⟩
  have he : (win0_8.blk t).view.emb (ix2 r s) = ix2 (rowOf t r) s := by
    blk_ext [index_8 t, rowOf]
  rw [he]
  exact (congrFun (out_eq m c t) _).trans (list2_apply (pload_reads m c t T hT) r s)

end Cert.Kernel3Ideal.Tail

end
-- ==== Proof.Tail4.lean ====
/- The first layer's call: its run is the block's stores at its loads. -/
module

public import proofs.«01_k».proof.Proof.Tail
public import proofs.«01_k».proof.Proof.Gen.Kernel4Ideal.Value

@[expose] public section

set_option maxRecDepth 65536

noncomputable section

namespace Cert.Kernel4Ideal.Tail

open Cert.Kernel4Ideal Cert.Kernel4Ideal.Gen Idealize.ShloMosaic Idealize.SL.Sem Cert.Tail

variable {F : FTy → Type} [FloatOps F]

section
variable (c : Dev nD) (i : grid0.Coords) (arg1 : Memref sig .tc .vmem S512x2048 .bf16) (harg1 : arg1.IsWhole)
  (arg2 : Memref sig .tc .vmem S512x2048 .f32) (harg2 : arg2.IsWhole) (arg3 : Memref sig .tc .vmem S1x512x256 .f32) (harg3 : arg3.IsWhole)
  (arg4 : Memref sig .tc .vmem S2048x2048 .bf16) (harg4 : arg4.IsWhole) (arg5 : Memref sig .tc .vmem S2x2048 .f32) (harg5 : arg5.IsWhole)
  (arg6 : Memref sig .tc .vmem S2x2048 .f32) (harg6 : arg6.IsWhole) (arg7 : Memref sig .tc .vmem S2048x2048 .bf16) (harg7 : arg7.IsWhole)
  (arg8 : Memref sig .tc .vmem S1x256x2048 .bf16) (harg8 : arg8.IsWhole) (arg9 : Memref sig .tc .vmem S512x2048 .f32) (harg9 : arg9.IsWhole)
  (arg10 : Memref sig .tc .vmem S512x2048 .bf16) (harg10 : arg10.IsWhole)
  (x0 : Vec F S512x2048 .bf16) (x1 : Vec F S512x2048 .f32) (x2 : Vec F S1x512x256 .f32) (x3 : Vec F S2048x2048 .bf16)
  (x4 : Vec F S2x2048 .f32) (x5 : Vec F S2x2048 .f32) (x6 : Vec F S2048x2048 .bf16) (x7 : Vec F S1x256x2048 .bf16)

/-- The run's stores. -/
theorem run_eq : (kernelRun0_A c i arg1 harg1 arg2 harg2 arg3 harg3 arg4 harg4 arg5 harg5 arg6 harg6 arg7 harg7 arg8 harg8 arg9 harg9 arg10 harg10 x0 x1 x2 x3 x4 x5 x6 x7).1
    = list2 (loads 0 arg1 harg1 arg2 harg2 arg3 harg3 arg4 harg4 arg5 harg5 arg6 harg6 arg7 harg7 arg8 harg8 arg9 x0 x1 x2 x3 x4 x5 x6 x7) := by
  sl_kernel_rfl

/-- The run's stores of the copy. -/
theorem run_copy : (kernelRun0_A c i arg1 harg1 arg2 harg2 arg3 harg3 arg4 harg4 arg5 harg5 arg6 harg6 arg7 harg7 arg8 harg8 arg9 harg9 arg10 harg10 x0 x1 x2 x3 x4 x5 x6 x7).2.1
    = copies (loads 0 arg1 harg1 arg2 harg2 arg3 harg3 arg4 harg4 arg5 harg5 arg6 harg6 arg7 harg7 arg8 harg8 arg9 x0 x1 x2 x3 x4 x5 x6 x7) := by
  sl_kernel_rfl

end

end Cert.Kernel4Ideal.Tail

end
-- ==== Proof.TailArr4.lean ====
/- The first layer's call: its blocks placed in the arrays, its result and the result's copy. -/
module

public import proofs.«01_k».proof.Proof.Tail4
public import proofs.«01_k».proof.Proof.TailVal

@[expose] public section

set_option maxRecDepth 65536

noncomputable section

namespace Cert.Kernel4Ideal.Tail

open Cert.Kernel4Ideal Cert.Kernel4Ideal.Gen Idealize.ShloMosaic Idealize.ShloMosaic.TcCoe Idealize.SL.Sem Cert.Tail

variable (m : (ℓ : Loc nD τ sig) → Buf (Elt Ideal) ℓ) (c : Dev nD)

/-- The branch's rows, flattened, at an index. -/
theorem y_apply (R : Fin 8192) (e : Fin 2048) : V m c main_v1 (ix2 R e)
    = m ((c : Thread nD τ).loc main_arg0) (ix3 (bat R) (pos R) e) := by
  entry_read
  pointwise
  rfl

/-- The residual's rows, flattened, at an index. -/
theorem x_apply (R : Fin 8192) (e : Fin 2048) : V m c main_v2 (ix2 R e)
    = m ((c : Thread nD τ).loc main_arg1) (ix3 (bat R) (pos R) e) := by
  entry_read
  pointwise
  rfl

/-- The embedding's rows, flattened, at an index. -/
theorem p_apply (k : Fin 2) (R : Fin 8192) (e : Fin 256) : V m c main_v3 (ix3 k R e)
    = m ((c : Thread nD τ).loc main_arg2) (ix4 k (bat R) (pos R) e) := by
  entry_read
  pointwise
  rfl

/-- The layer's output weights at an index. -/
theorem w_apply (e C : Fin 2048) : V m c main_v6 (ix2 e C) = m ((c : Thread nD τ).loc main_arg3) (ix3 0 e C) := by
  entry_read
  pointwise

/-- The layer's gate weights at an index. -/
theorem wg_apply (e C : Fin 2048) : V m c main_v9 (ix2 e C) = m ((c : Thread nD τ).loc main_arg6) (ix3 0 e C) := by
  entry_read
  pointwise

/-- The embedding's weights at an index. -/
theorem wp_apply (k : Fin 2) (e : Fin 256) (C : Fin 2048) : V m c main_v10 (ix3 k e C) = m ((c : Thread nD τ).loc main_arg7) (ix3 k e C) := by
  entry_read
  pointwise

/-- The row of the arrays that row `a` of point `t`'s blocks is. -/
def rowOf (t : Fin grid0.N) (a : Fin 512) : Fin 8192 := ⟨512 * (t.val % 16) + a.val, by omega⟩

/-- Where window 0 lies at a point. -/
theorem index_0 : ∀ t : Fin cfg0.N, win0_0.index t = ![t.val % 16, 0] := (by decide +kernel : ∀ t : Fin grid0.N, _)
/-- Where window 1 lies at a point. -/
theorem index_1 : ∀ t : Fin cfg0.N, win0_1.index t = ![t.val % 16, 0] := (by decide +kernel : ∀ t : Fin grid0.N, _)
/-- Where window 2 lies at a point. -/
theorem index_2 : ∀ t : Fin cfg0.N, win0_2.index t = ![0, t.val % 16, 0] := (by decide +kernel : ∀ t : Fin grid0.N, _)
/-- Where window 3 lies at a point. -/
theorem index_3 : ∀ t : Fin cfg0.N, win0_3.index t = ![0, 0] := (by decide +kernel : ∀ t : Fin grid0.N, _)
/-- Where window 4 lies at a point. -/
theorem index_4 : ∀ t : Fin cfg0.N, win0_4.index t = ![0, 0] := (by decide +kernel : ∀ t : Fin grid0.N, _)
/-- Where window 5 lies at a point. -/
theorem index_5 : ∀ t : Fin cfg0.N, win0_5.index t = ![0, 0] := (by decide +kernel : ∀ t : Fin grid0.N, _)
/-- Where window 6 lies at a point. -/
theorem index_6 : ∀ t : Fin cfg0.N, win0_6.index t = ![0, 0] := (by decide +kernel : ∀ t : Fin grid0.N, _)
/-- Where window 7 lies at a point. -/
theorem index_7 : ∀ t : Fin cfg0.N, win0_7.index t = ![0, 0, 0] := (by decide +kernel : ∀ t : Fin grid0.N, _)
/-- Where window 8 lies at a point. -/
theorem index_8 : ∀ t : Fin cfg0.N, win0_8.index t = ![t.val % 16, 0] := (by decide +kernel : ∀ t : Fin grid0.N, _)
/-- Where window 9 lies at a point. -/
theorem index_9 : ∀ t : Fin cfg0.N, win0_9.index t = ![t.val % 16, 0] := (by decide +kernel : ∀ t : Fin grid0.N, _)

section
variable (t : Fin cfg0.N)

/-- The branch's block at a point. -/
theorem y_blk (a : Fin 512) (e : Fin 2048) : iblk m c 0 t (ix2 a e)
    = m ((c : Thread nD τ).loc main_arg0) (ix3 (bat (rowOf t a)) (pos (rowOf t a)) e) := by
  rw [← y_apply m c]
  blk_simp [iblk]
  refine congrArg _ ?_
  blk_ext [index_0 t, rowOf]

/-- The residual's block at a point. -/
theorem x_blk (a : Fin 512) (e : Fin 2048) : iblk m c 1 t (ix2 a e)
    = m ((c : Thread nD τ).loc main_arg1) (ix3 (bat (rowOf t a)) (pos (rowOf t a)) e) := by
  rw [← x_apply m c]
  blk_simp [iblk]
  refine congrArg _ ?_
  blk_ext [index_1 t, rowOf]

/-- The embedding's block at a point. -/
theorem p_blk (a : Fin 512) (e : Fin 256) : iblk m c 2 t (ix3 0 a e)
    = m ((c : Thread nD τ).loc main_arg2) (ix4 0 (bat (rowOf t a)) (pos (rowOf t a)) e) := by
  rw [← p_apply m c]
  blk_simp [iblk]
  refine congrArg _ ?_
  blk_ext [index_2 t, rowOf]

/-- The output weights' block at a point. -/
theorem w_blk (e C : Fin 2048) : iblk m c 3 t (ix2 e C) = m ((c : Thread nD τ).loc main_arg3) (ix3 0 e C) := by
  rw [← w_apply m c]
  blk_simp [iblk]
  refine congrArg _ ?_
  blk_ext [index_3 t]

/-- The norm's scale at a point. -/
theorem g_blk (k : Fin 2) (C : Fin 2048) : iblk m c 4 t (ix2 k C) = m ((c : Thread nD τ).loc main_arg4) (ix2 k C) := by
  rw [← V_main_arg4 m c]
  blk_simp [iblk]
  refine congrArg _ ?_
  blk_ext [index_4 t]

/-- The norm's shift at a point. -/
theorem b_blk (k : Fin 2) (C : Fin 2048) : iblk m c 5 t (ix2 k C) = m ((c : Thread nD τ).loc main_arg5) (ix2 k C) := by
  rw [← V_main_arg5 m c]
  blk_simp [iblk]
  refine congrArg _ ?_
  blk_ext [index_5 t]

/-- The gate weights' block at a point. -/
theorem wg_blk (e C : Fin 2048) : iblk m c 6 t (ix2 e C) = m ((c : Thread nD τ).loc main_arg6) (ix3 0 e C) := by
  rw [← wg_apply m c]
  blk_simp [iblk]
  refine congrArg _ ?_
  blk_ext [index_6 t]

/-- The embedding weights' block at a point. -/
theorem wp_blk (e : Fin 256) (C : Fin 2048) : iblk m c 7 t (ix3 0 e C) = m ((c : Thread nD τ).loc main_arg7) (ix3 0 e C) := by
  rw [← wp_apply m c]
  blk_simp [iblk]
  refine congrArg _ ?_
  blk_ext [index_7 t]

/-- The loads of point `t`. -/
abbrev pload : Loads Ideal :=
  loads 0 (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) (ms0_7 t) (hs0_7 t) (ms0_8 t) (iblk m c 0 t) (iblk m c 1 t) (iblk m c 2 t) (iblk m c 3 t) (iblk m c 4 t)
    (iblk m c 5 t) (iblk m c 6 t) (iblk m c 7 t)

/-- What a point leaves of the result. -/
theorem out_eq : (outsAt0 m c t).1 = View.canon (list2 (pload m c t)) := by
  unfold outsAt0 out0_A_8
  rw [View.read_writes_junk_eq_canon, run_eq]

/-- What a point leaves of the copy. -/
theorem out_copy : (outsAt0 m c t).2 = View.canon (copies (pload m c t)) := by
  unfold outsAt0 out0_A_9
  rw [View.read_writes_junk_eq_canon, run_copy]

variable (T : Fin 4 → Fin 2048 → Fin 2048 → ℝ)
  (hT : ∀ b s C, res (m ((c : Thread nD τ).loc main_arg0)) (m ((c : Thread nD τ).loc main_arg1)) (m ((c : Thread nD τ).loc main_arg3)) 0 b s C = (T b s C : EReal))
include hT

/-- The loads of a point, in the arguments. -/
theorem pload_reads : Reads (pload m c t) (fun a => T (bat (rowOf t a)) (pos (rowOf t a)))
    (fun C => m ((c : Thread nD τ).loc main_arg4) (ix2 0 C)) (fun C => m ((c : Thread nD τ).loc main_arg5) (ix2 0 C))
    (fun e C => m ((c : Thread nD τ).loc main_arg6) (ix3 0 e C))
    (fun a e => m ((c : Thread nD τ).loc main_arg2) (ix4 0 (bat (rowOf t a)) (pos (rowOf t a)) e))
    (fun e C => m ((c : Thread nD τ).loc main_arg7) (ix3 0 e C)) := by
  have h := reads 0 (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) (ms0_7 t) (hs0_7 t) (ms0_8 t) (iblk m c 0 t) (iblk m c 1 t) (iblk m c 2 t) (iblk m c 3 t) (iblk m c 4 t)
    (iblk m c 5 t) (iblk m c 6 t) (iblk m c 7 t) (fun a => T (bat (rowOf t a)) (pos (rowOf t a))) (fun a C => by
      rw [← hT, res, x_blk]
      simp only [y_blk, w_blk])
  simp only [g_blk, b_blk, wg_blk, p_blk, wp_blk] at h
  exact h

end

variable (T : Fin 4 → Fin 2048 → Fin 2048 → ℝ)
  (hT : ∀ b s C, res (m ((c : Thread nD τ).loc main_arg0)) (m ((c : Thread nD τ).loc main_arg1)) (m ((c : Thread nD τ).loc main_arg3)) 0 b s C = (T b s C : EReal))
include hT

/-- The result is the first layer's end. -/
theorem result_eq : (dats m 0 c).arrAt 8 cfg0.N = fun i : S8192x2048.Idx =>
    layerEnd (m ((c : Thread nD τ).loc main_arg2)) (m ((c : Thread nD τ).loc main_arg6)) (m ((c : Thread nD τ).loc main_arg4))
      (m ((c : Thread nD τ).loc main_arg5)) (m ((c : Thread nD τ).loc main_arg7)) 0 T (bat (i 0)) (pos (i 0)) (i 1) := by
  refine (dats m 0 c).arrAt_eq_of_covers 8 _ (by decide +kernel) fun t hf y => ?_
  blk_simp
  rw [after0_8]
  obtain ⟨r, s, rfl⟩ : ∃ (r : Fin 512) (s : Fin 2048), y = ix2 r s := ⟨y 0, y 1, eq_ix2 (n0 := 512) (n1 := 2048) y⟩
  have he : (win0_8.blk t).view.emb (ix2 r s) = ix2 (rowOf t r) s := by
    blk_ext [index_8 t, rowOf]
  rw [he]
  exact (congrFun (out_eq m c t) _).trans (list2_apply (pload_reads m c t T hT) r s)

/-- The copy is the same. -/
theorem copy_eq : (dats m 0 c).arrAt 9 cfg0.N = fun i : S8192x2048.Idx =>
    layerEnd (m ((c : Thread nD τ).loc main_arg2)) (m ((c : Thread nD τ).loc main_arg6)) (m ((c : Thread nD τ).loc main_arg4))
      (m ((c : Thread nD τ).loc main_arg5)) (m ((c : Thread nD τ).loc main_arg7)) 0 T (bat (i 0)) (pos (i 0)) (i 1) := by
  refine (dats m 0 c).arrAt_eq_of_covers 9 _ (by decide +kernel) fun t hf y => ?_
  blk_simp
  rw [after0_9]
  obtain ⟨r, s, rfl⟩ : ∃ (r : Fin 512) (s : Fin 2048), y = ix2 r s := ⟨y 0, y 1, eq_ix2 (n0 := 512) (n1 := 2048) y⟩
  have he : (win0_9.blk t).view.emb (ix2 r s) = ix2 (rowOf t r) s := by
    blk_ext [index_9 t, rowOf]
  rw [he]
  exact (congrFun (out_copy m c t) _).trans (copies_apply (pload_reads m c t T hT) r s)

end Cert.Kernel4Ideal.Tail

end
-- ==== Proof.TailRef3.lean ====
/- The end of the second layer's reference at an index. -/
module

public import proofs.«01_k».proof.Proof.Gen.Reference3Ideal.Read
public import proofs.«01_k».proof.Proof.TailSpec
public import Idealize.ShloMosaic.Lib.Pipeline.ValueKit

@[expose] public section

noncomputable section

namespace Cert.Reference3Ideal.Tail

open Cert.Reference3Ideal Cert.Reference3Ideal.Read Idealize.ShloMosaic Cert.Moba Cert.Tail

variable (Y X : S4x2048x2048.Idx → EReal) (P : S2x4x2048x256.Idx → EReal) (W : S2x2048x2048.Idx → EReal) (G B : S2x2048.Idx → EReal)
  (Wg : S2x2048x2048.Idx → EReal) (Wp : S2x256x2048.Idx → EReal)

/-- The reference's residual sum at an index. -/
theorem res_apply (b : Fin 4) (s C : Fin 2048) : val_main_v5 (F := Ideal) Y X W (ix3 b s C) = res Y X W 1 b s C := by
  pointwise [val_main_v5, val_main_v4, val_main_v3, val_main_v2, val_main_v1, val_main_v0, val_main_cst]
  rfl

section
variable (T : Fin 4 → Fin 2048 → Fin 2048 → ℝ) (hT : ∀ b s C, res Y X W 1 b s C = (T b s C : EReal))
include hT

/-- The mean of a row. -/
theorem mean_apply (b : Fin 4) (s : Fin 2048) : val_main_v13 (F := Ideal) Y X W (ix3 b s 0) = (mean (T b s) : EReal) := by
  pointwise [val_main_v13, val_main_v12, val_main_v11, val_main_v10, val_main_cst_1, val_main_cst_0]
  simp only [res_apply, hT]
  rw [bits_2048, ← coe_sum, Ideal.div_coe (by norm_num), ← EReal.coe_mul, mul_one_div]
  rfl

/-- The variance of a row. -/
theorem var_apply (b : Fin 4) (s : Fin 2048) : val_main_v20 (F := Ideal) Y X W (ix3 b s 0) = (var (T b s) : EReal) := by
  pointwise [val_main_v20, val_main_v19, val_main_v18, val_main_v17, val_main_v16, val_main_v15, val_main_v14, val_main_cst_3, val_main_cst_2]
  simp only [res_apply, hT, mean_apply Y X W T hT, ← EReal.coe_sub, ← EReal.coe_mul]
  rw [bits_2048, ← coe_sum, Ideal.div_coe (by norm_num), ← EReal.coe_mul, mul_one_div]
  rfl

/-- The normalised row at an index. -/
theorem norm_apply (b : Fin 4) (s C : Fin 2048) : val_main_v33 (F := Ideal) Y X W G B (ix3 b s C)
    = norm (T b s) (fun C => G (ix2 1 C)) (fun C => B (ix2 1 C)) C := by
  pointwise [val_main_v33, val_main_v32, val_main_v31, val_main_v30, val_main_v29, val_main_v28, val_main_v27, val_main_v26, val_main_v25, val_main_v24, val_main_v23, val_main_v22, val_main_v21, val_main_v9, val_main_v8, val_main_v7, val_main_v6, val_main_cst_4]
  rw [res_apply, hT, mean_apply Y X W T hT, var_apply Y X W T hT]
  rfl

/-- The layer's output at an index. -/
theorem end_apply (b : Fin 4) (s C : Fin 2048) : val_main_v49 (F := Ideal) Y X P W G B Wg Wp (ix3 b s C)
    = layerEnd P Wg G B Wp 1 T b s C := by
  pointwise [val_main_v49, val_main_v48, val_main_v47, val_main_v46, val_main_v45, val_main_v44, val_main_v43, val_main_v42, val_main_v41, val_main_v40, val_main_v39, val_main_v38, val_main_v37, val_main_v36, val_main_v35, val_main_v34, val_main_cst_6, val_main_cst_5]
  simp only [norm_apply Y X W G B T hT, bits_1]
  rfl

/-- The reference's result: the second layer's end. -/
theorem reference_apply (R : Fin 8192) (C : Fin 2048) : val_main_v50 (F := Ideal) Y X P W G B Wg Wp (ix2 R C)
    = layerEnd P Wg G B Wp 1 T (bat R) (pos R) C := by
  pointwise [val_main_v50]
  exact end_apply Y X P W G B Wg Wp T hT _ _ _

end

end Cert.Reference3Ideal.Tail

end
-- ==== Proof.TailRef4.lean ====
/- The end of the first layer's reference at an index. -/
module

public import proofs.«01_k».proof.Proof.Gen.Reference4Ideal.Read
public import proofs.«01_k».proof.Proof.TailSpec
public import Idealize.ShloMosaic.Lib.Pipeline.ValueKit

@[expose] public section

noncomputable section

namespace Cert.Reference4Ideal.Tail

open Cert.Reference4Ideal Cert.Reference4Ideal.Read Idealize.ShloMosaic Cert.Moba Cert.Tail

variable (Y X : S4x2048x2048.Idx → EReal) (P : S2x4x2048x256.Idx → EReal) (W : S2x2048x2048.Idx → EReal) (G B : S2x2048.Idx → EReal)
  (Wg : S2x2048x2048.Idx → EReal) (Wp : S2x256x2048.Idx → EReal)

/-- The reference's residual sum at an index. -/
theorem res_apply (b : Fin 4) (s C : Fin 2048) : val_main_v5 (F := Ideal) Y X W (ix3 b s C) = res Y X W 0 b s C := by
  pointwise [val_main_v5, val_main_v4, val_main_v3, val_main_v2, val_main_v1, val_main_v0, val_main_cst]
  rfl

section
variable (T : Fin 4 → Fin 2048 → Fin 2048 → ℝ) (hT : ∀ b s C, res Y X W 0 b s C = (T b s C : EReal))
include hT

/-- The mean of a row. -/
theorem mean_apply (b : Fin 4) (s : Fin 2048) : val_main_v13 (F := Ideal) Y X W (ix3 b s 0) = (mean (T b s) : EReal) := by
  pointwise [val_main_v13, val_main_v12, val_main_v11, val_main_v10, val_main_cst_1, val_main_cst_0]
  simp only [res_apply, hT]
  rw [bits_2048, ← coe_sum, Ideal.div_coe (by norm_num), ← EReal.coe_mul, mul_one_div]
  rfl

/-- The variance of a row. -/
theorem var_apply (b : Fin 4) (s : Fin 2048) : val_main_v20 (F := Ideal) Y X W (ix3 b s 0) = (var (T b s) : EReal) := by
  pointwise [val_main_v20, val_main_v19, val_main_v18, val_main_v17, val_main_v16, val_main_v15, val_main_v14, val_main_cst_3, val_main_cst_2]
  simp only [res_apply, hT, mean_apply Y X W T hT, ← EReal.coe_sub, ← EReal.coe_mul]
  rw [bits_2048, ← coe_sum, Ideal.div_coe (by norm_num), ← EReal.coe_mul, mul_one_div]
  rfl

/-- The normalised row at an index. -/
theorem norm_apply (b : Fin 4) (s C : Fin 2048) : val_main_v33 (F := Ideal) Y X W G B (ix3 b s C)
    = norm (T b s) (fun C => G (ix2 0 C)) (fun C => B (ix2 0 C)) C := by
  pointwise [val_main_v33, val_main_v32, val_main_v31, val_main_v30, val_main_v29, val_main_v28, val_main_v27, val_main_v26, val_main_v25, val_main_v24, val_main_v23, val_main_v22, val_main_v21, val_main_v9, val_main_v8, val_main_v7, val_main_v6, val_main_cst_4]
  rw [res_apply, hT, mean_apply Y X W T hT, var_apply Y X W T hT]
  rfl

/-- The layer's output at an index. -/
theorem end_apply (b : Fin 4) (s C : Fin 2048) : val_main_v49 (F := Ideal) Y X P W G B Wg Wp (ix3 b s C)
    = layerEnd P Wg G B Wp 0 T b s C := by
  pointwise [val_main_v49, val_main_v48, val_main_v47, val_main_v46, val_main_v45, val_main_v44, val_main_v43, val_main_v42, val_main_v41, val_main_v40, val_main_v39, val_main_v38, val_main_v37, val_main_v36, val_main_v35, val_main_v34, val_main_cst_6, val_main_cst_5]
  simp only [norm_apply Y X W G B T hT, bits_1]
  rfl

/-- The reference's result: the first layer's end. -/
theorem reference_apply (R : Fin 8192) (C : Fin 2048) : val_main_v50 (F := Ideal) Y X P W G B Wg Wp (ix2 R C)
    = layerEnd P Wg G B Wp 0 T (bat R) (pos R) C := by
  pointwise [val_main_v50]
  exact end_apply Y X P W G B Wg Wp T hT _ _ _

/-- Its copy is the same. -/
theorem copy_apply (R : Fin 8192) (C : Fin 2048) : val_main_v51 (F := Ideal) Y X P W G B Wg Wp (ix2 R C)
    = layerEnd P Wg G B Wp 0 T (bat R) (pos R) C := by
  pointwise [val_main_v51]
  exact reference_apply Y X P W G B Wg Wp T hT _ _

end

end Cert.Reference4Ideal.Tail

end
-- ==== Proof.Real.lean ====
/- A precondition's comparison with infinity says that an entry is a real number. -/
module

public import Idealize.ShloMosaic.PureOps.Ideal.Laws

@[expose] public section

noncomputable section

namespace Cert.Proof

open Idealize.ShloMosaic

/-- The pattern of infinity. -/
theorem bits_top : Ideal.ofBits .f32 0x7F800000#32 = ⊤ := by simp [Ideal.ofBits, Ideal.ieee]

/-- An entry whose absolute value is below infinity is a real number. -/
theorem real_of_lt (x : Ideal .f32) (h : FloatOps.cmpf (F := Ideal) .olt (FloatOps.absf x) (Ideal.ofBits .f32 0x7F800000#32) = 1#1) :
    x = ((x : EReal).toReal : EReal) := by
  rw [bits_top, Ideal.cmpf_def, Ideal.absf_def] at h
  have hlt : max (x : EReal) (-x) < ⊤ := by
    by_contra hn
    simp [Ideal.cmp, hn] at h
  obtain ⟨h1, h2⟩ := max_lt_iff.1 hlt
  refine (EReal.coe_toReal h1.ne fun hb => ?_).symm
  rw [hb] at h2
  exact absurd h2 (by simp)

end Cert.Proof

end
-- ==== Proof.TailMain.lean ====
/- The claims of the layers' ends: their frames, and each call's results beside its reference's, on finite operands. -/
module

public import proofs.«01_k».proof.Defs
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.TailArr3
public import proofs.«01_k».proof.Proof.TailArr4
public import proofs.«01_k».proof.Proof.TailRef3
public import proofs.«01_k».proof.Proof.TailRef4
public import proofs.«01_k».proof.Proof.Gen.Reference3Ideal.Run
public import proofs.«01_k».proof.Proof.Gen.Reference4Ideal.Run
public import proofs.«01_k».proof.Proof.Real
public import proofs.«01_k».proof.Proof.InMain
public import Idealize.ShloMosaic.Adequacy
public import Idealize.ShloMosaic.Init
public import Idealize.ShloMosaic.Lib.Quiescent

@[expose] public section

noncomputable section

namespace Cert.TailProof

open Idealize.ShloMosaic Idealize.SL.Sem Cert.Tail Cert.Proof Cert.InProof

/-- The precondition's side conditions: a scalar broadcasts to the arguments' shapes. -/
instance preFacts : Cert.Pre_finite_tail.Facts := ⟨by decide, by decide⟩

/-- The reference of the second layer's end runs, keeps its arguments, and has no semaphore. -/
theorem frame_ref3 : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

/-- Under the precondition the second layer's residual sum is of real numbers. -/
theorem finite_real3 (m : (ℓ : Loc Cert.Kernel3Ideal.nD Cert.Kernel3Ideal.τ Cert.Kernel3Ideal.sig) → Buf (Elt Ideal) ℓ)
    (h : Cert.Pre_Kernel3Ideal_finite_tail m) (c : Dev Cert.Kernel3Ideal.nD) :
    ∃ T : Fin 4 → Fin 2048 → Fin 2048 → ℝ, ∀ b s C, res (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg3)) 1 b s C = (T b s C : EReal) :=
  res_real _ _ _ _ (fun j => real_of_lt _ (congrFun (h c).1 j)) (fun j => real_of_lt _ (congrFun (h c).2.1 j))
    fun j => real_of_lt _ (congrFun (h c).2.2 j)

/-- On finite operands the kernel's end of the second layer is the reference's. -/
theorem algebraic3 : Cert.algebraic_Kernel3Ideal_Reference3Ideal_pre_finite_tail := by
  intro m g m' g' hp hm
  refine ⟨fun c => (Cert.Kernel3Ideal.Gen.dats m 0 c).arrAt 8 Cert.Kernel3Ideal.cfg0.N, Cert.Kernel3Ideal.Value.run_blocks m g, ?_⟩
  refine (θ_run Cert.Reference3Ideal.defs _ _).mono (fun r h c => ?_) (Cert.Reference3Ideal.Value.run (F := Ideal) m' g')
  obtain ⟨T, hT⟩ := finite_real3 m hp c
  obtain ⟨e0, e1, e2, e3, e4, e5, e6, e7⟩ := hm c
  refine ⟨(h c).1.trans ?_, (h c).2⟩
  rw [Cert.Reference3Ideal.Read.val_main_v50_eq, e0, e1, e2, e3, e4, e5, e6, e7]
  exact (ext2 _ _ fun R C => Cert.Reference3Ideal.Tail.reference_apply _ _ _ _ _ _ _ _ T hT R C).trans (Cert.Kernel3Ideal.Tail.result_eq m c T hT).symm

/-- The reference of the first layer's end runs, keeps its arguments, and has no semaphore. -/
theorem frame_ref4 : Cert.quiescent_Reference4Ideal := fun m ρ _ =>
  (θ_run Cert.Reference4Ideal.defs _ _).mono (fun r h => ⟨fun c => (h c).2.2,
      Idealize.ShloMosaic.sem_eq_zero_of_no_sems (by decide) r.2⟩)
    (Cert.Reference4Ideal.Value.run (F := Ideal) m ρ)

/-- Under the precondition the first layer's residual sum is of real numbers. -/
theorem finite_real4 (m : (ℓ : Loc Cert.Kernel4Ideal.nD Cert.Kernel4Ideal.τ Cert.Kernel4Ideal.sig) → Buf (Elt Ideal) ℓ)
    (h : Cert.Pre_Kernel4Ideal_finite_tail m) (c : Dev Cert.Kernel4Ideal.nD) :
    ∃ T : Fin 4 → Fin 2048 → Fin 2048 → ℝ, ∀ b s C, res (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg3)) 0 b s C = (T b s C : EReal) :=
  res_real _ _ _ _ (fun j => real_of_lt _ (congrFun (h c).1 j)) (fun j => real_of_lt _ (congrFun (h c).2.1 j))
    fun j => real_of_lt _ (congrFun (h c).2.2 j)

/-- On finite operands the kernel's end of the first layer is the reference's. -/
theorem algebraic4 : Cert.algebraic_Kernel4Ideal_Reference4Ideal_pre_finite_tail := by
  intro m g m' g' hp hm
  refine ⟨fun c => (Cert.Kernel4Ideal.Gen.dats m 0 c).arrAt 8 Cert.Kernel4Ideal.cfg0.N,
    fun c => (Cert.Kernel4Ideal.Gen.dats m 0 c).arrAt 9 Cert.Kernel4Ideal.cfg0.N, Cert.Kernel4Ideal.Value.run_blocks m g, ?_⟩
  refine (θ_run Cert.Reference4Ideal.defs _ _).mono (fun r h c => ?_) (Cert.Reference4Ideal.Value.run (F := Ideal) m' g')
  obtain ⟨T, hT⟩ := finite_real4 m hp c
  obtain ⟨e0, e1, e2, e3, e4, e5, e6, e7⟩ := hm c
  refine ⟨(h c).1.trans ?_, (h c).2.1.trans ?_, (h c).2.2⟩
  · rw [Cert.Reference4Ideal.Read.val_main_v50_eq, e0, e1, e2, e3, e4, e5, e6, e7]
    exact (ext2 _ _ fun R C => Cert.Reference4Ideal.Tail.reference_apply _ _ _ _ _ _ _ _ T hT R C).trans (Cert.Kernel4Ideal.Tail.result_eq m c T hT).symm
  · rw [Cert.Reference4Ideal.Read.val_main_v51_eq, e0, e1, e2, e3, e4, e5, e6, e7]
    exact (ext2 _ _ fun R C => Cert.Reference4Ideal.Tail.copy_apply _ _ _ _ _ _ _ _ T hT R C).trans (Cert.Kernel4Ideal.Tail.copy_eq m c T hT).symm

end Cert.TailProof

end
-- ==== Proof.SguLoad.lean ====
module

public import proofs.«01_k».proof.Proof.Gen.Kernel5Ideal.Frame
public import proofs.«01_k».proof.Proof.Gen.Kernel5Ideal.Skeleton
public import Idealize.ShloMosaic.Lib.Exec
public import Idealize.ShloMosaic.Lib.VecWindow

/-! # The three runs of the spatial gating unit's body

A grid point of this call does one of three things: the first loads a slab of the projection and prepares the causal
weights, the next fifteen load a slab each, and the last sixteen compute a tile of rows. Each is run here once, on any
memory references, and nothing is said of what the case does not touch. -/

@[expose] public section

set_option maxRecDepth 16384

noncomputable section

namespace Cert.Kernel5Ideal.Sgu

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Whether a point loads a slab of the projection. -/
abbrev Loads (i : grid0.Coords) : Prop := k0_cond1 i = 1#1
/-- Whether a point prepares the causal weights and the bias. -/
abbrev Prepares (i : grid0.Coords) : Prop := (Scalar.cmpi .ne (Scalar.extui (Scalar.cmpi .eq (BitVec.ofNat 32 (i 0).val) 0#32)) 0#32) = 1#1
/-- Whether a point computes a tile of rows. -/
abbrev Computes (i : grid0.Coords) : Prop := k0_cond3 i = 1#1

variable (c : Dev nD) (i : grid0.Coords)
  (a1 : Memref sig .tc .vmem S512x2048 .f32) (h1 : a1.IsWhole)
  (a2 : Memref sig .tc .vmem S1x128x6144 .f32) (h2 : a2.IsWhole)
  (a3 : Memref sig .tc .vmem S1x2048 .f32) (h3 : a3.IsWhole)
  (a4 : Memref sig .tc .vmem S1x2048 .f32) (h4 : a4.IsWhole)
  (a5 : Memref sig .tc .vmem S1x16x128x128 .f32) (h5 : a5.IsWhole)
  (a6 : Memref sig .tc .vmem S1x16x128 .f32) (h6 : a6.IsWhole)
  (a7 : Memref sig .tc .vmem S1x128x2048 .f32) (h7 : a7.IsWhole)
  (a8 : Memref sig .tc .vmem S1x128x2048 .f32) (h8 : a8.IsWhole)
  (a9 : Memref sig .tc .vmem S32x2048 .f32) (h9 : a9.IsWhole)
  (a10 : Memref sig .tc .vmem S512x2048 .bf16) (h10 : a10.IsWhole)
  (a11 : Memref sig .tc .vmem S128x2048 .bf16) (h11 : a11.IsWhole)
  (a12 : Memref sig .tc .vmem S128x2048 .bf16) (h12 : a12.IsWhole)
  (a13 : Memref sig .tc .vmem S32x2048 .bf16) (h13 : a13.IsWhole)
  (a14 : Memref sig .tc .vmem S2048x6144 .bf16) (h14 : a14.IsWhole)
  (a15 : Memref sig .tc .vmem S512x2048 .bf16) (h15 : a15.IsWhole)
  (a16 : Memref sig .tc .vmem S512x2048 .f32) (h16 : a16.IsWhole)
  (a17 : Memref sig .tc .vmem S16x128x128 .bf16) (h17 : a17.IsWhole)
  (a18 : Memref sig .tc .vmem S128x16 .f32) (h18 : a18.IsWhole)

set_option maxHeartbeats 1600000 in
/-- A point that loads a slab and does nothing else: the slab is written into the projection's scratch buffer. -/
noncomputable def loadRun (hl : Loads i) (hp : ¬Prepares i) (hc : ¬Computes i)
    (x2 : Vec F S1x128x6144 .f32) (x14 : Vec F S2048x6144 .bf16) :
    { L14 : List (View.Piece (Elt F) S2048x6144 .bf16) //
      ∀ (E : Set ℕ) (K : PUnit → sProp 𝕄),
        iprop(owns (c : Thread nD τ) a2 fullShare x2
            ∗ owns (c : Thread nD τ) a14 fullShare x14
            ∗ (iprop(owns (c : Thread nD τ) a2 fullShare x2
            ∗ (a14.view.loc (c : Thread nD τ) ↦[a14.view.set]{fullShare} a14.view.writes (Elt F) (h14.unread x14) L14)) -∗ K ⟨⟩))
          ⊢ wp frame (wpE (defs₀ (F := F)) Variants.none c none) E (cc0_sgu i a1 h1 a2 h2 a3 h3 a4 h4 a5 h5 a6 h6 a7 h7 a8 h8 a9 h9 a10 h10 a11 h11 a12 h12 a13 h13 a14 h14 a15 h15 a16 h16 a17 h17 a18 h18) K } := by
  refine ⟨?_, fun E K => ?run⟩
  case run =>
    simp only [cc0_sgu_eq_skeleton]; unfold cc0_sgu_skel
    unfold owns
    iintro ⟨⟨%f2, %hf2, H2⟩, ⟨%f14, %hf14, H14⟩, Hk⟩
    obtain rfl := h2.eq_unread hf2; obtain rfl := h14.eq_unread hf14
    sl_exec (disch := first | sl_exact hl | sl_exact hp | sl_exact hc)
    sl_step
    iapply Hk
    isplitl [H2]
    · iexists _; isplitr; · ipureintro; exact h2.read_unread _
      iexact H2
    iexact H14

set_option maxHeartbeats 1600000 in
/-- The first point: beside its slab it writes the causal weights and the bias. -/
noncomputable def firstRun (hl : Loads i) (hp : Prepares i) (hc : ¬Computes i)
    (x2 : Vec F S1x128x6144 .f32) (x5 : Vec F S1x16x128x128 .f32) (x6 : Vec F S1x16x128 .f32) (x14 : Vec F S2048x6144 .bf16) :
    Σ' (L17 : List (View.Piece (Elt F) S16x128x128 .bf16)), Σ' (L18 : List (View.Piece (Elt F) S128x16 .f32)), { L14 : List (View.Piece (Elt F) S2048x6144 .bf16) //
      ∀ (E : Set ℕ) (K : PUnit → sProp 𝕄),
        iprop(owns (c : Thread nD τ) a2 fullShare x2
            ∗ owns (c : Thread nD τ) a5 fullShare x5
            ∗ owns (c : Thread nD τ) a6 fullShare x6
            ∗ owns (c : Thread nD τ) a14 fullShare x14
            ∗ (∃ d, owns (c : Thread nD τ) a17 fullShare d)
            ∗ (∃ d, owns (c : Thread nD τ) a18 fullShare d)
            ∗ (iprop(owns (c : Thread nD τ) a2 fullShare x2
            ∗ owns (c : Thread nD τ) a5 fullShare x5
            ∗ owns (c : Thread nD τ) a6 fullShare x6
            ∗ (a14.view.loc (c : Thread nD τ) ↦[a14.view.set]{fullShare} a14.view.writes (Elt F) (h14.unread x14) L14)
            ∗ (∃ f, a17.view.loc (c : Thread nD τ) ↦[a17.view.set]{fullShare} a17.view.writes (Elt F) f L17)
            ∗ (∃ f, a18.view.loc (c : Thread nD τ) ↦[a18.view.set]{fullShare} a18.view.writes (Elt F) f L18)) -∗ K ⟨⟩))
          ⊢ wp frame (wpE (defs₀ (F := F)) Variants.none c none) E (cc0_sgu i a1 h1 a2 h2 a3 h3 a4 h4 a5 h5 a6 h6 a7 h7 a8 h8 a9 h9 a10 h10 a11 h11 a12 h12 a13 h13 a14 h14 a15 h15 a16 h16 a17 h17 a18 h18) K } := by
  refine ⟨?_, ?_, ?_, fun E K => ?run⟩
  case run =>
    simp only [cc0_sgu_eq_skeleton]; unfold cc0_sgu_skel
    unfold owns
    iintro ⟨⟨%f2, %hf2, H2⟩, ⟨%f5, %hf5, H5⟩, ⟨%f6, %hf6, H6⟩, ⟨%f14, %hf14, H14⟩, ⟨%d17, %f17, -, H17⟩, ⟨%d18, %f18, -, H18⟩, Hk⟩
    obtain rfl := h2.eq_unread hf2; obtain rfl := h5.eq_unread hf5; obtain rfl := h6.eq_unread hf6; obtain rfl := h14.eq_unread hf14
    sl_exec (disch := first | sl_exact hl | sl_exact hp | sl_exact hc)
    sl_step
    iapply Hk
    isplitl [H2]
    · iexists _; isplitr; · ipureintro; exact h2.read_unread _
      iexact H2
    isplitl [H5]
    · iexists _; isplitr; · ipureintro; exact h5.read_unread _
      iexact H5
    isplitl [H6]
    · iexists _; isplitr; · ipureintro; exact h6.read_unread _
      iexact H6
    isplitl [H14]; · iexact H14
    isplitl [H17]; · iexists _; iexact H17
    iexists _; iexact H18

/-- What a point that loads stores. -/
theorem load_list (hl : Loads i) (hp : ¬Prepares i) (hc : ¬Computes i) (x2 : Vec F S1x128x6144 .f32) (x14 : Vec F S2048x6144 .bf16) :
    (loadRun c i a1 h1 a2 h2 a3 h3 a4 h4 a5 h5 a6 h6 a7 h7 a8 h8 a9 h9 a10 h10 a11 h11 a12 h12 a13 h13 a14 h14 a15 h15 a16 h16 a17 h17 a18 h18 hl hp hc x2 x14).1 = [⟨Rect.unit (s := S2048x6144) (k0_off1 i) S128x6144.size (k0_off1_inb i hl), k0_pay1 x2⟩] := by
  have e : View.readAt (Elt F) a2.view (Rect.unit (s := S1x128x6144) ![0, 0, 0] S1x128x6144.size inb_S1x128x6144_S1x128x6144_0_0_0).toLoadRect (h2.unread x2) = x2 := by rw [View.readAt_full, h2.read_unread]
  have l : (loadRun c i a1 h1 a2 h2 a3 h3 a4 h4 a5 h5 a6 h6 a7 h7 a8 h8 a9 h9 a10 h10 a11 h11 a12 h12 a13 h13 a14 h14 a15 h15 a16 h16 a17 h17 a18 h18 hl hp hc x2 x14).1 = [⟨Rect.unit (s := S2048x6144) (k0_off1 i) S128x6144.size (k0_off1_inb i hl), k0_pay1 (View.readAt (Elt F) a2.view (Rect.unit (s := S1x128x6144) ![0, 0, 0] S1x128x6144.size inb_S1x128x6144_S1x128x6144_0_0_0).toLoadRect (h2.unread x2))⟩] := by sl_kernel_rfl
  rw [l, e]

/-- What the first point stores of the projection, -/
theorem first_slab (hl : Loads i) (hp : Prepares i) (hc : ¬Computes i) (x2 : Vec F S1x128x6144 .f32) (x5 : Vec F S1x16x128x128 .f32)
    (x6 : Vec F S1x16x128 .f32) (x14 : Vec F S2048x6144 .bf16) :
    (firstRun c i a1 h1 a2 h2 a3 h3 a4 h4 a5 h5 a6 h6 a7 h7 a8 h8 a9 h9 a10 h10 a11 h11 a12 h12 a13 h13 a14 h14 a15 h15 a16 h16 a17 h17 a18 h18 hl hp hc x2 x5 x6 x14).2.2.1 = [⟨Rect.unit (s := S2048x6144) (k0_off1 i) S128x6144.size (k0_off1_inb i hl), k0_pay1 x2⟩] := by
  have e : View.readAt (Elt F) a2.view (Rect.unit (s := S1x128x6144) ![0, 0, 0] S1x128x6144.size inb_S1x128x6144_S1x128x6144_0_0_0).toLoadRect (h2.unread x2) = x2 := by rw [View.readAt_full, h2.read_unread]
  have l : (firstRun c i a1 h1 a2 h2 a3 h3 a4 h4 a5 h5 a6 h6 a7 h7 a8 h8 a9 h9 a10 h10 a11 h11 a12 h12 a13 h13 a14 h14 a15 h15 a16 h16 a17 h17 a18 h18 hl hp hc x2 x5 x6 x14).2.2.1 = [⟨Rect.unit (s := S2048x6144) (k0_off1 i) S128x6144.size (k0_off1_inb i hl), k0_pay1 (View.readAt (Elt F) a2.view (Rect.unit (s := S1x128x6144) ![0, 0, 0] S1x128x6144.size inb_S1x128x6144_S1x128x6144_0_0_0).toLoadRect (h2.unread x2))⟩] := by sl_kernel_rfl
  rw [l, e]

/-- of the causal weights, -/
theorem first_weights (hl : Loads i) (hp : Prepares i) (hc : ¬Computes i) (x2 : Vec F S1x128x6144 .f32) (x5 : Vec F S1x16x128x128 .f32)
    (x6 : Vec F S1x16x128 .f32) (x14 : Vec F S2048x6144 .bf16) :
    (firstRun c i a1 h1 a2 h2 a3 h3 a4 h4 a5 h5 a6 h6 a7 h7 a8 h8 a9 h9 a10 h10 a11 h11 a12 h12 a13 h13 a14 h14 a15 h15 a16 h16 a17 h17 a18 h18 hl hp hc x2 x5 x6 x14).1 = [⟨Rect.unit (s := S16x128x128) ![0, 0, 0] S16x128x128.size inb_S16x128x128_S16x128x128_0_0_0, k0_pay2 x5⟩] := by
  have e : View.readAt (Elt F) a5.view (Rect.unit (s := S1x16x128x128) ![0, 0, 0, 0] S1x16x128x128.size inb_S1x16x128x128_S1x16x128x128_0_0_0_0).toLoadRect (h5.unread x5) = x5 := by rw [View.readAt_full, h5.read_unread]
  have l : (firstRun c i a1 h1 a2 h2 a3 h3 a4 h4 a5 h5 a6 h6 a7 h7 a8 h8 a9 h9 a10 h10 a11 h11 a12 h12 a13 h13 a14 h14 a15 h15 a16 h16 a17 h17 a18 h18 hl hp hc x2 x5 x6 x14).1 = [⟨Rect.unit (s := S16x128x128) ![0, 0, 0] S16x128x128.size inb_S16x128x128_S16x128x128_0_0_0, k0_pay2 (View.readAt (Elt F) a5.view (Rect.unit (s := S1x16x128x128) ![0, 0, 0, 0] S1x16x128x128.size inb_S1x16x128x128_S1x16x128x128_0_0_0_0).toLoadRect (h5.unread x5))⟩] := by sl_kernel_rfl
  rw [l, e]

/-- and of the bias. -/
theorem first_biases (hl : Loads i) (hp : Prepares i) (hc : ¬Computes i) (x2 : Vec F S1x128x6144 .f32) (x5 : Vec F S1x16x128x128 .f32)
    (x6 : Vec F S1x16x128 .f32) (x14 : Vec F S2048x6144 .bf16) :
    (firstRun c i a1 h1 a2 h2 a3 h3 a4 h4 a5 h5 a6 h6 a7 h7 a8 h8 a9 h9 a10 h10 a11 h11 a12 h12 a13 h13 a14 h14 a15 h15 a16 h16 a17 h17 a18 h18 hl hp hc x2 x5 x6 x14).2.1 = [⟨Rect.unit (s := S128x16) ![0, 0] S128x16.size inb_S128x16_S128x16_0_0, k0_pay3 x6⟩] := by
  have e : View.readAt (Elt F) a6.view (Rect.unit (s := S1x16x128) ![0, 0, 0] S1x16x128.size inb_S1x16x128_S1x16x128_0_0_0).toLoadRect (h6.unread x6) = x6 := by rw [View.readAt_full, h6.read_unread]
  have l : (firstRun c i a1 h1 a2 h2 a3 h3 a4 h4 a5 h5 a6 h6 a7 h7 a8 h8 a9 h9 a10 h10 a11 h11 a12 h12 a13 h13 a14 h14 a15 h15 a16 h16 a17 h17 a18 h18 hl hp hc x2 x5 x6 x14).2.1 = [⟨Rect.unit (s := S128x16) ![0, 0] S128x16.size inb_S128x16_S128x16_0_0, k0_pay3 (View.readAt (Elt F) a6.view (Rect.unit (s := S1x16x128) ![0, 0, 0] S1x16x128.size inb_S1x16x128_S1x16x128_0_0_0).toLoadRect (h6.unread x6))⟩] := by sl_kernel_rfl
  rw [l, e]

end Cert.Kernel5Ideal.Sgu
-- ==== Proof.SguTile.lean ====
module

public import proofs.«01_k».proof.Proof.SguLoad

/-! # The three runs of the spatial gating unit's body

A grid point of this call does one of three things: the first loads a slab of the projection and prepares the causal
weights, the next fifteen load a slab each, and the last sixteen compute a tile of rows. Each is run here once, on any
memory references, and nothing is said of what the case does not touch. -/

@[expose] public section

set_option maxRecDepth 16384

noncomputable section

namespace Cert.Kernel5Ideal.Sgu

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
  (a1 : Memref sig .tc .vmem S512x2048 .f32) (h1 : a1.IsWhole)
  (a2 : Memref sig .tc .vmem S1x128x6144 .f32) (h2 : a2.IsWhole)
  (a3 : Memref sig .tc .vmem S1x2048 .f32) (h3 : a3.IsWhole)
  (a4 : Memref sig .tc .vmem S1x2048 .f32) (h4 : a4.IsWhole)
  (a5 : Memref sig .tc .vmem S1x16x128x128 .f32) (h5 : a5.IsWhole)
  (a6 : Memref sig .tc .vmem S1x16x128 .f32) (h6 : a6.IsWhole)
  (a7 : Memref sig .tc .vmem S1x128x2048 .f32) (h7 : a7.IsWhole)
  (a8 : Memref sig .tc .vmem S1x128x2048 .f32) (h8 : a8.IsWhole)
  (a9 : Memref sig .tc .vmem S32x2048 .f32) (h9 : a9.IsWhole)
  (a10 : Memref sig .tc .vmem S512x2048 .bf16) (h10 : a10.IsWhole)
  (a11 : Memref sig .tc .vmem S128x2048 .bf16) (h11 : a11.IsWhole)
  (a12 : Memref sig .tc .vmem S128x2048 .bf16) (h12 : a12.IsWhole)
  (a13 : Memref sig .tc .vmem S32x2048 .bf16) (h13 : a13.IsWhole)
  (a14 : Memref sig .tc .vmem S2048x6144 .bf16) (h14 : a14.IsWhole)
  (a15 : Memref sig .tc .vmem S512x2048 .bf16) (h15 : a15.IsWhole)
  (a16 : Memref sig .tc .vmem S512x2048 .f32) (h16 : a16.IsWhole)
  (a17 : Memref sig .tc .vmem S16x128x128 .bf16) (h17 : a17.IsWhole)
  (a18 : Memref sig .tc .vmem S128x16 .f32) (h18 : a18.IsWhole)

set_option maxHeartbeats 1600000 in
/-- A point that computes: with the projection, the causal weights and the bias in their scratch buffers, the body
    leaves the inputs and these three as they were and writes the four outputs; the lists of what it writes are found by
    running it. -/
noncomputable def tileRun (hl : ¬Loads i) (hp : ¬Prepares i) (hc : Computes i)
    (x1 : Vec F S512x2048 .f32) (x3 : Vec F S1x2048 .f32) (x4 : Vec F S1x2048 .f32) (x7 : Vec F S1x128x2048 .f32) (x8 : Vec F S1x128x2048 .f32) (x9 : Vec F S32x2048 .f32) (x14 : Vec F S2048x6144 .bf16) (x17 : Vec F S16x128x128 .bf16) (x18 : Vec F S128x16 .f32) :
    Σ' (L10 : List (View.Piece (Elt F) S512x2048 .bf16)), Σ' (L11 : List (View.Piece (Elt F) S128x2048 .bf16)), Σ' (L12 : List (View.Piece (Elt F) S128x2048 .bf16)), { L13 : List (View.Piece (Elt F) S32x2048 .bf16) //
      ∀ (E : Set ℕ) (K : PUnit → sProp 𝕄),
        iprop(owns (c : Thread nD τ) a1 fullShare x1
            ∗ owns (c : Thread nD τ) a3 fullShare x3
            ∗ owns (c : Thread nD τ) a4 fullShare x4
            ∗ owns (c : Thread nD τ) a7 fullShare x7
            ∗ owns (c : Thread nD τ) a8 fullShare x8
            ∗ owns (c : Thread nD τ) a9 fullShare x9
            ∗ (∃ d, owns (c : Thread nD τ) a10 fullShare d)
            ∗ (∃ d, owns (c : Thread nD τ) a11 fullShare d)
            ∗ (∃ d, owns (c : Thread nD τ) a12 fullShare d)
            ∗ (∃ d, owns (c : Thread nD τ) a13 fullShare d)
            ∗ owns (c : Thread nD τ) a14 fullShare x14
            ∗ owns (c : Thread nD τ) a17 fullShare x17
            ∗ owns (c : Thread nD τ) a18 fullShare x18
            ∗ (∃ d, owns (c : Thread nD τ) a15 fullShare d)
            ∗ (∃ d, owns (c : Thread nD τ) a16 fullShare d)
            ∗ (iprop(owns (c : Thread nD τ) a1 fullShare x1
            ∗ owns (c : Thread nD τ) a3 fullShare x3
            ∗ owns (c : Thread nD τ) a4 fullShare x4
            ∗ owns (c : Thread nD τ) a7 fullShare x7
            ∗ owns (c : Thread nD τ) a8 fullShare x8
            ∗ owns (c : Thread nD τ) a9 fullShare x9
            ∗ (∃ f, a10.view.loc (c : Thread nD τ) ↦[a10.view.set]{fullShare} a10.view.writes (Elt F) f L10)
            ∗ (∃ f, a11.view.loc (c : Thread nD τ) ↦[a11.view.set]{fullShare} a11.view.writes (Elt F) f L11)
            ∗ (∃ f, a12.view.loc (c : Thread nD τ) ↦[a12.view.set]{fullShare} a12.view.writes (Elt F) f L12)
            ∗ (∃ f, a13.view.loc (c : Thread nD τ) ↦[a13.view.set]{fullShare} a13.view.writes (Elt F) f L13)
            ∗ owns (c : Thread nD τ) a14 fullShare x14
            ∗ owns (c : Thread nD τ) a17 fullShare x17
            ∗ owns (c : Thread nD τ) a18 fullShare x18
            ∗ (∃ d, owns (c : Thread nD τ) a15 fullShare d)
            ∗ (∃ d, owns (c : Thread nD τ) a16 fullShare d)) -∗ K ⟨⟩))
          ⊢ wp frame (wpE (defs₀ (F := F)) Variants.none c none) E (cc0_sgu i a1 h1 a2 h2 a3 h3 a4 h4 a5 h5 a6 h6 a7 h7 a8 h8 a9 h9 a10 h10 a11 h11 a12 h12 a13 h13 a14 h14 a15 h15 a16 h16 a17 h17 a18 h18) K } := by
  refine ⟨?_, ?_, ?_, ?_, fun E K => ?run⟩
  case run =>
    simp only [cc0_sgu_eq_skeleton]; unfold cc0_sgu_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
    unfold owns
    iintro ⟨⟨%f1, %hf1, H1⟩, ⟨%f3, %hf3, H3⟩, ⟨%f4, %hf4, H4⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%f14, %hf14, H14⟩, ⟨%f17, %hf17, H17⟩, ⟨%f18, %hf18, H18⟩, ⟨%d15, %f15, -, H15⟩, ⟨%d16, %f16, -, H16⟩, Hk⟩
    obtain rfl := h1.eq_unread hf1; obtain rfl := h3.eq_unread hf3; obtain rfl := h4.eq_unread hf4; obtain rfl := h7.eq_unread hf7; obtain rfl := h8.eq_unread hf8; obtain rfl := h9.eq_unread hf9; obtain rfl := h14.eq_unread hf14; obtain rfl := h17.eq_unread hf17; obtain rfl := h18.eq_unread hf18
    sl_exec (disch := first | sl_exact hl | sl_exact hp | sl_exact hc)
    sl_step
    iapply Hk
    isplitl [H1]
    · iexists _; isplitr; · ipureintro; exact h1.read_unread _
      iexact H1
    isplitl [H3]
    · iexists _; isplitr; · ipureintro; exact h3.read_unread _
      iexact H3
    isplitl [H4]
    · iexists _; isplitr; · ipureintro; exact h4.read_unread _
      iexact H4
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]; · iexists _; iexact H10
    isplitl [H11]; · iexists _; iexact H11
    isplitl [H12]; · iexists _; iexact H12
    isplitl [H13]; · iexists _; iexact H13
    isplitl [H14]
    · iexists _; isplitr; · ipureintro; exact h14.read_unread _
      iexact H14
    isplitl [H17]
    · iexists _; isplitr; · ipureintro; exact h17.read_unread _
      iexact H17
    isplitl [H18]
    · iexists _; isplitr; · ipureintro; exact h18.read_unread _
      iexact H18
    isplitl [H15]
    · iexists _; iexists _; isplitr
      swap; · iexact H15
      ipureintro; rfl
    iexists _; iexists _; isplitr
    swap; · iexact H16
    ipureintro; rfl

end Cert.Kernel5Ideal.Sgu
-- ==== Proof.SguFrame.lean ====
module

public import proofs.«01_k».proof.Proof.SguLoad
public import proofs.«01_k».proof.Proof.SguTile
public import Idealize.ShloMosaic.Lib.Claim
public import Idealize.ShloMosaic.Lib.Writes
public import Idealize.ShloMosaic.Lib.Pointwise
public import Idealize.ShloMosaic.Lib.VecWindow

/-! # The spatial gating unit's launch

The scratch buffer of the projection is filled a slab at a point. Before a point the buffers are held at some contents of
which `Ready` says what is known: the slabs loaded so far are in place, and after the first point so are the causal
weights and the bias. At the points that compute, this leaves one possibility for each of the three, and with it the
outputs are named. -/

@[expose] public section

set_option maxRecDepth 65536

noncomputable section

namespace Cert.Kernel5Ideal.Sgu

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A point's coordinate is its number. -/
theorem coord (t : Fin cfg0.N) : (grid0.coords t 0).val = t.val := (by decide +kernel : ∀ t : Fin grid0.N, (grid0.coords t 0).val = t.val) t

/-- The points that load are the first sixteen. -/
theorem loads_iff (t : Fin cfg0.N) : Loads (grid0.coords t) ↔ t.val < 16 :=
  (by decide +kernel : ∀ t : Fin grid0.N, k0_cond1 (grid0.coords t) = 1#1 ↔ t.val < 16) t
/-- The point that prepares is the first. -/
theorem prepares_iff (t : Fin cfg0.N) : Prepares (grid0.coords t) ↔ t.val = 0 :=
  (by decide +kernel : ∀ t : Fin grid0.N, Prepares (grid0.coords t) ↔ t.val = 0) t
/-- The points that compute are the last sixteen. -/
theorem computes_iff (t : Fin cfg0.N) : Computes (grid0.coords t) ↔ 16 ≤ t.val :=
  (by decide +kernel : ∀ t : Fin grid0.N, k0_cond3 (grid0.coords t) = 1#1 ↔ 16 ≤ t.val) t
/-- Where a point's slab starts. -/
theorem off_eq (t : Fin cfg0.N) (h : t.val < 16) : k0_off1 (grid0.coords t) = ![128 * t.val, 0] :=
  (by decide +kernel : ∀ t : Fin grid0.N, t.val < 16 → k0_off1 (grid0.coords t) = ![128 * t.val, 0]) t h

/-! ## The memory references of a point -/

abbrev win0 (t : Fin cfg0.N) : Memref sig .tc .vmem S512x2048 .f32 := win0_0.stage (cfg0.slots t 0)
abbrev whole0 (t : Fin cfg0.N) : (win0 t).IsWhole := hstage0_0 ((cfg0.slots t 0).cast nbuf0_0)
abbrev win1 (t : Fin cfg0.N) : Memref sig .tc .vmem S1x128x6144 .f32 := win0_1.stage (cfg0.slots t 1)
abbrev whole1 (t : Fin cfg0.N) : (win1 t).IsWhole := hstage0_1 ((cfg0.slots t 1).cast nbuf0_1)
abbrev win2 (t : Fin cfg0.N) : Memref sig .tc .vmem S1x2048 .f32 := win0_2.stage (cfg0.slots t 2)
abbrev whole2 (t : Fin cfg0.N) : (win2 t).IsWhole := hstage0_2 ((cfg0.slots t 2).cast nbuf0_2)
abbrev win3 (t : Fin cfg0.N) : Memref sig .tc .vmem S1x2048 .f32 := win0_3.stage (cfg0.slots t 3)
abbrev whole3 (t : Fin cfg0.N) : (win3 t).IsWhole := hstage0_3 ((cfg0.slots t 3).cast nbuf0_3)
abbrev win4 (t : Fin cfg0.N) : Memref sig .tc .vmem S1x16x128x128 .f32 := win0_4.stage (cfg0.slots t 4)
abbrev whole4 (t : Fin cfg0.N) : (win4 t).IsWhole := hstage0_4 ((cfg0.slots t 4).cast nbuf0_4)
abbrev win5 (t : Fin cfg0.N) : Memref sig .tc .vmem S1x16x128 .f32 := win0_5.stage (cfg0.slots t 5)
abbrev whole5 (t : Fin cfg0.N) : (win5 t).IsWhole := hstage0_5 ((cfg0.slots t 5).cast nbuf0_5)
abbrev win6 (t : Fin cfg0.N) : Memref sig .tc .vmem S1x128x2048 .f32 := win0_6.stage (cfg0.slots t 6)
abbrev whole6 (t : Fin cfg0.N) : (win6 t).IsWhole := hstage0_6 ((cfg0.slots t 6).cast nbuf0_6)
abbrev win7 (t : Fin cfg0.N) : Memref sig .tc .vmem S1x128x2048 .f32 := win0_7.stage (cfg0.slots t 7)
abbrev whole7 (t : Fin cfg0.N) : (win7 t).IsWhole := hstage0_7 ((cfg0.slots t 7).cast nbuf0_7)
abbrev win8 (t : Fin cfg0.N) : Memref sig .tc .vmem S32x2048 .f32 := win0_8.stage (cfg0.slots t 8)
abbrev whole8 (t : Fin cfg0.N) : (win8 t).IsWhole := hstage0_8 ((cfg0.slots t 8).cast nbuf0_8)
abbrev win9 (t : Fin cfg0.N) : Memref sig .tc .vmem S512x2048 .bf16 := win0_9.stage (cfg0.slots t 9)
abbrev whole9 (t : Fin cfg0.N) : (win9 t).IsWhole := hstage0_9 ((cfg0.slots t 9).cast nbuf0_9)
abbrev win10 (t : Fin cfg0.N) : Memref sig .tc .vmem S128x2048 .bf16 := win0_10.stage (cfg0.slots t 10)
abbrev whole10 (t : Fin cfg0.N) : (win10 t).IsWhole := hstage0_10 ((cfg0.slots t 10).cast nbuf0_10)
abbrev win11 (t : Fin cfg0.N) : Memref sig .tc .vmem S128x2048 .bf16 := win0_11.stage (cfg0.slots t 11)
abbrev whole11 (t : Fin cfg0.N) : (win11 t).IsWhole := hstage0_11 ((cfg0.slots t 11).cast nbuf0_11)
abbrev win12 (t : Fin cfg0.N) : Memref sig .tc .vmem S32x2048 .bf16 := win0_12.stage (cfg0.slots t 12)
abbrev whole12 (t : Fin cfg0.N) : (win12 t).IsWhole := hstage0_12 ((cfg0.slots t 12).cast nbuf0_12)
abbrev scr0 : Memref sig .tc .vmem S2048x6144 .bf16 := Memref.whole cc0_scratch0
abbrev scr1 : Memref sig .tc .vmem S512x2048 .bf16 := Memref.whole cc0_scratch1
abbrev scr2 : Memref sig .tc .vmem S512x2048 .f32 := Memref.whole cc0_scratch2
abbrev scr3 : Memref sig .tc .vmem S16x128x128 .bf16 := Memref.whole cc0_scratch3
abbrev scr4 : Memref sig .tc .vmem S128x16 .f32 := Memref.whole cc0_scratch4

variable (m : (ℓ : Loc nD τ sig) → Buf (Elt F) ℓ) (ρ : Dev nD → PrngReg) (c : Dev nD)

/-! ## What the scratch buffers hold -/

/-- The slab point `t` loads. -/
def slab (t : Fin cfg0.N) : Vec F S128x6144 .bf16 := k0_pay1 (iblk m c 1 t)
/-- The point that loads row `r` of the projection. -/
def loader (r : Fin 2048) : Fin cfg0.N := ⟨r.val / 128, by have : cfg0.N = 32 := N_0; omega⟩
/-- The whole projection. -/
def proj : Vec F S2048x6144 .bf16 := fun y => slab m c (loader (y 0)) (ix2 ⟨(y 0).val % 128, Nat.mod_lt _ (by decide)⟩ (y 1))
/-- The first point. -/
abbrev start : Fin cfg0.N := ⟨0, by decide⟩
/-- The causal weights. -/
def causal : Vec F S16x128x128 .bf16 := k0_pay2 (iblk m c 4 start)
/-- The bias. -/
def bias : Vec F S128x16 .f32 := k0_pay3 (iblk m c 5 start)

/-- What is known of the scratch buffers before point `n`. -/
structure Ready (n : ℕ) (w : Vec F S2048x6144 .bf16) (wc : Vec F S16x128x128 .bf16) (b : Vec F S128x16 .f32) : Prop where
  slabs : ∀ y : S2048x6144.Idx, (y 0).val < 128 * n → w y = proj m c y
  causal : 0 < n → wc = Sgu.causal m c
  bias : 0 < n → b = Sgu.bias m c

/-- At the points that compute everything is known. -/
theorem Ready.proj {n : ℕ} (hn : 16 ≤ n) {w : Vec F S2048x6144 .bf16} {wc : Vec F S16x128x128 .bf16} {b : Vec F S128x16 .f32}
    (h : Ready m c n w wc b) : w = Sgu.proj m c :=
  funext fun y => h.slabs y (by have : (y 0).val < 2048 := (y 0).isLt; omega)

/-- After a load point the next slab is in place. -/
theorem Ready.step {t : Fin cfg0.N} (ht : t.val < 16) {w : Vec F S2048x6144 .bf16} {wc wc' : Vec F S16x128x128 .bf16} {b b' : Vec F S128x16 .f32}
    (h : Ready m c t.val w wc b) (hw : wc' = Sgu.causal m c) (hb : b' = Sgu.bias m c)
    (h14 : (scr0).IsWhole) (inb : ∀ a, k0_off1 (grid0.coords t) a + S128x6144.size a ≤ S2048x6144.size a) :
    Ready m c (t.val + 1) (scr0.view.read (Elt F) (scr0.view.writes (Elt F) (h14.unread w)
      [⟨Rect.unit (s := S2048x6144) (k0_off1 (grid0.coords t)) S128x6144.size inb, slab m c t⟩])) wc' b' where
  causal _ := hw
  bias _ := hb
  slabs y hy := by
    have e0 : k0_off1 (grid0.coords t) 0 = 128 * t.val := congrFun (off_eq t ht) 0
    have e1 : k0_off1 (grid0.coords t) 1 = 0 := congrFun (off_eq t ht) 1
    by_cases hl : (y 0).val < 128 * t.val
    · rw [View.read_writes_cons_miss_of_axis (p := ⟨Rect.unit (s := S2048x6144) (k0_off1 (grid0.coords t)) S128x6144.size inb, slab m c t⟩)
        (a := 0) (o := 128 * t.val) (n := 128) (ho := e0) (hst := rfl) (hn := rfl) (h := Or.inl hl)]
      rw [View.writes_nil, h14.read_unread]
      exact h.slabs y hl
    · have hd : (y 0).val / 128 = t.val := by omega
      have hL : loader (y 0) = t := Fin.ext hd
      rw [View.read_writes_cons_hit_of_coords (x := ix2 (n0 := 128) (n1 := 6144) ⟨(y 0).val % 128, Nat.mod_lt _ (by decide)⟩ (y 1))]
      · unfold Sgu.proj; rw [hL]
      · intro a
        fin_cases a
        · show (y 0).val = k0_off1 (grid0.coords t) 0 + 1 * ((y 0).val % 128); rw [e0]; omega
        · show (y 1).val = k0_off1 (grid0.coords t) 1 + 1 * (y 1).val; rw [e1]; omega

/-! ## What a point that computes writes -/

/-- The run of a point that computes, on the filled scratch buffers. -/
def tile (t : Fin cfg0.N) (h : 16 ≤ t.val) :=
  tileRun c (grid0.coords t) (win0 t) (whole0 t) (win1 t) (whole1 t) (win2 t) (whole2 t) (win3 t) (whole3 t) (win4 t) (whole4 t) (win5 t) (whole5 t) (win6 t) (whole6 t) (win7 t) (whole7 t) (win8 t) (whole8 t) (win9 t) (whole9 t) (win10 t) (whole10 t) (win11 t) (whole11 t) (win12 t) (whole12 t) scr0 (Memref.isWhole_whole _) scr1 (Memref.isWhole_whole _) scr2 (Memref.isWhole_whole _) scr3 (Memref.isWhole_whole _) scr4 (Memref.isWhole_whole _)
    (fun hl => absurd ((loads_iff t).1 hl) (by omega)) (fun hp => absurd ((prepares_iff t).1 hp) (by omega)) ((computes_iff t).2 h)
    (iblk m c 0 t) (iblk m c 2 t) (iblk m c 3 t) (iblk m c 6 t) (iblk m c 7 t) (iblk m c 8 t) (proj m c) (causal m c) (bias m c)

/-- The stores of a point into each output; none at a point that loads. -/
def list9 (t : Fin cfg0.N) : List (View.Piece (Elt F) S512x2048 .bf16) := if h : 16 ≤ t.val then (tile m c t h).1 else []
def list10 (t : Fin cfg0.N) : List (View.Piece (Elt F) S128x2048 .bf16) := if h : 16 ≤ t.val then (tile m c t h).2.1 else []
def list11 (t : Fin cfg0.N) : List (View.Piece (Elt F) S128x2048 .bf16) := if h : 16 ≤ t.val then (tile m c t h).2.2.1 else []
def list12 (t : Fin cfg0.N) : List (View.Piece (Elt F) S32x2048 .bf16) := if h : 16 ≤ t.val then (tile m c t h).2.2.2.1 else []

/-! ## The proof data -/

/-- The invariant before position `n`. -/
def inv (n : ℕ) : sProp 𝕄 :=
  iprop(∃ w wc b, ⌜Ready m c n w wc b⌝ ∗ owns (c : Thread nD τ) scr0 fullShare w ∗ (∃ d, owns (c : Thread nD τ) scr1 fullShare d) ∗ (∃ d, owns (c : Thread nD τ) scr2 fullShare d)
    ∗ owns (c : Thread nD τ) scr3 fullShare wc ∗ owns (c : Thread nD τ) scr4 fullShare b ∗ (∃ r, prngReg c r))

/-- The proof data: inputs stay at their blocks, outputs hold what their stores leave. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => View.canon (list9 m c t)
    | ⟨10, _⟩ => View.canon (list10 m c t)
    | ⟨11, _⟩ => View.canon (list11 m c t)
    | ⟨12, _⟩ => View.canon (list12 m c t)
  Φ t := inv m c t.val
  q _ := fullShare
  owed _ := 0

/-- The arrays at entry. -/
theorem A_eq (w : Fin cfg0.W) : (dats m 0 c).A w = V m c (Pipeline.arrRef spec0 w) := by dsimp only [dats]

/-- What window 0 holds after a point. -/
theorem after0 (t : Fin cfg0.N) : (dats m 0 c).after 0 t = iblk m c 0 t := by dsimp only [dats]
/-- What window 1 holds after a point. -/
theorem after1 (t : Fin cfg0.N) : (dats m 0 c).after 1 t = iblk m c 1 t := by dsimp only [dats]
/-- What window 2 holds after a point. -/
theorem after2 (t : Fin cfg0.N) : (dats m 0 c).after 2 t = iblk m c 2 t := by dsimp only [dats]
/-- What window 3 holds after a point. -/
theorem after3 (t : Fin cfg0.N) : (dats m 0 c).after 3 t = iblk m c 3 t := by dsimp only [dats]
/-- What window 4 holds after a point. -/
theorem after4 (t : Fin cfg0.N) : (dats m 0 c).after 4 t = iblk m c 4 t := by dsimp only [dats]
/-- What window 5 holds after a point. -/
theorem after5 (t : Fin cfg0.N) : (dats m 0 c).after 5 t = iblk m c 5 t := by dsimp only [dats]
/-- What window 6 holds after a point. -/
theorem after6 (t : Fin cfg0.N) : (dats m 0 c).after 6 t = iblk m c 6 t := by dsimp only [dats]
/-- What window 7 holds after a point. -/
theorem after7 (t : Fin cfg0.N) : (dats m 0 c).after 7 t = iblk m c 7 t := by dsimp only [dats]
/-- What window 8 holds after a point. -/
theorem after8 (t : Fin cfg0.N) : (dats m 0 c).after 8 t = iblk m c 8 t := by dsimp only [dats]
/-- What window 9 holds after a point. -/
theorem after9 (t : Fin cfg0.N) : (dats m 0 c).after 9 t = View.canon (list9 m c t) := by dsimp only [dats]
/-- What window 10 holds after a point. -/
theorem after10 (t : Fin cfg0.N) : (dats m 0 c).after 10 t = View.canon (list10 m c t) := by dsimp only [dats]
/-- What window 11 holds after a point. -/
theorem after11 (t : Fin cfg0.N) : (dats m 0 c).after 11 t = View.canon (list11 m c t) := by dsimp only [dats]
/-- What window 12 holds after a point. -/
theorem after12 (t : Fin cfg0.N) : (dats m 0 c).after 12 t = View.canon (list12 m c t) := by dsimp only [dats]
/-- What window 0 holds before a point. -/
theorem before0 (t : Fin cfg0.N) (d) : (dats m 0 c).before 0 t d = iblk m c 0 t := before0_0_of m (dats m 0 c) (A_eq m c 0) (after0 m c) t d
/-- What window 1 holds before a point. -/
theorem before1 (t : Fin cfg0.N) (d) : (dats m 0 c).before 1 t d = iblk m c 1 t := before0_1_of m (dats m 0 c) (A_eq m c 1) (after1 m c) t d
/-- What window 2 holds before a point. -/
theorem before2 (t : Fin cfg0.N) (d) : (dats m 0 c).before 2 t d = iblk m c 2 t := before0_2_of m (dats m 0 c) (A_eq m c 2) (after2 m c) t d
/-- What window 3 holds before a point. -/
theorem before3 (t : Fin cfg0.N) (d) : (dats m 0 c).before 3 t d = iblk m c 3 t := before0_3_of m (dats m 0 c) (A_eq m c 3) (after3 m c) t d
/-- What window 4 holds before a point. -/
theorem before4 (t : Fin cfg0.N) (d) : (dats m 0 c).before 4 t d = iblk m c 4 t := before0_4_of m (dats m 0 c) (A_eq m c 4) (after4 m c) t d
/-- What window 5 holds before a point. -/
theorem before5 (t : Fin cfg0.N) (d) : (dats m 0 c).before 5 t d = iblk m c 5 t := before0_5_of m (dats m 0 c) (A_eq m c 5) (after5 m c) t d
/-- What window 6 holds before a point. -/
theorem before6 (t : Fin cfg0.N) (d) : (dats m 0 c).before 6 t d = iblk m c 6 t := before0_6_of m (dats m 0 c) (A_eq m c 6) (after6 m c) t d
/-- What window 7 holds before a point. -/
theorem before7 (t : Fin cfg0.N) (d) : (dats m 0 c).before 7 t d = iblk m c 7 t := before0_7_of m (dats m 0 c) (A_eq m c 7) (after7 m c) t d
/-- What window 8 holds before a point. -/
theorem before8 (t : Fin cfg0.N) (d) : (dats m 0 c).before 8 t d = iblk m c 8 t := before0_8_of m (dats m 0 c) (A_eq m c 8) (after8 m c) t d

/-- No output is written back at a point that loads. -/
theorem unflushed (t : Fin cfg0.N) (h : t.val < 16) (w : Fin 13) (hw : 9 ≤ w.val) : (cfg0.win w).flush t = false :=
  (by decide +kernel : ∀ t : Fin grid0.N, t.val < 16 → ∀ w : Fin 13, 9 ≤ w.val → (cfg0.win w).flush t = false) t h w hw
/-- A point that loads leaves the results alone. -/
theorem resting (t : Fin cfg0.N) (h : t.val < 16) (w : Fin 13) (hw : 9 ≤ w.val) : cfg0.idle w (cfg0.grid.coords t) = true :=
  (by decide +kernel : ∀ t : Fin grid0.N, t.val < 16 → ∀ w : Fin 13, 9 ≤ w.val → cfg0.idle w (grid0.coords t) = true) t h w hw
/-- A point that computes uses every window. -/
theorem working (t : Fin cfg0.N) (h : 16 ≤ t.val) (w : Fin 13) : cfg0.idle w (cfg0.grid.coords t) = false :=
  (by decide +kernel : ∀ t : Fin grid0.N, 16 ≤ t.val → ∀ w : Fin 13, cfg0.idle w (grid0.coords t) = false) t h w

/-- What a point is handed, -/
def pre (t : Fin cfg0.N) : sProp 𝕄 :=
  iprop((dats m 0 c).Φ t.castSucc ∗ (dats m 0 c).owesAt () t.castSucc
    ∗ (∃ d, owns (c : Thread nD τ) (win0 t) fullShare ((dats m 0 c).before 0 t d))
    ∗ (∃ d, owns (c : Thread nD τ) (win1 t) fullShare ((dats m 0 c).before 1 t d))
    ∗ (∃ d, owns (c : Thread nD τ) (win2 t) fullShare ((dats m 0 c).before 2 t d))
    ∗ (∃ d, owns (c : Thread nD τ) (win3 t) fullShare ((dats m 0 c).before 3 t d))
    ∗ (∃ d, owns (c : Thread nD τ) (win4 t) fullShare ((dats m 0 c).before 4 t d))
    ∗ (∃ d, owns (c : Thread nD τ) (win5 t) fullShare ((dats m 0 c).before 5 t d))
    ∗ (∃ d, owns (c : Thread nD τ) (win6 t) fullShare ((dats m 0 c).before 6 t d))
    ∗ (∃ d, owns (c : Thread nD τ) (win7 t) fullShare ((dats m 0 c).before 7 t d))
    ∗ (∃ d, owns (c : Thread nD τ) (win8 t) fullShare ((dats m 0 c).before 8 t d))
    ∗ (∃ d, owns (c : Thread nD τ) (win9 t) fullShare ((dats m 0 c).before 9 t d))
    ∗ (∃ d, owns (c : Thread nD τ) (win10 t) fullShare ((dats m 0 c).before 10 t d))
    ∗ (∃ d, owns (c : Thread nD τ) (win11 t) fullShare ((dats m 0 c).before 11 t d))
    ∗ (∃ d, owns (c : Thread nD τ) (win12 t) fullShare ((dats m 0 c).before 12 t d)))

/-- and what it gives back. -/
def post (t : Fin cfg0.N) : sProp 𝕄 :=
  iprop((dats m 0 c).Φ t.succ ∗ (dats m 0 c).owesAt () t.succ
    ∗ owns (c : Thread nD τ) (win0 t) fullShare ((dats m 0 c).after 0 t)
    ∗ owns (c : Thread nD τ) (win1 t) fullShare ((dats m 0 c).after 1 t)
    ∗ owns (c : Thread nD τ) (win2 t) fullShare ((dats m 0 c).after 2 t)
    ∗ owns (c : Thread nD τ) (win3 t) fullShare ((dats m 0 c).after 3 t)
    ∗ owns (c : Thread nD τ) (win4 t) fullShare ((dats m 0 c).after 4 t)
    ∗ owns (c : Thread nD τ) (win5 t) fullShare ((dats m 0 c).after 5 t)
    ∗ owns (c : Thread nD τ) (win6 t) fullShare ((dats m 0 c).after 6 t)
    ∗ owns (c : Thread nD τ) (win7 t) fullShare ((dats m 0 c).after 7 t)
    ∗ owns (c : Thread nD τ) (win8 t) fullShare ((dats m 0 c).after 8 t)
    ∗ (dats m 0 c).leavesExact 9 t
    ∗ (dats m 0 c).leavesExact 10 t
    ∗ (dats m 0 c).leavesExact 11 t
    ∗ (dats m 0 c).leavesExact 12 t)

/-- A point that loads leaves a result's buffer as it was. -/
theorem leaves_resting (t : Fin cfg0.N) (h : t.val < 16) (w : Fin 13) (hw : 9 ≤ w.val) : (dats m 0 c).leavesExact w t
    = iprop(∃ d, owns c ((cfg0.win w).stage (cfg0.slots t w)) fullShare ((dats m 0 c).before w t d)) :=
  (dats m 0 c).leavesExact_idle w t (resting t h w hw) (unflushed t h w hw)

/-- What a point that computes leaves of a buffer. -/
theorem leaves_working (t : Fin cfg0.N) (h : 16 ≤ t.val) (w : Fin 13) : (dats m 0 c).leavesExact w t
    = owns c ((cfg0.win w).stage (cfg0.slots t w)) fullShare ((dats m 0 c).after w t) := by
  unfold Dat.leavesExact; rw [working t h w]

end Cert.Kernel5Ideal.Sgu
-- ==== Proof.SguSoundL.lean ====
module

public import proofs.«01_k».proof.Proof.SguFrame
public import Idealize.ShloMosaic.Lib.Claim
public import Idealize.ShloMosaic.Lib.Writes

@[expose] public section

set_option maxRecDepth 65536

noncomputable section

namespace Cert.Kernel5Ideal.Sgu

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

set_option maxHeartbeats 1600000 in
/-- A point that loads and does not prepare. -/
theorem sound_load (t : Fin cfg0.N) (h0 : t.val ≠ 0) (h : t.val < 16) :
    pre m c t ⊢ wp frame (wpE (defs₀ (F := F)) Variants.none c none) Set.univ (bodyAt0 t) (fun _ => post m c t) := by
  unfold pre post bodyAt0
  simp only [before0, before1, before2, before3, before4, before5, before6, before7, before8]
  rw [show (dats m 0 c).owesAt () t.succ = (dats m 0 c).owesAt () t.castSucc from rfl, after0, after1, after2, after3, after4, after5, after6, after7, after8,
    leaves_resting m c t h 9 (by decide), leaves_resting m c t h 10 (by decide), leaves_resting m c t h 11 (by decide), leaves_resting m c t h 12 (by decide),
    show (dats m 0 c).Φ t.succ = inv m c (t.val + 1) from rfl, show (dats m 0 c).Φ t.castSucc = inv m c t.val from rfl]
  unfold inv
  iintro ⟨⟨%w, %wc, %b, %hR, S0, S1, S2, S3, S4, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  have run := (loadRun c (grid0.coords t) (win0 t) (whole0 t) (win1 t) (whole1 t) (win2 t) (whole2 t) (win3 t) (whole3 t) (win4 t) (whole4 t) (win5 t) (whole5 t) (win6 t) (whole6 t) (win7 t) (whole7 t) (win8 t) (whole8 t) (win9 t) (whole9 t) (win10 t) (whole10 t) (win11 t) (whole11 t) (win12 t) (whole12 t) scr0 (Memref.isWhole_whole _) scr1 (Memref.isWhole_whole _) scr2 (Memref.isWhole_whole _) scr3 (Memref.isWhole_whole _) scr4 (Memref.isWhole_whole _) ((loads_iff t).2 h) (fun hp => h0 ((prepares_iff t).1 hp)) (fun hc => absurd ((computes_iff t).1 hc) (by omega)) (iblk m c 1 t) w).2 Set.univ
  rw [load_list] at run
  iapply (run _)
  isplitl [H1]; · iexact H1
  isplitl [S0]; · iexact S0
  iintro ⟨H1, S0⟩
  isplitl [S0 S1 S2 S3 S4 Hg]
  · iexists (scr0.view.read (Elt F) (scr0.view.writes (Elt F) ((Memref.isWhole_whole _).unread w)
      [⟨Rect.unit (s := S2048x6144) (k0_off1 (grid0.coords t)) S128x6144.size (k0_off1_inb _ ((loads_iff t).2 h)), slab m c t⟩])), wc, b
    isplitr
    swap
    · isplitl [S0]
      · unfold owns; iexists _; isplitr
        swap; · iexact S0
        ipureintro; rfl
      isplitl [S1]; · iexact S1
      isplitl [S2]; · iexact S2
      isplitl [S3]; · iexact S3
      isplitl [S4]; · iexact S4
      iexact Hg
    ipureintro
    exact hR.step m c h (hR.causal (by omega)) (hR.bias (by omega)) _ _
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iexists _; iexact H12

end Cert.Kernel5Ideal.Sgu
-- ==== Proof.SguSoundF.lean ====
module

public import proofs.«01_k».proof.Proof.SguFrame
public import Idealize.ShloMosaic.Lib.Claim
public import Idealize.ShloMosaic.Lib.Writes

@[expose] public section

set_option maxRecDepth 65536

noncomputable section

namespace Cert.Kernel5Ideal.Sgu

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

set_option maxHeartbeats 1600000 in
/-- The first point: it loads its slab and prepares the causal weights and the bias. -/
theorem sound_first (t : Fin cfg0.N) (h0 : t.val = 0) :
    pre m c t ⊢ wp frame (wpE (defs₀ (F := F)) Variants.none c none) Set.univ (bodyAt0 t) (fun _ => post m c t) := by
  have h : t.val < 16 := by omega
  have hs : t = start := Fin.ext h0
  have kc : k0_pay2 (iblk m c 4 t) = causal m c := by rw [hs]; rfl
  have kb : k0_pay3 (iblk m c 5 t) = bias m c := by rw [hs]; rfl
  have ks : k0_pay1 (iblk m c 1 t) = slab m c t := rfl
  unfold pre post bodyAt0
  simp only [before0, before1, before2, before3, before4, before5, before6, before7, before8]
  rw [show (dats m 0 c).owesAt () t.succ = (dats m 0 c).owesAt () t.castSucc from rfl, after0, after1, after2, after3, after4, after5, after6, after7, after8,
    leaves_resting m c t h 9 (by decide), leaves_resting m c t h 10 (by decide), leaves_resting m c t h 11 (by decide), leaves_resting m c t h 12 (by decide),
    show (dats m 0 c).Φ t.succ = inv m c (t.val + 1) from rfl, show (dats m 0 c).Φ t.castSucc = inv m c t.val from rfl]
  unfold inv
  iintro ⟨⟨%w, %wc, %b, %hR, S0, S1, S2, S3, S4, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  have run := (firstRun c (grid0.coords t) (win0 t) (whole0 t) (win1 t) (whole1 t) (win2 t) (whole2 t) (win3 t) (whole3 t) (win4 t) (whole4 t) (win5 t) (whole5 t) (win6 t) (whole6 t) (win7 t) (whole7 t) (win8 t) (whole8 t) (win9 t) (whole9 t) (win10 t) (whole10 t) (win11 t) (whole11 t) (win12 t) (whole12 t) scr0 (Memref.isWhole_whole _) scr1 (Memref.isWhole_whole _) scr2 (Memref.isWhole_whole _) scr3 (Memref.isWhole_whole _) scr4 (Memref.isWhole_whole _) ((loads_iff t).2 h) ((prepares_iff t).2 h0) (fun hc => absurd ((computes_iff t).1 hc) (by omega)) (iblk m c 1 t) (iblk m c 4 t) (iblk m c 5 t) w).2.2.2 Set.univ
  simp only [first_slab, first_weights, first_biases, kc, kb, ks] at run
  iapply (run _)
  isplitl [H1]; · iexact H1
  isplitl [H4]; · iexact H4
  isplitl [H5]; · iexact H5
  isplitl [S0]; · iexact S0
  isplitl [S3]; · iexists _; iexact S3
  isplitl [S4]; · iexists _; iexact S4
  iintro ⟨H1, H4, H5, S0, ⟨%e3, S3⟩, ⟨%e4, S4⟩⟩
  isplitl [S0 S1 S2 S3 S4 Hg]
  · iexists (scr0.view.read (Elt F) (scr0.view.writes (Elt F) ((Memref.isWhole_whole _).unread w)
      [⟨Rect.unit (s := S2048x6144) (k0_off1 (grid0.coords t)) S128x6144.size (k0_off1_inb _ ((loads_iff t).2 h)), slab m c t⟩])), causal m c, bias m c
    isplitr
    swap
    · isplitl [S0]
      · unfold owns; iexists _; isplitr
        swap; · iexact S0
        ipureintro; rfl
      isplitl [S1]; · iexact S1
      isplitl [S2]; · iexact S2
      isplitl [S3]
      · unfold owns; iexists _; isplitr
        swap; · iexact S3
        ipureintro
        exact View.read_writes_full (s := S16x128x128) _ _ _ (causal m c) []
      isplitl [S4]
      · unfold owns; iexists _; isplitr
        swap; · iexact S4
        ipureintro
        exact View.read_writes_full (s := S128x16) _ _ _ (bias m c) []
      iexact Hg
    ipureintro
    exact hR.step m c h rfl rfl _ _
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iexists _; iexact H12

end Cert.Kernel5Ideal.Sgu
-- ==== Proof.SguCover.lean ====
module

public import proofs.«01_k».proof.Proof.SguFrame
public import Idealize.ShloMosaic.Lib.Claim
public import Idealize.ShloMosaic.Lib.Writes

@[expose] public section

set_option maxRecDepth 65536

noncomputable section

namespace Cert.Kernel5Ideal.Sgu

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-- The stores of a computing point cover the block of window 9. -/
theorem cover9 (t : Fin cfg0.N) (h : 16 ≤ t.val) (y : S512x2048.Idx) : ∃ q ∈ (tile m c t h).1, y ∈ q.1.set :=
  View.cover_of_tiledL (tile m c t h).1 S128x128.size (by sl_kernel_rfl) y
/-- The stores of a computing point cover the block of window 10. -/
theorem cover10 (t : Fin cfg0.N) (h : 16 ≤ t.val) (y : S128x2048.Idx) : ∃ q ∈ (tile m c t h).2.1, y ∈ q.1.set :=
  View.cover_of_tiledL (tile m c t h).2.1 S128x2048.size (by sl_kernel_rfl) y
/-- The stores of a computing point cover the block of window 11. -/
theorem cover11 (t : Fin cfg0.N) (h : 16 ≤ t.val) (y : S128x2048.Idx) : ∃ q ∈ (tile m c t h).2.2.1, y ∈ q.1.set :=
  View.cover_of_tiledL (tile m c t h).2.2.1 S128x2048.size (by sl_kernel_rfl) y
/-- The stores of a computing point cover the block of window 12. -/
theorem cover12 (t : Fin cfg0.N) (h : 16 ≤ t.val) (y : S32x2048.Idx) : ∃ q ∈ (tile m c t h).2.2.2.1, y ∈ q.1.set :=
  View.cover_of_tiledL (tile m c t h).2.2.2.1 S32x2048.size (by sl_kernel_rfl) y

end Cert.Kernel5Ideal.Sgu
-- ==== Proof.SguSoundT.lean ====
module

public import proofs.«01_k».proof.Proof.SguCover
public import Idealize.ShloMosaic.Lib.Claim
public import Idealize.ShloMosaic.Lib.Writes

@[expose] public section

set_option maxRecDepth 65536

noncomputable section

namespace Cert.Kernel5Ideal.Sgu

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

set_option maxHeartbeats 1600000 in
/-- A point that computes. -/
theorem sound_tile (t : Fin cfg0.N) (h : 16 ≤ t.val) :
    pre m c t ⊢ wp frame (wpE (defs₀ (F := F)) Variants.none c none) Set.univ (bodyAt0 t) (fun _ => post m c t) := by
  unfold pre post bodyAt0
  simp only [before0, before1, before2, before3, before4, before5, before6, before7, before8]
  rw [show (dats m 0 c).owesAt () t.succ = (dats m 0 c).owesAt () t.castSucc from rfl, after0, after1, after2, after3, after4, after5, after6, after7, after8,
    leaves_working m c t h 9, leaves_working m c t h 10, leaves_working m c t h 11, leaves_working m c t h 12, after9, after10, after11, after12,
    show (dats m 0 c).Φ t.succ = inv m c (t.val + 1) from rfl, show (dats m 0 c).Φ t.castSucc = inv m c t.val from rfl]
  unfold inv list9 list10 list11 list12
  rw [dif_pos h, dif_pos h, dif_pos h, dif_pos h]
  iintro ⟨⟨%w, %wc, %b, %hR, S0, S1, S2, S3, S4, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  obtain rfl := hR.proj m c h
  obtain rfl := hR.causal (by omega)
  obtain rfl := hR.bias (by omega)
  iapply ((tile m c t h).2.2.2.2 Set.univ _)
  isplitl [H0]; · iexact H0
  isplitl [H2]; · iexact H2
  isplitl [H3]; · iexact H3
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [S0]; · iexact S0
  isplitl [S3]; · iexact S3
  isplitl [S4]; · iexact S4
  isplitl [S1]; · iexact S1
  isplitl [S2]; · iexact S2
  iintro ⟨H0, H2, H3, H6, H7, H8, ⟨%e9, H9⟩, ⟨%e10, H10⟩, ⟨%e11, H11⟩, ⟨%e12, H12⟩, S0, S3, S4, S1, S2⟩
  isplitl [S0 S1 S2 S3 S4 Hg]
  · iexists proj m c, causal m c, bias m c
    isplitr
    · ipureintro; exact ⟨fun _ _ => rfl, fun _ => rfl, fun _ => rfl⟩
    isplitl [S0]; · iexact S0
    isplitl [S1]; · iexact S1
    isplitl [S2]; · iexact S2
    isplitl [S3]; · iexact S3
    isplitl [S4]; · iexact S4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_eq_canon _ _ _ (cover9 m c t h)
  isplitl [H10]
  · unfold owns; iexists _; isplitr
    swap; · iexact H10
    ipureintro; exact View.read_writes_eq_canon _ _ _ (cover10 m c t h)
  isplitl [H11]
  · unfold owns; iexists _; isplitr
    swap; · iexact H11
    ipureintro; exact View.read_writes_eq_canon _ _ _ (cover11 m c t h)
  unfold owns; iexists _; isplitr
  swap; · iexact H12
  ipureintro; exact View.read_writes_eq_canon _ _ _ (cover12 m c t h)

end Cert.Kernel5Ideal.Sgu
-- ==== Proof.SguLaunch.lean ====
module

public import proofs.«01_k».proof.Proof.SguSoundL
public import proofs.«01_k».proof.Proof.SguSoundF
public import proofs.«01_k».proof.Proof.SguSoundT
public import Idealize.ShloMosaic.Lib.Claim
public import Idealize.ShloMosaic.Lib.Writes

@[expose] public section

set_option maxRecDepth 65536

noncomputable section

namespace Cert.Kernel5Ideal.Sgu

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-- The body obligation. -/
theorem body_obligation : BodyObligation (dats (F := F) m 0 c) (defs₀ (F := F)) Variants.none () Set.univ := fun t => by
  have h : pre m c t ⊢ wp frame (wpE (defs₀ (F := F)) Variants.none c none) Set.univ (bodyAt0 t) (fun _ => post m c t) := by
    by_cases h0 : t.val = 0
    · exact sound_first m c t h0
    by_cases h1 : t.val < 16
    · exact sound_load m c t h0 h1
    · exact sound_tile m c t (by omega)
  rw [bigSep_W0, bigSep_W0, show defs₀ (F := F) .tc cfg0.body (cfg0.bodyArgs t (cfg0.slots t)) = bodyAt0 t by unfold defs₀; rw [Defs.onTc_tc]]
  exact triple_restated h rfl .rfl fun _ => .rfl

/-- What the call holds beside its windows: five scratch buffers and the random register. -/
theorem region_rest : (Pipeline.ΦA spec0 c : sProp 𝕄)
    = iprop(iprop((∃ d, owns (c : Thread nD τ) scr0 fullShare d) ∗ (∃ d, owns (c : Thread nD τ) scr1 fullShare d) ∗ (∃ d, owns (c : Thread nD τ) scr2 fullShare d)
      ∗ (∃ d, owns (c : Thread nD τ) scr3 fullShare d) ∗ (∃ d, owns (c : Thread nD τ) scr4 fullShare d)) ∗ (∃ r, prngReg c r)) := by
  unfold Pipeline.ΦA; rw [scopedRest0_eq]; simp only [owns_whole]; try rfl

/-- Before the first point nothing need be known. -/
theorem hin : Pipeline.ΦA spec0 c ⊢ (dats m 0 c).Φ 0 := by
  rw [region_rest, show (dats m 0 c).Φ 0 = inv m c 0 from rfl]
  unfold inv
  iintro ⟨⟨⟨%w, S0⟩, S1, S2, ⟨%wc, S3⟩, ⟨%b, S4⟩⟩, Hg⟩
  iexists w, wc, b
  isplitr
  · ipureintro; exact ⟨fun y hy => absurd hy (by omega), fun h => absurd h (by omega), fun h => absurd h (by omega)⟩
  isplitl [S0]; · iexact S0
  isplitl [S1]; · iexact S1
  isplitl [S2]; · iexact S2
  isplitl [S3]; · iexact S3
  isplitl [S4]; · iexact S4
  iexact Hg

/-- After the last point what is known is forgotten. -/
theorem hout : (dats m 0 c).Φ (Fin.last cfg0.N) ⊢ Pipeline.ΦA spec0 c := by
  rw [region_rest, show (dats m 0 c).Φ (Fin.last cfg0.N) = inv m c cfg0.N from rfl]
  unfold inv
  iintro ⟨%w, %wc, %b, %hR, S0, S1, S2, S3, S4, Hg⟩
  isplitl [S0 S1 S2 S3 S4]
  · isplitl [S0]; · iexists _; iexact S0
    isplitl [S1]; · iexact S1
    isplitl [S2]; · iexact S2
    isplitl [S3]; · iexists _; iexact S3
    iexists _; iexact S4
  iexact Hg

set_option backward.isDefEq.respectTransparency.types false in
/-- The launch: every array ends at what the proof data say, and every semaphore at zero. -/
theorem launched : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arguments end as they began, and every semaphore at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) ((θ_run defs _ _).mono (fun _ h => h.1) (launched m ρ)))
    ((θ_run defs _ _).mono (fun _ h => h.2) (launched m ρ))

end Cert.Kernel5Ideal.Sgu
-- ==== Proof.SguBody.lean ====
/- The spatial gating unit for a block of 512 rows, as the body computes it: its pieces of 256 columns, the row statistics,
   and the 64 tiles it stores. -/
module

public import proofs.«01_k».proof.Proof.SguTile
public import proofs.«01_k».proof.Proof.TailSpec
public import Idealize.ShloMosaic.Lib.Pointwise
public import Idealize.ShloMosaic.Lib.Pipeline.ValueKit
public import Idealize.ShloMosaic.Lib.Claim

@[expose] public section

set_option maxRecDepth 65536

noncomputable section

namespace Cert.Kernel5Ideal.Sgu

open Cert.Kernel5Ideal Cert.Kernel5Ideal.Gen Idealize.ShloMosaic Idealize.SL.Sem

variable {F : FTy → Type} [FloatOps F]

/-- What a computing point loads: its rows, column pieces of the projection, of the norm's parameters and of the gated half
    read back, a group's causal weights and bias. -/
structure Operands (F : FTy → Type) [FloatOps F] where
  xb : Vec F S512x2048 .bf16
  w : ℕ → Vec F S2048x256 .bf16
  back : List (View.Piece (Elt F) S512x2048 .f32) → ℕ → Vec F S512x256 .f32
  g : ℕ → Vec F S1x256 .f32
  b : ℕ → Vec F S1x256 .f32
  wc : ℕ → Vec F S1x128x128 .bf16
  bs : ℕ → Vec F S128x1 .f32

variable (L : Operands F)

/-- Piece `k` of 256 columns of the projection. -/
def wbox (k : ℕ) : Rect S2048x6144 :=
  Rect.unit ![0, 256 * (k % 24)] S2048x256.size (by
    intro a
    fin_cases a
    · show 0 + 2048 ≤ 2048; omega
    · show 256 * (k % 24) + 256 ≤ 6144; omega)

/-- Piece `c` of 256 columns of a block of rows. -/
def cbox (c : ℕ) : Rect S512x2048 :=
  Rect.unit ![0, 256 * (c % 8)] S512x256.size (by
    intro a
    fin_cases a
    · show 0 + 512 ≤ 512; omega
    · show 256 * (c % 8) + 256 ≤ 2048; omega)

/-- Piece `c` of 256 columns of a row. -/
def gbox (c : ℕ) : Rect S1x2048 :=
  Rect.unit ![0, 256 * (c % 8)] S1x256.size (by
    intro a
    fin_cases a
    · show 0 + 1 ≤ 1; omega
    · show 256 * (c % 8) + 256 ≤ 2048; omega)

/-- Group `k` of the causal weights. -/
def mbox (k : ℕ) : Rect S16x128x128 :=
  Rect.unit ![k % 16, 0, 0] S1x128x128.size (by
    intro a
    fin_cases a
    · show k % 16 + 1 ≤ 16; omega
    · show 0 + 128 ≤ 128; omega
    · show 0 + 128 ≤ 128; omega)

/-- Group `k` of the bias. -/
def bbox (k : ℕ) : Rect S128x16 :=
  Rect.unit ![0, k % 16] S128x1.size (by
    intro a
    fin_cases a
    · show 0 + 128 ≤ 128; omega
    · show k % 16 + 1 ≤ 16; omega)

/-- Tile `n` of the 64: chunk `n / 2 % 4` of the rows, group `2 (n / 8) + n % 2` of the columns. -/
def ybox (n : ℕ) : Rect S512x2048 :=
  Rect.unit ![128 * (n / 2 % 4), 256 * (n / 8 % 8) + 128 * (n % 2)] S128x128.size (by
    intro a
    fin_cases a
    · show 128 * (n / 2 % 4) + 128 ≤ 512; omega
    · show 256 * (n / 8 % 8) + 128 * (n % 2) + 128 ≤ 2048; omega)

/-- A piece of the rows' projection. -/
def lin (k : ℕ) : FVec F S512x256 .f32 :=
  matmul dot_S512x2048_S2048x256_S512x256_1_0_0_1_n_n none L.xb (L.w k) (constant S512x256 .f32 0x00000000#32)

/-- The unit's activation. -/
def act (v : FVec F S512x256 .f32) : FVec F S512x256 .f32 :=
  mulf v (mulf (broadcast S512x256 (Scalar.ofBits .f32 0x3F000000#32 : F .f32))
    (addf (broadcast S512x256 (Scalar.ofBits .f32 0x3F800000#32 : F .f32))
      (tanh (mulf (broadcast S512x256 (Scalar.ofBits .f32 0x3F4C422A#32 : F .f32))
        (addf v (mulf (broadcast S512x256 (Scalar.ofBits .f32 0x3D372713#32 : F .f32)) (mulf v (mulf v v))))))))

/-- A piece of the gated half before its norm. -/
def half (c : ℕ) : FVec F S512x256 .f32 := act (lin L (8 + c))

/-- The mean of the first 256 columns. -/
def pilot : FVec F S512x1 .f32 :=
  divf (shapeCast S512x1 (multiReduction .add [1] S512 (half L 0) 0x00000000#32 reduces_S512x256_S512 (.inl rfl) rfl) shapeCasts_S512_S512x1)
    (broadcast S512x1 (Scalar.ofBits .f32 0x43800000#32 : F .f32))

/-- A piece less the pilot mean. -/
def dev (c : ℕ) : FVec F S512x256 .f32 := subf (half L c) (broadcastTo S512x256 (pilot L) broadcasts_S512x1_S512x256)

/-- A piece's two halves added. -/
def lane (v : FVec F S512x256 .f32) : FVec F S512x128 .f32 :=
  addf (extractStridedSlice S512x128 ![0, 0] v slices_S512x256_o0_0_S512x128)
    (extractStridedSlice S512x128 ![0, 128] v slices_S512x256_o0_128_S512x128)

/-- Eight pieces added, one after another. -/
def acc (v : ℕ → FVec F S512x128 .f32) : FVec F S512x128 .f32 :=
  addf (addf (addf (addf (addf (addf (addf (v 0) (v 1)) (v 2)) (v 3)) (v 4)) (v 5)) (v 6)) (v 7)

/-- The lanes added and divided by 2048. -/
def avg (v : FVec F S512x128 .f32) : FVec F S512x1 .f32 :=
  mulf (shapeCast S512x1 (multiReduction .add [1] S512 v 0x00000000#32 reduces_S512x128_S512 (.inl rfl) rfl) shapeCasts_S512_S512x1)
    (broadcast S512x1 (Scalar.ofBits .f32 0x3A000000#32 : F .f32))

/-- The mean less the pilot. -/
def dmean : FVec F S512x1 .f32 := avg (acc fun c => lane (dev L c))

/-- The mean. -/
def mu : FVec F S512x1 .f32 := addf (pilot L) (dmean L)

/-- One over the standard deviation. -/
def rstd : FVec F S512x1 .f32 :=
  rsqrt (addf (subf (avg (acc fun c => lane (mulf (dev L c) (dev L c)))) (mulf (dmean L) (dmean L)))
    (broadcast S512x1 (Scalar.ofBits .f32 0x3727C5AC#32 : F .f32)))

/-- The stores of the gated half, the last first. -/
abbrev halves : List (View.Piece (Elt F) S512x2048 .f32) :=
  [7, 6, 5, 4, 3, 2, 1, 0].map fun c => ⟨cbox c, shapeCast S512x256 (half L c) shapeCasts_S512x256_S512x256⟩

/-- A piece of the gate. -/
def gate (c : ℕ) : FVec F S512x256 .f32 := mulf (act (lin L c)) (mulf (lin L (16 + c)) (logistic (lin L (16 + c))))

/-- A piece of the normed half. -/
def normed (c : ℕ) : FVec F S512x256 .bf16 :=
  truncf .bf16 (addf (mulf (mulf (subf (L.back (halves L) c) (broadcastTo S512x256 (mu L) broadcasts_S512x1_S512x256))
    (broadcastTo S512x256 (rstd L) broadcasts_S512x1_S512x256)) (broadcastTo S512x256 (L.g c) broadcasts_S1x256_S512x256))
      (broadcastTo S512x256 (L.b c) broadcasts_S1x256_S512x256)) bitsLt_bf16_f32

/-- A square of 128 rows and columns lies within a piece. -/
theorem cut (k l : ℕ) : S512x256.Slices ![128 * (k % 4), 128 * (l % 2)] S128x128 := by
  refine ⟨by decide, fun a => ?_⟩
  fin_cases a
  · show 128 * (k % 4) + 128 ≤ 512; omega
  · show 128 * (l % 2) + 128 ≤ 256; omega

/-- What tile `n` stores. -/
def out (n : ℕ) : FVec F S128x128 .bf16 :=
  truncf .bf16 (mulf (extractStridedSlice S128x128 ![128 * (n / 2 % 4), 128 * (n % 2)] (gate L (n / 8)) (cut (n / 2) n))
    (addf (matmul dot_S128x128_S128x128_S128x128_1_0_0_1_n_n none
        (shapeCast S128x128 (L.wc (2 * (n / 8) + n % 2)) shapeCasts_S1x128x128_S128x128)
        (extractStridedSlice S128x128 ![128 * (n / 2 % 4), 128 * (n % 2)] (normed L (n / 8)) (cut (n / 2) n))
        (constant S128x128 .f32 0x00000000#32))
      (broadcastTo S128x128 (L.bs (2 * (n / 8) + n % 2)) broadcasts_S128x1_S128x128))) bitsLt_bf16_f32

/-- All the stores of the result, the last first. -/
abbrev outs : List (View.Piece (Elt F) S512x2048 .bf16) := (List.range 64).reverse.map fun n => ⟨ybox n, out L n⟩

section Runs

variable (c : Dev nD) (i : grid0.Coords)
  (a1 : Memref sig .tc .vmem S512x2048 .f32) (h1 : a1.IsWhole)
  (a2 : Memref sig .tc .vmem S1x128x6144 .f32) (h2 : a2.IsWhole)
  (a3 : Memref sig .tc .vmem S1x2048 .f32) (h3 : a3.IsWhole)
  (a4 : Memref sig .tc .vmem S1x2048 .f32) (h4 : a4.IsWhole)
  (a5 : Memref sig .tc .vmem S1x16x128x128 .f32) (h5 : a5.IsWhole)
  (a6 : Memref sig .tc .vmem S1x16x128 .f32) (h6 : a6.IsWhole)
  (a7 : Memref sig .tc .vmem S1x128x2048 .f32) (h7 : a7.IsWhole)
  (a8 : Memref sig .tc .vmem S1x128x2048 .f32) (h8 : a8.IsWhole)
  (a9 : Memref sig .tc .vmem S32x2048 .f32) (h9 : a9.IsWhole)
  (a10 : Memref sig .tc .vmem S512x2048 .bf16) (h10 : a10.IsWhole)
  (a11 : Memref sig .tc .vmem S128x2048 .bf16) (h11 : a11.IsWhole)
  (a12 : Memref sig .tc .vmem S128x2048 .bf16) (h12 : a12.IsWhole)
  (a13 : Memref sig .tc .vmem S32x2048 .bf16) (h13 : a13.IsWhole)
  (a14 : Memref sig .tc .vmem S2048x6144 .bf16) (h14 : a14.IsWhole)
  (a15 : Memref sig .tc .vmem S512x2048 .bf16) (h15 : a15.IsWhole)
  (a16 : Memref sig .tc .vmem S512x2048 .f32) (h16 : a16.IsWhole)
  (a17 : Memref sig .tc .vmem S16x128x128 .bf16) (h17 : a17.IsWhole)
  (a18 : Memref sig .tc .vmem S128x16 .f32) (h18 : a18.IsWhole)
  (hl : ¬Loads i) (hp : ¬Prepares i) (hc : Computes i)
  (x1 : Vec F S512x2048 .f32) (x3 : Vec F S1x2048 .f32) (x4 : Vec F S1x2048 .f32) (x7 : Vec F S1x128x2048 .f32) (x8 : Vec F S1x128x2048 .f32)
  (x9 : Vec F S32x2048 .f32) (x14 : Vec F S2048x6144 .bf16) (x17 : Vec F S16x128x128 .bf16) (x18 : Vec F S128x16 .f32)

/-- The whole block of rows. -/
abbrev xrect : Rect S512x2048 := Rect.unit (s := S512x2048) ![0, 0] S512x2048.size inb_S512x2048_S512x2048_0_0

/-- The loads of a computing point. -/
abbrev operands : Operands F where
  xb := a15.view.readCov [⟨xrect, k0_pay5 (View.readAt (Elt F) a1.view xrect.toLoadRect (h1.unread x1))⟩] xrect.toLoadRect
  w k := View.readAt (Elt F) a14.view (wbox k).toLoadRect (h14.unread x14)
  back l c := a16.view.readCov l (cbox c).toLoadRect
  g c := View.readAt (Elt F) a3.view (gbox c).toLoadRect (h3.unread x3)
  b c := View.readAt (Elt F) a4.view (gbox c).toLoadRect (h4.unread x4)
  wc k := View.readAt (Elt F) a17.view (mbox k).toLoadRect (h17.unread x17)
  bs k := View.readAt (Elt F) a18.view (bbox k).toLoadRect (h18.unread x18)

/-- The stores of the result. -/
theorem tile_outs : (tileRun c i a1 h1 a2 h2 a3 h3 a4 h4 a5 h5 a6 h6 a7 h7 a8 h8 a9 h9 a10 h10 a11 h11 a12 h12 a13 h13 a14 h14 a15 h15 a16 h16 a17 h17 a18 h18 hl hp hc x1 x3 x4 x7 x8 x9 x14 x17 x18).1 = outs (operands a1 h1 a3 h3 a4 h4 a14 h14 a15 a16 a17 h17 a18 h18 x1 x3 x4 x14 x17 x18) := by
  sl_kernel_rfl
/-- The stores of the three weights' copies. -/
theorem tile_one : (tileRun c i a1 h1 a2 h2 a3 h3 a4 h4 a5 h5 a6 h6 a7 h7 a8 h8 a9 h9 a10 h10 a11 h11 a12 h12 a13 h13 a14 h14 a15 h15 a16 h16 a17 h17 a18 h18 hl hp hc x1 x3 x4 x7 x8 x9 x14 x17 x18).2.1 = [⟨Rect.unit (s := S128x2048) ![0, 0] S128x2048.size inb_S128x2048_S128x2048_0_0,
    k0_pay51 (View.readAt (Elt F) a7.view (Rect.unit (s := S1x128x2048) ![0, 0, 0] S1x128x2048.size inb_S1x128x2048_S1x128x2048_0_0_0).toLoadRect (h7.unread x7))⟩] := by
  sl_kernel_rfl
/-- The store of the second copy. -/
theorem tile_two : (tileRun c i a1 h1 a2 h2 a3 h3 a4 h4 a5 h5 a6 h6 a7 h7 a8 h8 a9 h9 a10 h10 a11 h11 a12 h12 a13 h13 a14 h14 a15 h15 a16 h16 a17 h17 a18 h18 hl hp hc x1 x3 x4 x7 x8 x9 x14 x17 x18).2.2.1 = [⟨Rect.unit (s := S128x2048) ![0, 0] S128x2048.size inb_S128x2048_S128x2048_0_0,
    k0_pay52 (View.readAt (Elt F) a8.view (Rect.unit (s := S1x128x2048) ![0, 0, 0] S1x128x2048.size inb_S1x128x2048_S1x128x2048_0_0_0).toLoadRect (h8.unread x8))⟩] := by
  sl_kernel_rfl
/-- The store of the third copy. -/
theorem tile_three : (tileRun c i a1 h1 a2 h2 a3 h3 a4 h4 a5 h5 a6 h6 a7 h7 a8 h8 a9 h9 a10 h10 a11 h11 a12 h12 a13 h13 a14 h14 a15 h15 a16 h16 a17 h17 a18 h18 hl hp hc x1 x3 x4 x7 x8 x9 x14 x17 x18).2.2.2.1 = [⟨Rect.unit (s := S32x2048) ![0, 0] S32x2048.size inb_S32x2048_S32x2048_0_0,
    k0_pay53 (View.readAt (Elt F) a9.view (Rect.unit (s := S32x2048) ![0, 0] S32x2048.size inb_S32x2048_S32x2048_0_0).toLoadRect (h9.unread x9))⟩] := by
  sl_kernel_rfl

end Runs

end Cert.Kernel5Ideal.Sgu
-- ==== Proof.SguSpec.lean ====
/- The mathematics of the spatial gating unit: its activation, its projection, and its result at an index. -/
module

public import proofs.«01_k».proof.Proof.TailSpec

@[expose] public section

noncomputable section

namespace Cert.Unit

open Idealize.ShloMosaic Finset Cert.Tail

/-- The activation, in the words both programs spell its constants with. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * (x * x))))))

/-- The activation of a real number is one. -/
theorem gelu_real (x : ℝ) : ∃ y : ℝ, gelu x = (y : EReal) := by
  have h0 : Ideal.ofBits .f32 0x3F000000#32 = ((1 / 2 : ℝ) : EReal) := by
    simp [Ideal.ofBits, Ideal.ieee, -EReal.coe_mul]; norm_num
  have h1 : Ideal.ofBits .f32 0x3F800000#32 = ((1 : ℝ) : EReal) := by rw [bits_1]; rfl
  have h2 : Ideal.ofBits .f32 0x3F4C422A#32 = ((13386282 / 16777216 : ℝ) : EReal) := by
    simp [Ideal.ofBits, Ideal.ieee, -EReal.coe_mul]; norm_num
  have h3 : Ideal.ofBits .f32 0x3D372713#32 = ((12003091 / 268435456 : ℝ) : EReal) := by
    simp [Ideal.ofBits, Ideal.ieee, -EReal.coe_mul]; norm_num
  refine ⟨x * (1 / 2 * (1 + Real.tanh (13386282 / 16777216 * (x + 12003091 / 268435456 * (x * (x * x)))))), ?_⟩
  rw [gelu, h0, h1, h2, h3]
  simp only [EReal.coe_mul, EReal.coe_add, ← Ideal.tanh_coe]

/-- The unit's result from its two gates, the row of weights, the normed column and the bias. -/
def gated (u z : EReal) (w n : Fin 128 → EReal) (β : EReal) : EReal :=
  gelu u * (z * Ideal.logistic z) * (∑ t, w t * n t + β)

/-- The three column ranges of the projection. -/
def first (C : Fin 2048) : Fin 6144 := ⟨C.val, by omega⟩
def second (C : Fin 2048) : Fin 6144 := ⟨2048 + C.val, by omega⟩
def third (C : Fin 2048) : Fin 6144 := ⟨4096 + C.val, by omega⟩

/-- A column's group. -/
def grp (C : Fin 2048) : Fin 16 := ⟨C.val / 128, by omega⟩

/-- The place in its chunk of a row, and the rows of the chunk. -/
def at128 (s : Fin 2048) : Fin 128 := ⟨s.val % 128, Nat.mod_lt _ (by decide)⟩
def chunk (s : Fin 2048) (t : Fin 128) : Fin 2048 := ⟨128 * (s.val / 128) + t.val, by omega⟩

section
variable (X : (⟨3, ![4, 2048, 2048]⟩ : Shape).Idx → EReal) (W : (⟨3, ![1, 2048, 6144]⟩ : Shape).Idx → EReal)
  (G B : (⟨2, ![1, 2048]⟩ : Shape).Idx → EReal) (Ws : (⟨4, ![1, 16, 128, 128]⟩ : Shape).Idx → EReal)
  (Bs : (⟨3, ![1, 16, 128]⟩ : Shape).Idx → EReal)

/-- The projection. -/
def proj (b : Fin 4) (s : Fin 2048) (C : Fin 6144) : EReal := ∑ e, X (ix3 b s e) * W (ix3 0 e C)

/-- The gated half is of real numbers on real operands. -/
theorem half_real (hX : ∀ j, X j = ((X j).toReal : EReal)) (hW : ∀ j, W j = ((W j).toReal : EReal)) :
    ∃ T : Fin 4 → Fin 2048 → Fin 2048 → ℝ, ∀ b s C, gelu (proj X W b s (second C)) = (T b s C : EReal) := by
  have hp : ∀ b s C, proj X W b s C = ((∑ e, (X (ix3 b s e)).toReal * (W (ix3 0 e C)).toReal : ℝ) : EReal) := fun b s C => by
    rw [proj, Moba.coe_sum]
    refine Finset.sum_congr rfl fun e _ => ?_
    rw [EReal.coe_mul, ← hX, ← hW]
  choose f hf using gelu_real
  exact ⟨fun b s C => f (∑ e, (X (ix3 b s e)).toReal * (W (ix3 0 e (second C))).toReal), fun b s C => by rw [hp, hf]⟩

/-- The causal weights of a group. -/
def causalW (k : Fin 16) (i t : Fin 128) : EReal := if t ≤ i then Ws (ix4 0 k i t) else 0

/-- The unit's result at a place, from the gated half `T`. -/
def sgu (T : Fin 4 → Fin 2048 → Fin 2048 → ℝ) (b : Fin 4) (s C : Fin 2048) : EReal :=
  gated (proj X W b s (first C)) (proj X W b s (third C)) (causalW Ws (grp C) (at128 s))
    (fun t => norm (T b (chunk s t)) (fun C => G (ix2 0 C)) (fun C => B (ix2 0 C)) C) (Bs (ix3 0 (grp C) (at128 s)))

end

end Cert.Unit

end
-- ==== Proof.SguVal.lean ====
/- The spatial gating unit for a block of 512 rows at an index, for any loads known at every index. -/
module

public import proofs.«01_k».proof.Proof.SguBody
public import proofs.«01_k».proof.Proof.SguSpec
public import proofs.«01_k».proof.Proof.TailVal
public import Idealize.ShloMosaic.Lib.Pipeline.CanonAppend

@[expose] public section

set_option maxRecDepth 65536

noncomputable section

namespace Cert.Kernel5Ideal.Sgu

open Cert.Kernel5Ideal Cert.Kernel5Ideal.Gen Idealize.ShloMosaic Idealize.SL.Sem Cert.Moba Cert.Unit
open Cert.Tail (col lo hi mean var norm eps sum_lanes mean_shift var_shift bits_inv)

/-- Column `j` of the projection's piece `k`. -/
def pcol (k : ℕ) (j : Fin 256) : Fin 6144 := ⟨256 * (k % 24) + j.val, by omega⟩

/-- Row `t` of the chunk of a block's row. -/
def near (r : Fin 512) (t : Fin 128) : Fin 512 := ⟨128 * (r.val / 128) + t.val, by omega⟩

/-- The place of a block's row in its chunk. -/
def spot (r : Fin 512) : Fin 128 := ⟨r.val % 128, Nat.mod_lt _ (by decide)⟩

/-- What the loads of a point are at every index. -/
structure Reads (L : Operands Ideal) (P : Fin 512 → Fin 6144 → EReal) (T : Fin 512 → Fin 2048 → ℝ) (g b : Fin 2048 → EReal)
    (wc : Fin 16 → Fin 128 → Fin 128 → EReal) (bs : Fin 16 → Fin 128 → EReal) : Prop where
  lin : ∀ k r j, lin L k (ix2 r j) = P r (pcol k j)
  half : ∀ r C, gelu (P r (second C)) = (T r C : EReal)
  g : ∀ c j, L.g c (ix2 0 j) = g (col c j)
  b : ∀ c j, L.b c (ix2 0 j) = b (col c j)
  wc : ∀ k i t, L.wc k (ix3 0 i t) = wc ⟨k % 16, Nat.mod_lt _ (by decide)⟩ i t
  bs : ∀ k i, L.bs k (ix2 i 0) = bs ⟨k % 16, Nat.mod_lt _ (by decide)⟩ i
  back : ∀ l c r j, L.back l c (ix2 r j) = View.canon l (ix2 r (col c j))

/-- The activation at an index. -/
theorem act_apply (v : FVec Ideal S512x256 .f32) (r : Fin 512) (j : Fin 256) : act v (ix2 r j) = gelu (v (ix2 r j)) := rfl

section
variable {L : Operands Ideal} {P : Fin 512 → Fin 6144 → EReal} {T : Fin 512 → Fin 2048 → ℝ} {g b : Fin 2048 → EReal}
  {wc : Fin 16 → Fin 128 → Fin 128 → EReal} {bs : Fin 16 → Fin 128 → EReal} (H : Reads L P T g b wc bs)
include H

/-- A piece of the second part is of real numbers. -/
theorem half_apply {c : ℕ} (hc : c < 8) (r : Fin 512) (j : Fin 256) : half L c (ix2 r j) = (T r (col c j) : EReal) := by
  rw [half, act_apply, H.lin, ← H.half]
  refine congrArg (fun C => gelu (P r C)) (Fin.ext ?_)
  show 256 * ((8 + c) % 24) + j.val = 2048 + (256 * (c % 8) + j.val)
  omega

/-- The shift is a real number in each row. -/
theorem pilot_apply : ∃ s : Fin 512 → ℝ, ∀ i, pilot L (ix2 i 0) = (s i : EReal) := by
  refine ⟨fun i => (∑ j, T i (col 0 j)) * (1 / 256), fun i => ?_⟩
  pointwise [pilot]
  simp only [half_apply H (show 0 < 8 by decide)]
  rw [← coe_sum, bits_256, Ideal.div_coe (by norm_num), ← EReal.coe_mul]

/-- A piece less the shift. -/
theorem dev_apply {s : Fin 512 → ℝ} (hs : ∀ i, pilot L (ix2 i 0) = (s i : EReal)) {c : ℕ} (hc : c < 8) (i : Fin 512) (j : Fin 256) :
    dev L c (ix2 i j) = ((T i (col c j) - s i : ℝ) : EReal) := by
  pointwise [dev]
  rw [half_apply H hc, hs, ← EReal.coe_sub]

omit H in
/-- The average over the pieces is the average over the row. -/
theorem avg_apply (v : ℕ → FVec Ideal S512x256 .f32) (f : Fin 512 → Fin 2048 → ℝ)
    (hv : ∀ c < 8, ∀ i j, v c (ix2 i j) = (f i (col c j) : EReal)) (i : Fin 512) :
    avg (acc fun c => lane (v c)) (ix2 i 0) = (((∑ C, f i C) * (1 / 2048) : ℝ) : EReal) := by
  have hl : ∀ l : Fin 128, acc (fun c => lane (v c)) (ix2 i l)
      = ((∑ c : Fin 8, (f i (col c.val (lo l)) + f i (col c.val (hi l))) : ℝ) : EReal) := fun l => by
    have hc : ∀ c < 8, lane (v c) (ix2 i l) = ((f i (col c (lo l)) + f i (col c (hi l)) : ℝ) : EReal) := fun c h8 => by
      rw [EReal.coe_add, ← hv c h8, ← hv c h8]
      pointwise [lane]
      congr 1 <;> refine congrArg (v c) (funext fun a => Fin.ext ?_) <;> fin_cases a <;> simp [lo, hi]
    show (((((((lane (v 0) (ix2 i l) + lane (v 1) (ix2 i l)) + lane (v 2) (ix2 i l)) + lane (v 3) (ix2 i l)) + lane (v 4) (ix2 i l))
      + lane (v 5) (ix2 i l)) + lane (v 6) (ix2 i l)) + lane (v 7) (ix2 i l) : EReal) = _
    rw [hc 0 (by decide), hc 1 (by decide), hc 2 (by decide), hc 3 (by decide), hc 4 (by decide), hc 5 (by decide), hc 6 (by decide),
      hc 7 (by decide), Fin.sum_univ_eight]
    simp only [← EReal.coe_add]
    rfl
  pointwise [avg]
  simp only [hl]
  rw [← coe_sum, bits_inv, ← EReal.coe_mul, sum_lanes]

/-- The mean the kernel takes is the row's. -/
theorem mu_apply (i : Fin 512) : mu L (ix2 i 0) = (mean (T i) : EReal) := by
  obtain ⟨s, hs⟩ := pilot_apply H
  have hd := avg_apply (dev L) (fun i C => T i C - s i) (fun _ hc => dev_apply H hs hc) i
  show (pilot L (ix2 i 0) + avg (acc fun c => lane (dev L c)) (ix2 i 0) : EReal) = _
  rw [hs, hd, ← EReal.coe_add, mean_shift]

/-- The inverse deviation the kernel takes is the row's. -/
theorem rstd_apply (i : Fin 512) : rstd L (ix2 i 0) = Ideal.rsqrt ((var (T i) : EReal) + eps) := by
  obtain ⟨s, hs⟩ := pilot_apply H
  have hd := avg_apply (dev L) (fun i C => T i C - s i) (fun _ hc => dev_apply H hs hc) i
  have hq := avg_apply (fun c => mulf (dev L c) (dev L c)) (fun i C => (T i C - s i) * (T i C - s i))
    (fun c hc i j => by
      show (dev L c (ix2 i j) * dev L c (ix2 i j) : EReal) = _
      rw [dev_apply H hs hc, ← EReal.coe_mul]) i
  show Ideal.rsqrt ((avg (acc fun c => lane (mulf (dev L c) (dev L c))) (ix2 i 0)
    - avg (acc fun c => lane (dev L c)) (ix2 i 0) * avg (acc fun c => lane (dev L c)) (ix2 i 0)) + eps) = _
  rw [hd, hq, ← EReal.coe_mul, ← EReal.coe_sub, var_shift]

/-- The gated half as stored. -/
theorem halves_apply (r : Fin 512) (C : Fin 2048) : View.canon (halves L) (ix2 r C) = (T r C : EReal) := by
  rw [← List.append_nil (halves L)]
  refine View.canon_append_of_pieces (Val := Elt Ideal) (e := .f32) (fun y : S512x2048.Idx => (T (y 0) (y 1) : EReal)) [] (halves L) ?_ _ ?_
  · intro q hq x
    obtain ⟨c, hc, rfl⟩ := List.mem_map.1 hq
    have hc8 : c < 8 := by
      simp only [List.mem_cons, List.not_mem_nil, or_false] at hc
      omega
    obtain ⟨u, w, rfl⟩ : ∃ (u : Fin 512) (w : Fin 256), x = ix2 u w := ⟨x 0, x 1, eq_ix2 (n0 := 512) (n1 := 256) x⟩
    have h0 : ((cbox c).emb (ix2 u w)) 0 = u := Fin.ext (by show 0 + 1 * u.val = u.val; omega)
    have h1 : ((cbox c).emb (ix2 u w)) 1 = col c w := Fin.ext (by show 256 * (c % 8) + 1 * w.val = 256 * (c % 8) + w.val; omega)
    simp only [h0, h1]
    rw [← half_apply H hc8]
    pointwise
  · refine ⟨⟨cbox (C.val / 256), _⟩, List.mem_map.2 ⟨C.val / 256, ?_, rfl⟩, ?_⟩
    · have : C.val / 256 < 8 := by omega
      interval_cases C.val / 256 <;> decide
    · show ix2 r C ∈ (cbox (C.val / 256)).set
      unfold cbox
      rw [Rect.mem_set_unit]
      intro d
      fin_cases d
      · show 0 ≤ r.val ∧ r.val < 0 + 512; omega
      · show 256 * (C.val / 256 % 8) ≤ C.val ∧ C.val < 256 * (C.val / 256 % 8) + 256; omega

/-- A normalised piece at an index. -/
theorem normed_apply (c : ℕ) (r : Fin 512) (j : Fin 256) : normed L c (ix2 r j) = norm (T r) g b (col c j) := by
  pointwise [normed]
  rw [H.back, halves_apply H, mu_apply H, rstd_apply H, H.g, H.b]
  rfl

/-- The gated first part at an index. -/
theorem gate_apply {c : ℕ} (hc : c < 8) (r : Fin 512) (j : Fin 256) :
    gate L c (ix2 r j) = gelu (P r (first (col c j))) * (P r (third (col c j)) * Ideal.logistic (P r (third (col c j)))) := by
  have h0 : pcol c j = first (col c j) := Fin.ext (by show 256 * (c % 24) + j.val = 256 * (c % 8) + j.val; omega)
  have h1 : pcol (16 + c) j = third (col c j) := Fin.ext (by
    show 256 * ((16 + c) % 24) + j.val = 4096 + (256 * (c % 8) + j.val); omega)
  show gelu (lin L c (ix2 r j)) * (lin L (16 + c) (ix2 r j) * Ideal.logistic (lin L (16 + c) (ix2 r j))) = _
  rw [H.lin, H.lin, h0, h1]

/-- The unit's result in a block. -/
def blockOut (P : Fin 512 → Fin 6144 → EReal) (T : Fin 512 → Fin 2048 → ℝ) (g b : Fin 2048 → EReal)
    (wc : Fin 16 → Fin 128 → Fin 128 → EReal) (bs : Fin 16 → Fin 128 → EReal) (r : Fin 512) (C : Fin 2048) : EReal :=
  gated (P r (first C)) (P r (third C)) (wc (grp C) (spot r)) (fun t => norm (T (near r t)) g b C) (bs (grp C) (spot r))

/-- Tile `n`'s row `i` and column `j` in the block. -/
def trow (n : ℕ) (i : Fin 128) : Fin 512 := ⟨128 * (n / 2 % 4) + i.val, by omega⟩
def tcol (n : ℕ) (j : Fin 128) : Fin 256 := ⟨128 * (n % 2) + j.val, by omega⟩

/-- A stored square at an index. -/
theorem out_apply {n : ℕ} (hn : n < 64) (i j : Fin 128) :
    out L n (ix2 i j) = blockOut P T g b wc bs (trow n i) (col (n / 8) (tcol n j)) := by
  have cutA : ∀ (e : EltTy) (v : Vec Ideal S512x256 e) (t : Fin 128),
      extractStridedSlice S128x128 ![128 * (n / 2 % 4), 128 * (n % 2)] v (cut (n / 2) n) (ix2 t j) = v (ix2 (trow n t) (tcol n j)) :=
    fun e v t => extractStridedSlice_apply _ _ _ _ _ fun a => by
      fin_cases a
      · rfl
      · rfl
  have hm : matmul (F := Ideal) (φ₁ := .bf16) (φ₂ := .bf16) dot_S128x128_S128x128_S128x128_1_0_0_1_n_n none
        (shapeCast S128x128 (L.wc (2 * (n / 8) + n % 2)) shapeCasts_S1x128x128_S128x128)
        (extractStridedSlice S128x128 ![128 * (n / 2 % 4), 128 * (n % 2)] (normed L (n / 8)) (cut (n / 2) n))
        (constant S128x128 .f32 0x00000000#32) (ix2 i j)
      = ∑ t, L.wc (2 * (n / 8) + n % 2) (ix3 0 i t) * normed L (n / 8) (ix2 (trow n t) (tcol n j)) := by
    pointwise
    refine Finset.sum_congr rfl fun t _ => congrArg (_ * ·) (congrArg (normed L (n / 8)) (funext fun a => Fin.ext ?_))
    fin_cases a <;> rfl
  have hb : broadcastTo S128x128 (L.bs (2 * (n / 8) + n % 2)) broadcasts_S128x1_S128x128 (ix2 i j) = L.bs (2 * (n / 8) + n % 2) (ix2 i 0) := by
    pointwise
  have hk : (⟨(2 * (n / 8) + n % 2) % 16, Nat.mod_lt _ (by decide)⟩ : Fin 16) = grp (col (n / 8) (tcol n j)) := Fin.ext (by
    show (2 * (n / 8) + n % 2) % 16 = (256 * (n / 8 % 8) + (128 * (n % 2) + j.val)) / 128; omega)
  have hi : spot (trow n i) = i := Fin.ext (by show (128 * (n / 2 % 4) + i.val) % 128 = i.val; omega)
  have hr : ∀ t, near (trow n i) t = trow n t := fun t => Fin.ext (by
    show 128 * ((128 * (n / 2 % 4) + i.val) / 128) + t.val = 128 * (n / 2 % 4) + t.val; omega)
  refine (congrArg₂ (· * ·) (cutA .f32 (gate L (n / 8)) i) (congrArg₂ (· + ·) hm hb) : (_ : EReal) = _).trans ?_
  rw [gate_apply H (by omega)]
  simp only [normed_apply H, H.wc, H.bs, blockOut, gated, hk, hi, hr]

/-- All the tiles. -/
theorem outs_apply (r : Fin 512) (C : Fin 2048) : View.canon (outs L) (ix2 r C) = blockOut P T g b wc bs r C := by
  rw [← List.append_nil (outs L)]
  refine View.canon_append_of_pieces (Val := Elt Ideal) (e := .bf16) (fun y : S512x2048.Idx => blockOut P T g b wc bs (y 0) (y 1)) [] (outs L) ?_ _ ?_
  · intro q hq x
    obtain ⟨n, hn, rfl⟩ := List.mem_map.1 hq
    have hn64 : n < 64 := List.mem_range.1 (List.mem_reverse.1 hn)
    obtain ⟨u, w, rfl⟩ : ∃ (u w : Fin 128), x = ix2 u w := ⟨x 0, x 1, eq_ix2 (n0 := 128) (n1 := 128) x⟩
    have h0 : ((ybox n).emb (ix2 u w)) 0 = trow n u := Fin.ext (by
      show 128 * (n / 2 % 4) + 1 * u.val = 128 * (n / 2 % 4) + u.val; omega)
    have h1 : ((ybox n).emb (ix2 u w)) 1 = col (n / 8) (tcol n w) := Fin.ext (by
      show 256 * (n / 8 % 8) + 128 * (n % 2) + 1 * w.val = 256 * (n / 8 % 8) + (128 * (n % 2) + w.val); omega)
    simp only [h0, h1]
    exact out_apply H hn64 u w
  · obtain ⟨n, hn⟩ : ∃ n, n = 8 * (C.val / 256) + 2 * (r.val / 128) + C.val % 256 / 128 := ⟨_, rfl⟩
    refine ⟨⟨ybox n, out L n⟩, List.mem_map.2 ⟨n, List.mem_reverse.2 (List.mem_range.2 (by omega)), rfl⟩, ?_⟩
    show ix2 r C ∈ (ybox n).set
    unfold ybox
    rw [Rect.mem_set_unit]
    intro d
    fin_cases d
    · show 128 * (n / 2 % 4) ≤ r.val ∧ r.val < 128 * (n / 2 % 4) + 128; omega
    · show 256 * (n / 8 % 8) + 128 * (n % 2) ≤ C.val ∧ C.val < 256 * (n / 8 % 8) + 128 * (n % 2) + 128; omega

end

end Cert.Kernel5Ideal.Sgu

end
-- ==== Proof.SguArr.lean ====
/- The spatial gating unit's call: its blocks placed in the arrays, and its four results. -/
module

public import proofs.«01_k».proof.Proof.SguFrame
public import proofs.«01_k».proof.Proof.SguVal
public import Idealize.ShloMosaic.Lib.WordCmp

@[expose] public section

set_option maxRecDepth 65536

noncomputable section

namespace Cert.Kernel5Ideal.Sgu

open Cert.Kernel5Ideal Cert.Kernel5Ideal.Gen Idealize.ShloMosaic Idealize.ShloMosaic.TcCoe Idealize.SL.Sem Cert.Unit
open Cert.Tail (col bat pos)

section
variable (a1 : Memref sig .tc .vmem S512x2048 .f32) (h1 : a1.IsWhole)
  (a3 : Memref sig .tc .vmem S1x2048 .f32) (h3 : a3.IsWhole)
  (a4 : Memref sig .tc .vmem S1x2048 .f32) (h4 : a4.IsWhole)
  (a14 : Memref sig .tc .vmem S2048x6144 .bf16) (h14 : a14.IsWhole)
  (a15 : Memref sig .tc .vmem S512x2048 .bf16)
  (a16 : Memref sig .tc .vmem S512x2048 .f32)
  (a17 : Memref sig .tc .vmem S16x128x128 .bf16) (h17 : a17.IsWhole)
  (a18 : Memref sig .tc .vmem S128x16 .f32) (h18 : a18.IsWhole)
  (x1 : Vec Ideal S512x2048 .f32) (x3 : Vec Ideal S1x2048 .f32) (x4 : Vec Ideal S1x2048 .f32)
  (x14 : Vec Ideal S2048x6144 .bf16) (x17 : Vec Ideal S16x128x128 .bf16) (x18 : Vec Ideal S128x16 .f32)

/-- The loads of a point, at every index of its blocks. -/
theorem reads (P : Fin 512 → Fin 6144 → EReal) (T : Fin 512 → Fin 2048 → ℝ) (g b : Fin 2048 → EReal)
    (wc : Fin 16 → Fin 128 → Fin 128 → EReal) (bs : Fin 16 → Fin 128 → EReal)
    (hP : ∀ r C, ∑ e, x1 (ix2 r e) * x14 (ix2 e C) = P r C) (hT : ∀ r C, gelu (P r (second C)) = (T r C : EReal))
    (hg : ∀ C, x3 (ix2 0 C) = g C) (hb : ∀ C, x4 (ix2 0 C) = b C) (hwc : ∀ k i t, x17 (ix3 k i t) = wc k i t) (hbs : ∀ k i, x18 (ix2 i k) = bs k i) :
    Reads (operands a1 h1 a3 h3 a4 h4 a14 h14 a15 a16 a17 h17 a18 h18 x1 x3 x4 x14 x17 x18) P T g b wc bs := by
  have hx : ∀ r e, a15.view.readCov (Val := Elt Ideal) [⟨xrect, k0_pay5 (View.readAt (Elt Ideal) a1.view xrect.toLoadRect (h1.unread x1))⟩] xrect.toLoadRect (ix2 r e)
      = x1 (ix2 r e) := fun r e => by
    rw [View.readCov_unit_lit _ _ _ (by decide)]
    have hf : View.readAt (Elt Ideal) a1.view xrect.toLoadRect (h1.unread x1) (ix2 r e) = x1 (ix2 r e) := by
      rw [View.readAt_eq_ld, h1.read_unread]
      refine congrArg x1 (funext fun d => Fin.ext ?_)
      fin_cases d
      · show 0 + 1 * r.val = r.val; omega
      · show 0 + 1 * e.val = e.val; omega
    rw [← hf]
    pointwise [k0_pay5]
  have hw : ∀ k e j, View.readAt (Elt Ideal) a14.view (wbox k).toLoadRect (h14.unread x14) (ix2 e j) = x14 (ix2 e (pcol k j)) := fun k e j => by
    rw [View.readAt_eq_ld, h14.read_unread]
    refine congrArg x14 (funext fun d => Fin.ext ?_)
    fin_cases d
    · show 0 + 1 * e.val = e.val; omega
    · show 256 * (k % 24) + 1 * j.val = 256 * (k % 24) + j.val; omega
  have hrow : ∀ (M : Memref sig .tc .vmem S1x2048 .f32) (hM : M.IsWhole) (x : Vec Ideal S1x2048 .f32) c j,
      View.readAt (Elt Ideal) M.view (gbox c).toLoadRect (hM.unread x) (ix2 0 j) = x (ix2 0 (col c j)) := fun M hM x c j => by
    rw [View.readAt_eq_ld, hM.read_unread]
    refine congrArg x (funext fun d => Fin.ext ?_)
    fin_cases d
    · rfl
    · show 256 * (c % 8) + 1 * j.val = 256 * (c % 8) + j.val; omega
  refine ⟨fun k r j => ?_, hT, fun c j => (hrow a3 h3 x3 c j).trans (hg _), fun c j => (hrow a4 h4 x4 c j).trans (hb _), fun k i t => ?_, fun k i => ?_, fun l c r j => ?_⟩
  · pointwise [lin]
    exact (Finset.sum_congr rfl fun e _ => congrArg₂ (· * ·) (hx r e) (hw k e j)).trans (hP r (pcol k j))
  · show View.readAt (Elt Ideal) a17.view (mbox k).toLoadRect (h17.unread x17) (ix3 0 i t) = _
    rw [View.readAt_eq_ld, h17.read_unread]
    refine (congrArg x17 (funext fun d => Fin.ext ?_)).trans (hwc _ _ _)
    fin_cases d
    · rfl
    · show 0 + 1 * i.val = i.val; omega
    · show 0 + 1 * t.val = t.val; omega
  · show View.readAt (Elt Ideal) a18.view (bbox k).toLoadRect (h18.unread x18) (ix2 i 0) = _
    rw [View.readAt_eq_ld, h18.read_unread]
    refine (congrArg x18 (funext fun d => Fin.ext ?_)).trans (hbs _ _)
    fin_cases d
    · show 0 + 1 * i.val = i.val; omega
    · rfl
  · show a16.view.readCov l (cbox c).toLoadRect (ix2 r j) = _
    rw [View.readCov_eq_canon']
    refine congrArg (View.canon l) (funext fun d => Fin.ext ?_)
    fin_cases d
    · show 0 + 1 * r.val = r.val; omega
    · show 256 * (c % 8) + 1 * j.val = 256 * (c % 8) + j.val; omega

end

variable (m : (ℓ : Loc nD τ sig) → Buf (Elt Ideal) ℓ) (c : Dev nD)

/-- The rows of the input, flattened, at an index. -/
theorem x_apply (R : Fin 8192) (e : Fin 2048) : V m c main_v0 (ix2 R e)
    = m ((c : Thread nD τ).loc main_arg0) (ix3 (bat R) (pos R) e) := by
  entry_read
  pointwise
  rfl

/-- The row of the arrays that row `a` of point `t`'s block is. -/
def rowOf (t : Fin grid0.N) (a : Fin 512) : Fin 8192 := ⟨512 * (t.val % 16) + a.val, by omega⟩

/-- Where window 0 lies at a point. -/
theorem index_0 : ∀ t : Fin cfg0.N, 16 ≤ t.val → win0_0.index t = ![t.val % 16, 0] := (by decide +kernel : ∀ t : Fin grid0.N, 16 ≤ t.val → win0_0.index t = ![t.val % 16, 0])
/-- Where window 1 lies at a point. -/
theorem index_1 : ∀ t : Fin cfg0.N, t.val < 16 → win0_1.index t = ![0, t.val, 0] := (by decide +kernel : ∀ t : Fin grid0.N, t.val < 16 → win0_1.index t = ![0, t.val, 0])
/-- Where window 2 lies at a point. -/
theorem index_2 : ∀ t : Fin cfg0.N, win0_2.index t = ![0, 0] := (by decide +kernel : ∀ t : Fin grid0.N, _)
/-- Where window 3 lies at a point. -/
theorem index_3 : ∀ t : Fin cfg0.N, win0_3.index t = ![0, 0] := (by decide +kernel : ∀ t : Fin grid0.N, _)
/-- Where window 4 lies at a point. -/
theorem index_4 : ∀ t : Fin cfg0.N, win0_4.index t = ![0, 0, 0, 0] := (by decide +kernel : ∀ t : Fin grid0.N, _)
/-- Where window 5 lies at a point. -/
theorem index_5 : ∀ t : Fin cfg0.N, win0_5.index t = ![0, 0, 0] := (by decide +kernel : ∀ t : Fin grid0.N, _)
/-- Where window 6 lies at a point. -/
theorem index_6 : ∀ t : Fin cfg0.N, 16 ≤ t.val → win0_6.index t = ![0, t.val % 16, 0] := (by decide +kernel : ∀ t : Fin grid0.N, 16 ≤ t.val → win0_6.index t = ![0, t.val % 16, 0])
/-- Where window 7 lies at a point. -/
theorem index_7 : ∀ t : Fin cfg0.N, 16 ≤ t.val → win0_7.index t = ![0, t.val % 16, 0] := (by decide +kernel : ∀ t : Fin grid0.N, 16 ≤ t.val → win0_7.index t = ![0, t.val % 16, 0])
/-- Where window 8 lies at a point. -/
theorem index_8 : ∀ t : Fin cfg0.N, 16 ≤ t.val → win0_8.index t = ![t.val % 16, 0] := (by decide +kernel : ∀ t : Fin grid0.N, 16 ≤ t.val → win0_8.index t = ![t.val % 16, 0])
/-- Where window 9 lies at a point. -/
theorem index_9 : ∀ t : Fin cfg0.N, 16 ≤ t.val → win0_9.index t = ![t.val % 16, 0] := (by decide +kernel : ∀ t : Fin grid0.N, 16 ≤ t.val → win0_9.index t = ![t.val % 16, 0])
/-- Where window 10 lies at a point. -/
theorem index_10 : ∀ t : Fin cfg0.N, 16 ≤ t.val → win0_10.index t = ![t.val % 16, 0] := (by decide +kernel : ∀ t : Fin grid0.N, 16 ≤ t.val → win0_10.index t = ![t.val % 16, 0])
/-- Where window 11 lies at a point. -/
theorem index_11 : ∀ t : Fin cfg0.N, 16 ≤ t.val → win0_11.index t = ![t.val % 16, 0] := (by decide +kernel : ∀ t : Fin grid0.N, 16 ≤ t.val → win0_11.index t = ![t.val % 16, 0])
/-- Where window 12 lies at a point. -/
theorem index_12 : ∀ t : Fin cfg0.N, 16 ≤ t.val → win0_12.index t = ![t.val % 16, 0] := (by decide +kernel : ∀ t : Fin grid0.N, 16 ≤ t.val → win0_12.index t = ![t.val % 16, 0])

/-- A point that writes an output back computes. -/
theorem computing (t : Fin cfg0.N) (w : Fin 13) (hw : 9 ≤ w.val) (hf : (cfg0.win w).flush t = true) : 16 ≤ t.val := by
  by_contra h
  rw [unflushed t (by omega) w hw] at hf
  exact absurd hf (by decide)

section
variable (t : Fin cfg0.N)

/-- The slab of the projection's weights a point loads. -/
theorem w_blk (ht : t.val < 16) (a : Fin 128) (C : Fin 6144) : iblk m c 1 t (ix3 0 a C)
    = m ((c : Thread nD τ).loc main_arg1) (ix3 0 ⟨128 * t.val + a.val, by omega⟩ C) := by
  rw [← V_main_arg1 m c]
  blk_simp [iblk]
  refine congrArg _ ?_
  blk_ext [index_1 t ht]

/-- The norm's scale at a point. -/
theorem g_blk (C : Fin 2048) : iblk m c 2 t (ix2 0 C) = m ((c : Thread nD τ).loc main_arg2) (ix2 0 C) := by
  rw [← V_main_arg2 m c]
  blk_simp [iblk]
  refine congrArg _ ?_
  blk_ext [index_2 t]

/-- The norm's shift at a point. -/
theorem b_blk (C : Fin 2048) : iblk m c 3 t (ix2 0 C) = m ((c : Thread nD τ).loc main_arg3) (ix2 0 C) := by
  rw [← V_main_arg3 m c]
  blk_simp [iblk]
  refine congrArg _ ?_
  blk_ext [index_3 t]

/-- The spatial weights' block at a point. -/
theorem ws_blk (k : Fin 16) (i j : Fin 128) : iblk m c 4 t (ix4 0 k i j) = m ((c : Thread nD τ).loc main_arg4) (ix4 0 k i j) := by
  rw [← V_main_arg4 m c]
  blk_simp [iblk]
  refine congrArg _ ?_
  blk_ext [index_4 t]

/-- The bias's block at a point. -/
theorem bs_blk (k : Fin 16) (i : Fin 128) : iblk m c 5 t (ix3 0 k i) = m ((c : Thread nD τ).loc main_arg5) (ix3 0 k i) := by
  rw [← V_main_arg5 m c]
  blk_simp [iblk]
  refine congrArg _ ?_
  blk_ext [index_5 t]

variable (ht : 16 ≤ t.val)
include ht

/-- The input's block at a point. -/
theorem x_blk (a : Fin 512) (e : Fin 2048) : iblk m c 0 t (ix2 a e)
    = m ((c : Thread nD τ).loc main_arg0) (ix3 (bat (rowOf t a)) (pos (rowOf t a)) e) := by
  rw [← x_apply m c]
  blk_simp [iblk]
  refine congrArg _ ?_
  blk_ext [index_0 t ht, rowOf]

end

/-- The scratch buffer of the projection's weights at an index. -/
theorem proj_at (e : Fin 2048) (C : Fin 6144) : proj m c (ix2 e C) = m ((c : Thread nD τ).loc main_arg1) (ix3 0 e C) := by
  have h : slab m c (loader e) (ix2 ⟨e.val % 128, Nat.mod_lt _ (by decide)⟩ C) = m ((c : Thread nD τ).loc main_arg1) (ix3 0 e C) := by
    pointwise [slab, k0_pay1]
    have hl : (loader e).val < 16 := by show e.val / 128 < 16; omega
    rw [w_blk m c (loader e) hl]
    refine congrArg _ (congrArg (fun x => ix3 0 x C) (Fin.ext ?_))
    show 128 * (e.val / 128) + e.val % 128 = e.val
    omega
  exact h

/-- The scratch buffer of the causal weights at an index. -/
theorem causal_at (k : Fin 16) (i t : Fin 128) : causal m c (ix3 k i t) = causalW (m ((c : Thread nD τ).loc main_arg4)) k i t := by
  have h : ∀ x : Vec Ideal S1x16x128x128 .f32, k0_pay2 x (ix3 k i t) = if t ≤ i then x (ix4 0 k i t) else 0 := fun x => by
    pointwise [k0_pay2]
    rw [WordCmp.cmpi_sle_ofNat (by omega) (by omega), WordCmp.select_ofBool]
    simp only [decide_eq_true_eq]
    rfl
  refine (h _).trans ?_
  rw [ws_blk]
  rfl

/-- The scratch buffer of the bias at an index. -/
theorem bias_at (k : Fin 16) (i : Fin 128) : bias m c (ix2 i k) = m ((c : Thread nD τ).loc main_arg5) (ix3 0 k i) := by
  have h : ∀ x : Vec Ideal S1x16x128 .f32, k0_pay3 x (ix2 i k) = x (ix3 0 k i) := fun x => by
    pointwise [k0_pay3]
  exact (h _).trans (bs_blk m c start k i)

/-- The loads of point `t`. -/
abbrev pload (t : Fin cfg0.N) : Operands Ideal :=
  operands (win0 t) (whole0 t) (win2 t) (whole2 t) (win3 t) (whole3 t) scr0 (Memref.isWhole_whole _) scr1 scr2 scr3 (Memref.isWhole_whole _)
    scr4 (Memref.isWhole_whole _) (iblk m c 0 t) (iblk m c 2 t) (iblk m c 3 t) (proj m c) (causal m c) (bias m c)

/-- What a point leaves of the result. -/
theorem list9_eq (t : Fin cfg0.N) (ht : 16 ≤ t.val) : list9 m c t = outs (pload m c t) := by
  rw [list9, dif_pos ht]
  exact tile_outs ..

section
variable (T : Fin 4 → Fin 2048 → Fin 2048 → ℝ)
  (hT : ∀ b s C, gelu (Unit.proj (m ((c : Thread nD τ).loc main_arg0)) (m ((c : Thread nD τ).loc main_arg1)) b s (second C)) = (T b s C : EReal))
include hT

/-- The loads of a point, in the arguments. -/
theorem pload_reads (t : Fin cfg0.N) (ht : 16 ≤ t.val) : Reads (pload m c t)
    (fun a C => Unit.proj (m ((c : Thread nD τ).loc main_arg0)) (m ((c : Thread nD τ).loc main_arg1)) (bat (rowOf t a)) (pos (rowOf t a)) C)
    (fun a => T (bat (rowOf t a)) (pos (rowOf t a)))
    (fun C => m ((c : Thread nD τ).loc main_arg2) (ix2 0 C)) (fun C => m ((c : Thread nD τ).loc main_arg3) (ix2 0 C))
    (fun k i t => causalW (m ((c : Thread nD τ).loc main_arg4)) k i t) (fun k i => m ((c : Thread nD τ).loc main_arg5) (ix3 0 k i)) := by
  refine reads (win0 t) (whole0 t) (win2 t) (whole2 t) (win3 t) (whole3 t) scr0 (Memref.isWhole_whole _) scr1 scr2 scr3 (Memref.isWhole_whole _)
    scr4 (Memref.isWhole_whole _) (iblk m c 0 t) (iblk m c 2 t) (iblk m c 3 t) (proj m c) (causal m c) (bias m c) _ _ _ _ _ _
    (fun r C => Finset.sum_congr rfl fun e _ => congrArg₂ (· * ·) (x_blk m c t ht r e) (proj_at m c e C)) (fun r C => hT _ _ _)
    (g_blk m c t) (b_blk m c t) (causal_at m c) (bias_at m c)

/-- The first result is the unit's. -/
theorem result_eq : (dats m 0 c).arrAt 9 cfg0.N = fun i : S8192x2048.Idx =>
    sgu (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) T (bat (i 0)) (pos (i 0)) (i 1) := by
  refine (dats m 0 c).arrAt_eq_of_covers 9 _ (by decide +kernel) fun t hf y => ?_
  have ht : 16 ≤ t.val := computing t 9 (by decide) hf
  blk_simp
  rw [after9]
  obtain ⟨r, s, rfl⟩ : ∃ (r : Fin 512) (s : Fin 2048), y = ix2 r s := ⟨y 0, y 1, eq_ix2 (n0 := 512) (n1 := 2048) y⟩
  have he : (win0_9.blk t).view.emb (ix2 r s) = ix2 (rowOf t r) s := by
    blk_ext [index_9 t ht, rowOf]
  rw [he, list9_eq m c t ht]
  refine (outs_apply (pload_reads m c T hT t ht) r s).trans ?_
  have e1 : spot r = at128 (pos (rowOf t r)) := Fin.ext (by
    show r.val % 128 = (512 * (t.val % 16) + r.val) % 2048 % 128; omega)
  have e2 : ∀ u, pos (rowOf t (near r u)) = chunk (pos (rowOf t r)) u := fun u => Fin.ext (by
    show (512 * (t.val % 16) + (128 * (r.val / 128) + u.val)) % 2048 = 128 * ((512 * (t.val % 16) + r.val) % 2048 / 128) + u.val; omega)
  have e3 : ∀ u, bat (rowOf t (near r u)) = bat (rowOf t r) := fun u => Fin.ext (by
    show (512 * (t.val % 16) + (128 * (r.val / 128) + u.val)) / 2048 = (512 * (t.val % 16) + r.val) / 2048; omega)
  simp only [blockOut, e1, e2, e3]
  rfl

end

/-! ## The three copies -/

section
variable (t : Fin cfg0.N) (ht : 16 ≤ t.val)
include ht

/-- What a point leaves of the first copy. -/
theorem list10_eq : View.canon (list10 m c t) = k0_pay51 (iblk m c 6 t) := by
  rw [list10, dif_pos ht]
  refine (congrArg View.canon (tile_one ..)).trans ((View.canon_cons_unit_lit _ _ _ (by decide)).trans (congrArg k0_pay51 ?_))
  rw [View.readAt_full _ _ _, (whole6 t).read_unread]

/-- What a point leaves of the second copy. -/
theorem list11_eq : View.canon (list11 m c t) = k0_pay52 (iblk m c 7 t) := by
  rw [list11, dif_pos ht]
  refine (congrArg View.canon (tile_two ..)).trans ((View.canon_cons_unit_lit _ _ _ (by decide)).trans (congrArg k0_pay52 ?_))
  rw [View.readAt_full _ _ _, (whole7 t).read_unread]

/-- What a point leaves of the third copy. -/
theorem list12_eq : View.canon (list12 m c t) = k0_pay53 (iblk m c 8 t) := by
  rw [list12, dif_pos ht]
  refine (congrArg View.canon (tile_three ..)).trans ((View.canon_cons_unit_lit _ _ _ (by decide)).trans (congrArg k0_pay53 ?_))
  rw [View.readAt_full _ _ _, (whole8 t).read_unread]

end

/-- The first weights' copy. -/
theorem copy1_eq : (dats m 0 c).arrAt 10 cfg0.N = fun i : S2048x2048.Idx => m ((c : Thread nD τ).loc main_arg6) (ix3 0 (i 0) (i 1)) := by
  refine (dats m 0 c).arrAt_eq_of_covers 10 _ (by decide +kernel) fun t hf y => ?_
  have ht : 16 ≤ t.val := computing t 10 (by decide) hf
  blk_simp
  rw [after10, list10_eq m c t ht, ← V_main_arg6 m c]
  obtain ⟨r, s, rfl⟩ : ∃ (r : Fin 128) (s : Fin 2048), y = ix2 r s := ⟨y 0, y 1, eq_ix2 (n0 := 128) (n1 := 2048) y⟩
  pointwise [k0_pay51]
  blk_simp [iblk]
  refine congrArg _ ?_
  blk_ext [index_6 t ht, index_10 t ht]

/-- The second weights' copy. -/
theorem copy2_eq : (dats m 0 c).arrAt 11 cfg0.N = fun i : S2048x2048.Idx => m ((c : Thread nD τ).loc main_arg7) (ix3 0 (i 0) (i 1)) := by
  refine (dats m 0 c).arrAt_eq_of_covers 11 _ (by decide +kernel) fun t hf y => ?_
  have ht : 16 ≤ t.val := computing t 11 (by decide) hf
  blk_simp
  rw [after11, list11_eq m c t ht, ← V_main_arg7 m c]
  obtain ⟨r, s, rfl⟩ : ∃ (r : Fin 128) (s : Fin 2048), y = ix2 r s := ⟨y 0, y 1, eq_ix2 (n0 := 128) (n1 := 2048) y⟩
  pointwise [k0_pay52]
  blk_simp [iblk]
  refine congrArg _ ?_
  blk_ext [index_7 t ht, index_11 t ht]

/-- The third weights' copy. -/
theorem copy3_eq : (dats m 0 c).arrAt 12 cfg0.N = V m c main_v1 := by
  refine (dats m 0 c).arrAt_eq_of_covers 12 _ (by decide +kernel) fun t hf y => ?_
  have ht : 16 ≤ t.val := computing t 12 (by decide) hf
  blk_simp
  rw [after12, list12_eq m c t ht]
  obtain ⟨r, s, rfl⟩ : ∃ (r : Fin 32) (s : Fin 2048), y = ix2 r s := ⟨y 0, y 1, eq_ix2 (n0 := 32) (n1 := 2048) y⟩
  pointwise [k0_pay53]
  blk_simp [iblk]
  refine congrArg _ ?_
  blk_ext [index_8 t ht, index_12 t ht]

/-- The third copied weights, flattened. -/
theorem v1_eq : V m c main_v1 = shapeCast S512x2048 (m ((c : Thread nD τ).loc main_arg8)) shapeCasts_S2x256x2048_S512x2048 := by
  entry_read
  rfl

end Cert.Kernel5Ideal.Sgu

end
-- ==== Proof.SguRef.lean ====
/- The spatial gating unit's reference at an index. -/
module

public import proofs.«01_k».proof.Proof.Gen.Reference5Ideal.Read
public import proofs.«01_k».proof.Proof.SguSpec
public import Idealize.ShloMosaic.Lib.Pipeline.ValueKit
public import Idealize.ShloMosaic.Lib.WordCmp

@[expose] public section

noncomputable section

namespace Cert.Reference5Ideal.Sgu

open Cert.Reference5Ideal Cert.Reference5Ideal.Read Idealize.ShloMosaic Cert.Moba Cert.Unit
open Cert.Tail (mean var norm eps bits_2048 bits_1 bat pos)

variable (X : S4x2048x2048.Idx → EReal) (W : S1x2048x6144.Idx → EReal) (G B : S1x2048.Idx → EReal)
  (Ws : S1x16x128x128.Idx → EReal) (Bs : S1x16x128.Idx → EReal)

/-- The reference's projection at an index. -/
theorem proj_apply (b : Fin 4) (s : Fin 2048) (C : Fin 6144) : val_main_v1 (F := Ideal) X W (ix3 b s C) = proj X W b s C := by
  pointwise [val_main_v1, val_main_v0]
  rfl

/-- A column of the first 4096, of all. -/
def wide (C : Fin 4096) : Fin 6144 := ⟨C.val, by omega⟩

/-- The two parts that pass the activation, at an index. -/
theorem slice_apply (b : Fin 4) (s : Fin 2048) (C : Fin 4096) : val_main_v2 (F := Ideal) X W (ix3 b s C) = proj X W b s (wide C) := by
  rw [← proj_apply]
  pointwise [val_main_v2]
  refine congrArg (val_main_v1 (F := Ideal) X W) (funext fun a => Fin.ext ?_)
  fin_cases a <;> simp [wide]

/-- The activation of the two parts at an index. -/
theorem gelu_apply (b : Fin 4) (s : Fin 2048) (C : Fin 4096) : val_main_v15 (F := Ideal) X W (ix3 b s C) = gelu (proj X W b s (wide C)) := by
  pointwise [val_main_v15, val_main_v14, val_main_v13, val_main_cst_2, val_main_v12, val_main_v11, val_main_cst_1, val_main_v10, val_main_v9, val_main_v8, val_main_cst_0, val_main_v7, val_main_v6, val_main_v5, val_main_cst, val_main_v4, val_main_v3]
  simp only [slice_apply]
  rw [gelu, bits_1, ← mul_assoc (proj X W b s (wide C)) (proj X W b s (wide C)) (proj X W b s (wide C))]

/-- The first part at an index. -/
theorem u_apply (b : Fin 4) (s C : Fin 2048) : val_main_v17 (F := Ideal) X W (ix3 b s C) = gelu (proj X W b s (first C)) := by
  refine Eq.trans ?_ (gelu_apply X W b s ⟨C.val, by omega⟩)
  pointwise [val_main_v17]

/-- The second part at an index. -/
theorem v_apply (b : Fin 4) (s C : Fin 2048) : val_main_v18 (F := Ideal) X W (ix3 b s C) = gelu (proj X W b s (second C)) := by
  refine Eq.trans ?_ (gelu_apply X W b s ⟨2048 + C.val, by omega⟩)
  pointwise [val_main_v18]

/-- The gate's part at an index. -/
theorem z_apply (b : Fin 4) (s C : Fin 2048) : val_main_v16 (F := Ideal) X W (ix3 b s C) = proj X W b s (third C) := by
  rw [← proj_apply]
  pointwise [val_main_v16]
  refine congrArg (val_main_v1 (F := Ideal) X W) (funext fun a => Fin.ext ?_)
  fin_cases a <;> simp [third]

/-- The gate at an index. -/
theorem silu_apply (b : Fin 4) (s C : Fin 2048) : val_main_v62 (F := Ideal) X W (ix3 b s C)
    = proj X W b s (third C) * Ideal.logistic (proj X W b s (third C)) := by
  pointwise [val_main_v62, val_main_call2_v5, val_main_call2_v4, val_main_call2_cst_0, val_main_call2_v3, val_main_call2_v2, val_main_call2_cst, val_main_call2_v1, val_main_call2_v0]
  rw [z_apply]
  rfl

/-- The mask: a place and those before it. -/
theorem mask_apply (i t : Fin 128) : val_main_v47 (F := Ideal) (ix2 i t) = BitVec.ofBool (decide (t ≤ i)) := by
  pointwise [val_main_v47, val_main_v46, val_main_c, val_main_call0_v5, val_main_call0_c_0, val_main_call0_v4, val_main_call0_v3, val_main_call0_v2, val_main_call0_v1, val_main_call0_c, val_main_call0_v0]
  exact (by decide +kernel : ∀ i t : Fin 128, Scalar.select (IntOp.cmpi .sge (IntOp.addi (BitVec.ofNat 32 i.val) 0#32) (BitVec.ofNat 32 t.val)) 1#1 0#1
    = BitVec.ofBool (decide (t ≤ i))) i t

/-- The causal weights at an index. -/
theorem causal_apply (k : Fin 16) (i t : Fin 128) : val_main_v52 (F := Ideal) Ws (ix3 k i t) = causalW Ws k i t := by
  pointwise [val_main_v52, val_main_call1_v0, val_main_v48, val_main_v49, val_main_v51, val_main_cst_8]
  rw [mask_apply, WordCmp.select_ofBool]
  simp only [decide_eq_true_eq]
  rfl

section
variable (T : Fin 4 → Fin 2048 → Fin 2048 → ℝ) (hT : ∀ b s C, gelu (proj X W b s (second C)) = (T b s C : EReal))
include hT

/-- The mean of a row of the second part. -/
theorem mean_apply (b : Fin 4) (s : Fin 2048) : val_main_v24 (F := Ideal) X W (ix3 b s 0) = (mean (T b s) : EReal) := by
  pointwise [val_main_v24, val_main_v23, val_main_v22, val_main_v21, val_main_cst_4, val_main_cst_3]
  simp only [v_apply, hT]
  rw [bits_2048, ← coe_sum, Ideal.div_coe (by norm_num), ← EReal.coe_mul, mul_one_div]
  rfl

/-- The variance of a row of the second part. -/
theorem var_apply (b : Fin 4) (s : Fin 2048) : val_main_v31 (F := Ideal) X W (ix3 b s 0) = (var (T b s) : EReal) := by
  pointwise [val_main_v31, val_main_v30, val_main_v29, val_main_v28, val_main_v27, val_main_v26, val_main_v25, val_main_cst_6, val_main_cst_5]
  simp only [v_apply, hT, mean_apply X W T hT, ← EReal.coe_sub, ← EReal.coe_mul]
  rw [bits_2048, ← coe_sum, Ideal.div_coe (by norm_num), ← EReal.coe_mul, mul_one_div]
  rfl

/-- The normalised second part at an index. -/
theorem norm_apply (b : Fin 4) (s C : Fin 2048) : val_main_v44 (F := Ideal) X W G B (ix3 b s C)
    = norm (T b s) (fun C => G (ix2 0 C)) (fun C => B (ix2 0 C)) C := by
  pointwise [val_main_v44, val_main_v43, val_main_v42, val_main_v41, val_main_v40, val_main_v39, val_main_v38, val_main_v37, val_main_v36, val_main_v35, val_main_v34, val_main_v33, val_main_v32, val_main_v20, val_main_v19, val_main_cst_7]
  rw [v_apply, hT, mean_apply X W T hT, var_apply X W T hT]
  rfl

/-- The mixed chunk with its bias. -/
theorem spatial_apply (b : Fin 4) (s C : Fin 2048) : val_main_v60 (F := Ideal) X W G B Ws Bs (ix3 b s C)
    = ∑ t, causalW Ws (grp C) (at128 s) t * norm (T b (chunk s t)) (fun C => G (ix2 0 C)) (fun C => B (ix2 0 C)) C
      + Bs (ix3 0 (grp C) (at128 s)) := by
  have e : idx_main_v60 (ix3 b s C) = ix5 b ⟨s.val / 128, by omega⟩ (at128 s) (grp C) (at128 C) := funext fun a => Fin.ext (by
    fin_cases a
    · show ((b.val * 2048 + s.val) * 2048 + C.val) / 4194304 = b.val; omega
    · show ((b.val * 2048 + s.val) * 2048 + C.val) / 262144 % 16 = s.val / 128; omega
    · show ((b.val * 2048 + s.val) * 2048 + C.val) / 2048 % 128 = s.val % 128; omega
    · show ((b.val * 2048 + s.val) * 2048 + C.val) / 128 % 16 = C.val / 128; omega
    · show ((b.val * 2048 + s.val) * 2048 + C.val) % 128 = C.val % 128; omega)
  rw [val_main_v60_apply, e, val_main_v59_apply]
  refine congrArg₂ (· + ·) ?_ ?_
  · rw [val_main_v54_apply, val_main_v53_apply]
    refine Finset.sum_congr rfl fun t _ => ?_
    rw [val_main_v45_apply, mul_comm, ← norm_apply X W G B T hT, ← causal_apply]
    refine congrArg₂ (· * ·) (congrArg (val_main_v52 (F := Ideal) Ws) (funext fun a => ?_))
      (congrArg (val_main_v44 (F := Ideal) X W G B) (funext fun a => Fin.ext ?_))
    · fin_cases a <;> rfl
    · fin_cases a
      · show ((((b.val * 16 + s.val / 128) * 128 + t.val) * 16 + C.val / 128) * 128 + C.val % 128) / 4194304 = b.val; omega
      · show ((((b.val * 16 + s.val / 128) * 128 + t.val) * 16 + C.val / 128) * 128 + C.val % 128) / 2048 % 2048 = 128 * (s.val / 128) + t.val; omega
      · show ((((b.val * 16 + s.val / 128) * 128 + t.val) * 16 + C.val / 128) * 128 + C.val % 128) % 2048 = C.val; omega
  · pointwise [val_main_v58, val_main_v57, val_main_v56, val_main_v55]

/-- The reference's first result. -/
theorem reference_apply (R : Fin 8192) (C : Fin 2048) : val_main_v65 (F := Ideal) X W G B Ws Bs (ix2 R C)
    = sgu X W G B Ws Bs T (bat R) (pos R) C := by
  pointwise [val_main_v65, val_main_v64, val_main_v63, val_main_v61]
  have h : val_main_v17 (F := Ideal) X W (ix3 (bat R) (pos R) C) * val_main_v60 (F := Ideal) X W G B Ws Bs (ix3 (bat R) (pos R) C)
      * val_main_v62 (F := Ideal) X W (ix3 (bat R) (pos R) C) = sgu X W G B Ws Bs T (bat R) (pos R) C := by
    rw [u_apply, spatial_apply X W G B Ws Bs T hT, silu_apply, mul_right_comm]
    rfl
  exact h

end

/-- The copies of the weights that the reference hands on. -/
theorem first_copy (M : S2x2048x2048.Idx → EReal) (i j : Fin 2048) : val_main_v68 (F := Ideal) M (ix2 i j) = M (ix3 0 i j) := by
  pointwise [val_main_v68, val_main_v67, val_main_v66]

/-- The second copy at an index. -/
theorem second_copy (M : S2x2048x2048.Idx → EReal) (i j : Fin 2048) : val_main_v71 (F := Ideal) M (ix2 i j) = M (ix3 0 i j) := by
  pointwise [val_main_v71, val_main_v70, val_main_v69]

end Cert.Reference5Ideal.Sgu

end
-- ==== Proof.SguMain.lean ====
/- The claims of the spatial gating unit: its frames, and its four results beside the reference's, on finite operands. -/
module

public import proofs.«01_k».proof.Defs
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.SgbLaunch
public import proofs.«01_k».proof.Proof.SguLaunch
public import proofs.«01_k».proof.Proof.SguArr
public import proofs.«01_k».proof.Proof.SguRef
public import proofs.«01_k».proof.Proof.Gen.Reference5Ideal.Run
public import proofs.«01_k».proof.Proof.Gen.Reference5Ideal.Read
public import proofs.«01_k».proof.Proof.Real
public import proofs.«01_k».proof.Proof.InMain
public import Idealize.ShloMosaic.Adequacy
public import Idealize.ShloMosaic.Init
public import Idealize.ShloMosaic.Lib.Quiescent

@[expose] public section

noncomputable section

namespace Cert.SguProof

open Idealize.ShloMosaic Idealize.SL.Sem Cert.Proof Cert.InProof Cert.Unit

/-- The precondition's side conditions: a scalar broadcasts to the arguments' shapes. -/
instance preFacts : Cert.Pre_finite_sgu.Facts := ⟨by decide, by decide⟩

/-- The reference runs, keeps its arguments, and has no semaphore. -/
theorem frame_ref : Cert.quiescent_Reference5Ideal := fun m ρ _ =>
  (θ_run Cert.Reference5Ideal.defs _ _).mono (fun r h => ⟨fun c => (h c).2.2.2.2,
      Idealize.ShloMosaic.sem_eq_zero_of_no_sems (by decide) r.2⟩)
    (Cert.Reference5Ideal.Value.run (F := Ideal) m ρ)

/-- Under the precondition the normalised half is of real numbers. -/
theorem finite_real (m : (ℓ : Loc Cert.Kernel5Ideal.nD Cert.Kernel5Ideal.τ Cert.Kernel5Ideal.sig) → Buf (Elt Ideal) ℓ)
    (h : Cert.Pre_Kernel5Ideal_finite_sgu m) (c : Dev Cert.Kernel5Ideal.nD) :
    ∃ T : Fin 4 → Fin 2048 → Fin 2048 → ℝ, ∀ b s C, gelu (Unit.proj (m ((c.tc : Thread Cert.Kernel5Ideal.nD Cert.Kernel5Ideal.τ).loc Cert.Kernel5Ideal.main_arg0))
      (m ((c.tc : Thread Cert.Kernel5Ideal.nD Cert.Kernel5Ideal.τ).loc Cert.Kernel5Ideal.main_arg1)) b s (second C)) = (T b s C : EReal) :=
  half_real _ _ (fun j => real_of_lt _ (congrFun (h c).1 j)) fun j => real_of_lt _ (congrFun (h c).2 j)

section
open Cert.Kernel5Ideal Cert.Kernel5Ideal.Gen Idealize.ShloMosaic.TcCoe

/-- The kernel's run, at its four results and its arguments. -/
theorem run_blocks (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v2_0) = (Sgu.dats m 0 c).arrAt 9 cfg0.N
      ∧ r.2.mem ((c.tc : Thread nD τ).loc main_v2_1) = (Sgu.dats m 0 c).arrAt 10 cfg0.N
      ∧ r.2.mem ((c.tc : Thread nD τ).loc main_v2_2) = (Sgu.dats m 0 c).arrAt 11 cfg0.N
      ∧ r.2.mem ((c.tc : Thread nD τ).loc main_v2_3) = (Sgu.dats m 0 c).arrAt 12 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h.1.1 c).1 9, (h.1.1 c).1 10, (h.1.1 c).1 11, (h.1.1 c).1 12, h.2.1 c⟩)
    (θ_run_and (Sgu.launched m ρ) (Sgu.quiescent m ρ))

end

/-- The third weights' copy that the reference hands on. -/
theorem third_copy (M : Cert.Reference5Ideal.S2x256x2048.Idx → EReal) : Cert.Reference5Ideal.Read.val_main_v73 (F := Ideal) M
    = shapeCast Cert.Kernel5Ideal.S512x2048 M Cert.Kernel5Ideal.Gen.shapeCasts_S2x256x2048_S512x2048 := rfl

/-- On finite operands the kernel's four results are the reference's. -/
theorem algebraic : Cert.algebraic_Kernel5Ideal_Reference5Ideal_pre_finite_sgu := by
  intro m g m' g' hp hm
  refine ⟨fun c => (Cert.Kernel5Ideal.Sgu.dats m 0 c).arrAt 9 Cert.Kernel5Ideal.cfg0.N,
    fun c => (Cert.Kernel5Ideal.Sgu.dats m 0 c).arrAt 10 Cert.Kernel5Ideal.cfg0.N,
    fun c => (Cert.Kernel5Ideal.Sgu.dats m 0 c).arrAt 11 Cert.Kernel5Ideal.cfg0.N,
    fun c => (Cert.Kernel5Ideal.Sgu.dats m 0 c).arrAt 12 Cert.Kernel5Ideal.cfg0.N, run_blocks m g, ?_⟩
  refine (θ_run Cert.Reference5Ideal.defs _ _).mono (fun r h c => ?_) (Cert.Reference5Ideal.Value.run (F := Ideal) m' g')
  obtain ⟨T, hT⟩ := finite_real m hp c
  obtain ⟨e0, e1, e2, e3, e4, e5, e6, e7, e8⟩ := hm c
  refine ⟨(h c).1.trans ?_, (h c).2.1.trans ?_, (h c).2.2.1.trans ?_, (h c).2.2.2.1.trans ?_, (h c).2.2.2.2⟩
  · rw [Cert.Reference5Ideal.Read.val_main_v65_eq, e0, e1, e2, e3, e4, e5]
    exact (ext2 _ _ fun R C => Cert.Reference5Ideal.Sgu.reference_apply _ _ _ _ _ _ T hT R C).trans (Cert.Kernel5Ideal.Sgu.result_eq m c T hT).symm
  · rw [Cert.Reference5Ideal.Read.val_main_v68_eq, e6]
    exact (ext2 _ _ fun i j => Cert.Reference5Ideal.Sgu.first_copy _ i j).trans (Cert.Kernel5Ideal.Sgu.copy1_eq m c).symm
  · rw [Cert.Reference5Ideal.Read.val_main_v71_eq, e7]
    exact (ext2 _ _ fun i j => Cert.Reference5Ideal.Sgu.second_copy _ i j).trans (Cert.Kernel5Ideal.Sgu.copy2_eq m c).symm
  · rw [Cert.Reference5Ideal.Read.val_main_v73_eq, e8, third_copy]
    exact ((Cert.Kernel5Ideal.Sgu.copy3_eq m c).trans (Cert.Kernel5Ideal.Sgu.v1_eq m c)).symm

end Cert.SguProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.KernelVal
public import proofs.«01_k».proof.Proof.RefSoft
public import proofs.«01_k».proof.Proof.InMain
public import proofs.«01_k».proof.Proof.TailMain
public import proofs.«01_k».proof.Proof.SguMain
public import Idealize.ShloMosaic.Adequacy
public import Idealize.ShloMosaic.Init
public import Idealize.ShloMosaic.Lib.Quiescent

@[expose] public section

noncomputable section

namespace Cert.Proof

open Idealize.ShloMosaic Idealize.SL.Sem

/-- The precondition's only side condition: a scalar broadcasts to the argument's shape. -/
instance preFacts : Cert.Pre_finite.Facts := ⟨by decide⟩

/-- The reference runs, keeps its arguments, and has no semaphore. -/
theorem frame_ref : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- Under the precondition the queries and the keys are real numbers. -/
theorem finite_real (m : (ℓ : Loc Cert.KernelIdeal.nD Cert.KernelIdeal.τ Cert.KernelIdeal.sig) → Buf (Elt Ideal) ℓ)
    (h : Cert.Pre_KernelIdeal_finite m) (c : Dev Cert.KernelIdeal.nD) :
    ∃ q k : Fin 8192 → Fin 2048 → ℝ,
      (∀ R C, m ((c.tc : Thread Cert.KernelIdeal.nD Cert.KernelIdeal.τ).loc Cert.KernelIdeal.main_arg0) (ix2 R C) = (q R C : EReal))
      ∧ ∀ R C, m ((c.tc : Thread Cert.KernelIdeal.nD Cert.KernelIdeal.τ).loc Cert.KernelIdeal.main_arg1) (ix2 R C) = (k R C : EReal) :=
  ⟨_, _, fun R C => real_of_lt _ (congrFun (h c).1 (ix2 R C)), fun R C => real_of_lt _ (congrFun (h c).2 (ix2 R C))⟩

/-- On finite queries and keys the kernel's result is the reference's: both are the layer's attention. -/
theorem algebraic : Cert.algebraic_KernelIdeal_ReferenceIdeal_pre_finite := by
  intro m g m' g' hp hm
  refine ⟨fun c => (Cert.KernelIdeal.Gen.dats m 0 c).arrAt 4 Cert.KernelIdeal.cfg0.N, Cert.KernelIdeal.Value.run_blocks m g, ?_⟩
  refine (θ_run Cert.ReferenceIdeal.defs _ _).mono (fun r h c => ⟨(h c).1.trans ?_, (h c).2⟩) (Cert.ReferenceIdeal.Value.run (F := Ideal) m' g')
  obtain ⟨q, k, hq, hk⟩ := finite_real m hp c
  obtain ⟨e0, e1, e2, e3⟩ := hm c
  rw [Cert.ReferenceIdeal.Read.val_main_v82_eq, e0, e1, e2, e3]
  refine Eq.trans ?_ (Cert.KernelIdeal.Attn.kernel_eq m c q k hq hk).symm
  funext i
  rw [eq_ix2 (n0 := 8192) (n1 := 2048) i]
  exact Cert.ReferenceIdeal.Attn.reference_apply _ _ _ _ q k hq hk (i 0) (i 1)

/-- Everything claimed. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, preFacts, Cert.TailProof.preFacts, Cert.SguProof.preFacts,
    fun m ρ _ => Cert.Kernel.Gen.frame m ρ, fun m ρ _ => Cert.KernelIdeal.Gen.frame m ρ,
    fun m ρ _ => Cert.KernelIdeal.Gen.frame m ρ, frame_ref, fun m ρ _ => frame_ref m ρ trivial,
    fun m ρ _ => Cert.Kernel2.Gen.frame m ρ, fun m ρ _ => Cert.Kernel2Ideal.Gen.frame m ρ, Cert.InProof.frame_ref,
    fun m ρ _ => Cert.Kernel3.Gen.frame m ρ, fun m ρ _ => Cert.Kernel3Ideal.Gen.frame m ρ,
    fun m ρ _ => Cert.Kernel3Ideal.Gen.frame m ρ, Cert.TailProof.frame_ref3, fun m ρ _ => Cert.TailProof.frame_ref3 m ρ trivial,
    fun m ρ _ => Cert.Kernel4.Gen.frame m ρ, fun m ρ _ => Cert.Kernel4Ideal.Gen.frame m ρ,
    fun m ρ _ => Cert.Kernel4Ideal.Gen.frame m ρ, Cert.TailProof.frame_ref4, fun m ρ _ => Cert.TailProof.frame_ref4 m ρ trivial,
    fun m ρ _ => Cert.Kernel5.Sgu.quiescent m ρ, fun m ρ _ => Cert.Kernel5Ideal.Sgu.quiescent m ρ,
    fun m ρ _ => Cert.Kernel5Ideal.Sgu.quiescent m ρ, Cert.SguProof.frame_ref, fun m ρ _ => Cert.SguProof.frame_ref m ρ trivial,
    trivial, algebraic, Cert.InProof.preserves, Cert.InProof.algebraic, trivial, Cert.TailProof.algebraic3,
    trivial, Cert.TailProof.algebraic4, trivial, Cert.SguProof.algebraic⟩

end Cert.Proof

end
